-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S26x100000x16 : Shape := ⟨3, ![26, 100000, 16]⟩
abbrev S741x512 : Shape := ⟨2, ![741, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S26x100000x16 .f32) (main_arg2 : FVec F S741x512 .f32) (main_arg3 : FVec F S512 .f32) (main_arg4 : FVec F S512x256 .f32) (main_arg5 : FVec F S256 .f32) (main_arg6 : FVec F S256x1 .f32) (main_arg7 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S26x100000x16 : Shape := ⟨3, ![26, 100000, 16]⟩
abbrev S741x512 : Shape := ⟨2, ![741, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S325 : Shape := ⟨1, ![325]⟩
abbrev S26 : Shape := ⟨1, ![26]⟩
abbrev S_ : Shape := ⟨0, ![]⟩
abbrev S1x26 : Shape := ⟨2, ![1, 26]⟩
abbrev S16384x1 : Shape := ⟨2, ![16384, 1]⟩
abbrev S16384x6 : Shape := ⟨2, ![16384, 6]⟩
abbrev S16384x32 : Shape := ⟨2, ![16384, 32]⟩
abbrev S1x524288 : Shape := ⟨2, ![1, 524288]⟩
abbrev S26x16x100000 : Shape := ⟨3, ![26, 16, 100000]⟩
abbrev S26x12544x128 : Shape := ⟨3, ![26, 12544, 128]⟩
abbrev S1x16x100000 : Shape := ⟨3, ![1, 16, 100000]⟩
abbrev S1x12544x128 : Shape := ⟨3, ![1, 12544, 128]⟩
abbrev S1x16x12544 : Shape := ⟨3, ![1, 16, 12544]⟩
abbrev S16x12544 : Shape := ⟨2, ![16, 12544]⟩
abbrev S1x16x12192 : Shape := ⟨3, ![1, 16, 12192]⟩
abbrev S16x12192 : Shape := ⟨2, ![16, 12192]⟩
abbrev S16x352 : Shape := ⟨2, ![16, 352]⟩
abbrev S128x12544 : Shape := ⟨2, ![128, 12544]⟩
abbrev S12544x128 : Shape := ⟨2, ![12544, 128]⟩
abbrev S2609152x16 : Shape := ⟨2, ![2609152, 16]⟩
abbrev S416x512 : Shape := ⟨2, ![416, 512]⟩
abbrev S325x512 : Shape := ⟨2, ![325, 512]⟩
abbrev S325x1 : Shape := ⟨2, ![325, 1]⟩
abbrev S1x512 : Shape := ⟨2, ![1, 512]⟩
abbrev S1x256 : Shape := ⟨2, ![1, 256]⟩
abbrev S1x1 : Shape := ⟨2, ![1, 1]⟩
abbrev S1x131072 : Shape := ⟨2, ![1, 131072]⟩
abbrev S131072x16 : Shape := ⟨2, ![131072, 16]⟩
abbrev S2x1x128 : Shape := ⟨3, ![2, 1, 128]⟩
abbrev S2 : Shape := ⟨1, ![2]⟩
abbrev S2x128x16 : Shape := ⟨3, ![2, 128, 16]⟩
abbrev S1x1x128 : Shape := ⟨3, ![1, 1, 128]⟩
abbrev S1x128 : Shape := ⟨2, ![1, 128]⟩
abbrev S1x128x16 : Shape := ⟨3, ![1, 128, 16]⟩
abbrev S128x16 : Shape := ⟨2, ![128, 16]⟩
abbrev S128 : Shape := ⟨1, ![128]⟩
abbrev S4096x512 : Shape := ⟨2, ![4096, 512]⟩
abbrev S4096x1 : Shape := ⟨2, ![4096, 1]⟩
abbrev S1024x512 : Shape := ⟨2, ![1024, 512]⟩
abbrev S1024x1 : Shape := ⟨2, ![1024, 1]⟩
abbrev S1024x416 : Shape := ⟨2, ![1024, 416]⟩
abbrev S1024x400 : Shape := ⟨2, ![1024, 400]⟩
abbrev S400x25 : Shape := ⟨2, ![400, 25]⟩
abbrev S1024x25 : Shape := ⟨2, ![1024, 25]⟩
abbrev S1024x384 : Shape := ⟨2, ![1024, 384]⟩
abbrev S384x24 : Shape := ⟨2, ![384, 24]⟩
abbrev S1024x24 : Shape := ⟨2, ![1024, 24]⟩
abbrev S1024x368 : Shape := ⟨2, ![1024, 368]⟩
abbrev S368x23 : Shape := ⟨2, ![368, 23]⟩
abbrev S1024x23 : Shape := ⟨2, ![1024, 23]⟩
abbrev S1024x352 : Shape := ⟨2, ![1024, 352]⟩
abbrev S352x22 : Shape := ⟨2, ![352, 22]⟩
abbrev S1024x22 : Shape := ⟨2, ![1024, 22]⟩
abbrev S1024x336 : Shape := ⟨2, ![1024, 336]⟩
abbrev S336x21 : Shape := ⟨2, ![336, 21]⟩
abbrev S1024x21 : Shape := ⟨2, ![1024, 21]⟩
abbrev S1024x320 : Shape := ⟨2, ![1024, 320]⟩
abbrev S320x20 : Shape := ⟨2, ![320, 20]⟩
abbrev S1024x20 : Shape := ⟨2, ![1024, 20]⟩
abbrev S1024x304 : Shape := ⟨2, ![1024, 304]⟩
abbrev S304x19 : Shape := ⟨2, ![304, 19]⟩
abbrev S1024x19 : Shape := ⟨2, ![1024, 19]⟩
abbrev S1024x288 : Shape := ⟨2, ![1024, 288]⟩
abbrev S288x18 : Shape := ⟨2, ![288, 18]⟩
abbrev S1024x18 : Shape := ⟨2, ![1024, 18]⟩
abbrev S1024x272 : Shape := ⟨2, ![1024, 272]⟩
abbrev S272x17 : Shape := ⟨2, ![272, 17]⟩
abbrev S1024x17 : Shape := ⟨2, ![1024, 17]⟩
abbrev S1024x256 : Shape := ⟨2, ![1024, 256]⟩
abbrev S256x16 : Shape := ⟨2, ![256, 16]⟩
abbrev S1024x16 : Shape := ⟨2, ![1024, 16]⟩
abbrev S1024x240 : Shape := ⟨2, ![1024, 240]⟩
abbrev S240x15 : Shape := ⟨2, ![240, 15]⟩
abbrev S1024x15 : Shape := ⟨2, ![1024, 15]⟩
abbrev S1024x224 : Shape := ⟨2, ![1024, 224]⟩
abbrev S224x14 : Shape := ⟨2, ![224, 14]⟩
abbrev S1024x14 : Shape := ⟨2, ![1024, 14]⟩
abbrev S1024x208 : Shape := ⟨2, ![1024, 208]⟩
abbrev S208x13 : Shape := ⟨2, ![208, 13]⟩
abbrev S1024x13 : Shape := ⟨2, ![1024, 13]⟩
abbrev S1024x192 : Shape := ⟨2, ![1024, 192]⟩
abbrev S192x12 : Shape := ⟨2, ![192, 12]⟩
abbrev S1024x12 : Shape := ⟨2, ![1024, 12]⟩
abbrev S1024x176 : Shape := ⟨2, ![1024, 176]⟩
abbrev S176x11 : Shape := ⟨2, ![176, 11]⟩
abbrev S1024x11 : Shape := ⟨2, ![1024, 11]⟩
abbrev S1024x160 : Shape := ⟨2, ![1024, 160]⟩
abbrev S160x10 : Shape := ⟨2, ![160, 10]⟩
abbrev S1024x10 : Shape := ⟨2, ![1024, 10]⟩
abbrev S1024x144 : Shape := ⟨2, ![1024, 144]⟩
abbrev S144x9 : Shape := ⟨2, ![144, 9]⟩
abbrev S1024x9 : Shape := ⟨2, ![1024, 9]⟩
abbrev S1024x128 : Shape := ⟨2, ![1024, 128]⟩
abbrev S128x8 : Shape := ⟨2, ![128, 8]⟩
abbrev S1024x8 : Shape := ⟨2, ![1024, 8]⟩
abbrev S1024x112 : Shape := ⟨2, ![1024, 112]⟩
abbrev S112x7 : Shape := ⟨2, ![112, 7]⟩
abbrev S1024x7 : Shape := ⟨2, ![1024, 7]⟩
abbrev S1024x96 : Shape := ⟨2, ![1024, 96]⟩
abbrev S96x6 : Shape := ⟨2, ![96, 6]⟩
abbrev S1024x6 : Shape := ⟨2, ![1024, 6]⟩
abbrev S1024x80 : Shape := ⟨2, ![1024, 80]⟩
abbrev S80x5 : Shape := ⟨2, ![80, 5]⟩
abbrev S1024x5 : Shape := ⟨2, ![1024, 5]⟩
abbrev S1024x64 : Shape := ⟨2, ![1024, 64]⟩
abbrev S64x4 : Shape := ⟨2, ![64, 4]⟩
abbrev S1024x4 : Shape := ⟨2, ![1024, 4]⟩
abbrev S1024x48 : Shape := ⟨2, ![1024, 48]⟩
abbrev S48x3 : Shape := ⟨2, ![48, 3]⟩
abbrev S1024x3 : Shape := ⟨2, ![1024, 3]⟩
abbrev S1024x32 : Shape := ⟨2, ![1024, 32]⟩
abbrev S32x2 : Shape := ⟨2, ![32, 2]⟩
abbrev S1024x2 : Shape := ⟨2, ![1024, 2]⟩
abbrev S16x1 : Shape := ⟨2, ![16, 1]⟩
abbrev S1024x325 : Shape := ⟨2, ![1024, 325]⟩
abbrev S16384 : Shape := ⟨1, ![16384]⟩

abbrev nBuf : Table → Nat
  | .hbm => 99
  | .local .tc .vmem => 48
  | .local .scVector .vmem => 8
  | _ => 0

abbrev bufTy : (tb : Table) → Fin (nBuf tb) → BufTy
  | .hbm, ⟨0, _⟩ => ⟨S16384x26, .i32⟩
  | .hbm, ⟨1, _⟩ => ⟨S26x100000x16, .f32⟩
  | .hbm, ⟨2, _⟩ => ⟨S741x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S325, .i32⟩
  | .hbm, ⟨9, _⟩ => ⟨S26, .i32⟩
  | .hbm, ⟨10, _⟩ => ⟨S_, .i32⟩
  | .hbm, ⟨11, _⟩ => ⟨S26, .i32⟩
  | .hbm, ⟨12, _⟩ => ⟨S26, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S16384x26, .i32⟩
  | .hbm, ⟨20, _⟩ => ⟨S16384x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i1⟩
  | .hbm, ⟨27, _⟩ => ⟨S_, .i32⟩
  | .hbm, ⟨28, _⟩ => ⟨S_, .i1⟩
  | .hbm, ⟨29, _⟩ => ⟨S16384x26, .i1⟩
  | .hbm, ⟨30, _⟩ => ⟨S16384x26, .i1⟩
  | .hbm, ⟨31, _⟩ => ⟨S16384x26, .i1⟩
  | .hbm, ⟨32, _⟩ => ⟨S16384x26, .i32⟩
  | .hbm, ⟨33, _⟩ => ⟨S16384x26, .i32⟩
  | .hbm, ⟨34, _⟩ => ⟨S16384x26, .i32⟩
  | .hbm, ⟨35, _⟩ => ⟨S1x26, .i32⟩
  | .hbm, ⟨36, _⟩ => ⟨S16384x26, .i32⟩
  | .hbm, ⟨37, _⟩ => ⟨S16384x26, .i32⟩
  | .hbm, ⟨38, _⟩ => ⟨S_, .i32⟩
  | .hbm, ⟨39, _⟩ => ⟨S16384x26, .i32⟩
  | .hbm, ⟨40, _⟩ => ⟨S16384x26, .i32⟩
  | .hbm, ⟨41, _⟩ => ⟨S_, .i32⟩
  | .hbm, ⟨42, _⟩ => ⟨S_, .i32⟩
  | .hbm, ⟨43, _⟩ => ⟨S16384x26, .i32⟩
  | .hbm, ⟨44, _⟩ => ⟨S16384x26, .i32⟩
  | .hbm, ⟨45, _⟩ => ⟨S16384x26, .i32⟩
  | .hbm, ⟨46, _⟩ => ⟨S_, .i32⟩
  | .hbm, ⟨47, _⟩ => ⟨S16384x26, .i32⟩
  | .hbm, ⟨48, _⟩ => ⟨S16384x26, .i1⟩
  | .hbm, ⟨49, _⟩ => ⟨S16384x26, .i32⟩
  | .hbm, ⟨50, _⟩ => ⟨S16384x26, .i32⟩
  | .hbm, ⟨51, _⟩ => ⟨S_, .i32⟩
  | .hbm, ⟨52, _⟩ => ⟨S16384x26, .i32⟩
  | .hbm, ⟨53, _⟩ => ⟨S16384x26, .i1⟩
  | .hbm, ⟨54, _⟩ => ⟨S16384x26, .i1⟩
  | .hbm, ⟨55, _⟩ => ⟨S_, .i32⟩
  | .hbm, ⟨56, _⟩ => ⟨S16384x26, .i32⟩
  | .hbm, ⟨57, _⟩ => ⟨S16384x26, .i32⟩
  | .hbm, ⟨58, _⟩ => ⟨S16384x26, .i32⟩
  | .hbm, ⟨59, _⟩ => ⟨S16384x26, .i32⟩
  | .hbm, ⟨60, _⟩ => ⟨S16384x1, .i32⟩
  | .hbm, ⟨61, _⟩ => ⟨S16384x6, .i32⟩
  | .hbm, ⟨62, _⟩ => ⟨S16384x32, .i32⟩
  | .hbm, ⟨63, _⟩ => ⟨S1x524288, .i32⟩
  | .hbm, ⟨64, _⟩ => ⟨S26x16x100000, .f32⟩
  | .hbm, ⟨65, _⟩ => ⟨S26x12544x128, .f32⟩
  | .hbm, ⟨66, _⟩ => ⟨S2609152x16, .f32⟩
  | .hbm, ⟨67, _⟩ => ⟨S416x512, .f32⟩
  | .hbm, ⟨68, _⟩ => ⟨S325x512, .f32⟩
  | .hbm, ⟨69, _⟩ => ⟨S_, .i32⟩
  | .hbm, ⟨70, _⟩ => ⟨S325, .i32⟩
  | .hbm, ⟨71, _⟩ => ⟨S325, .i1⟩
  | .hbm, ⟨72, _⟩ => ⟨S_, .i32⟩
  | .hbm, ⟨73, _⟩ => ⟨S325, .i32⟩
  | .hbm, ⟨74, _⟩ => ⟨S325, .i32⟩
  | .hbm, ⟨75, _⟩ => ⟨S325, .i32⟩
  | .hbm, ⟨76, _⟩ => ⟨S325x1, .i32⟩
  | .hbm, ⟨77, _⟩ => ⟨S325x512, .f32⟩
  | .hbm, ⟨78, _⟩ => ⟨S1x512, .f32⟩
  | .hbm, ⟨79, _⟩ => ⟨S1x256, .f32⟩
  | .hbm, ⟨80, _⟩ => ⟨S1x1, .f32⟩
  | .hbm, ⟨81, _⟩ => ⟨S1x131072, .i32⟩
  | .hbm, ⟨82, _⟩ => ⟨S131072x16, .f32⟩
  | .hbm, ⟨83, _⟩ => ⟨S4096x512, .f32⟩
  | .hbm, ⟨84, _⟩ => ⟨S4096x1, .f32⟩
  | .hbm, ⟨85, _⟩ => ⟨S1x131072, .i32⟩
  | .hbm, ⟨86, _⟩ => ⟨S131072x16, .f32⟩
  | .hbm, ⟨87, _⟩ => ⟨S4096x512, .f32⟩
  | .hbm, ⟨88, _⟩ => ⟨S4096x1, .f32⟩
  | .hbm, ⟨89, _⟩ => ⟨S1x131072, .i32⟩
  | .hbm, ⟨90, _⟩ => ⟨S131072x16, .f32⟩
  | .hbm, ⟨91, _⟩ => ⟨S4096x512, .f32⟩
  | .hbm, ⟨92, _⟩ => ⟨S4096x1, .f32⟩
  | .hbm, ⟨93, _⟩ => ⟨S1x131072, .i32⟩
  | .hbm, ⟨94, _⟩ => ⟨S131072x16, .f32⟩
  | .hbm, ⟨95, _⟩ => ⟨S4096x512, .f32⟩
  | .hbm, ⟨96, _⟩ => ⟨S4096x1, .f32⟩
  | .hbm, ⟨97, _⟩ => ⟨S16384x1, .f32⟩
  | .hbm, ⟨98, _⟩ => ⟨S16384, .f32⟩
  | .local .tc .vmem, ⟨0, _⟩ => ⟨S1x16x100000, .f32⟩
  | .local .tc .vmem, ⟨1, _⟩ => ⟨S1x16x100000, .f32⟩
  | .local .tc .vmem, ⟨2, _⟩ => ⟨S1x12544x128, .f32⟩
  | .local .tc .vmem, ⟨3, _⟩ => ⟨S1x12544x128, .f32⟩
  | .local .tc .vmem, ⟨4, _⟩ => ⟨S1024x512, .f32⟩
  | .local .tc .vmem, ⟨5, _⟩ => ⟨S1024x512, .f32⟩
  | .local .tc .vmem, ⟨6, _⟩ => ⟨S416x512, .f32⟩
  | .local .tc .vmem, ⟨7, _⟩ => ⟨S325x512, .f32⟩
  | .local .tc .vmem, ⟨8, _⟩ => ⟨S512x256, .f32⟩
  | .local .tc .vmem, ⟨9, _⟩ => ⟨S256x1, .f32⟩
  | .local .tc .vmem, ⟨10, _⟩ => ⟨S1x512, .f32⟩
  | .local .tc .vmem, ⟨11, _⟩ => ⟨S1x256, .f32⟩
  | .local .tc .vmem, ⟨12, _⟩ => ⟨S1x1, .f32⟩
  | .local .tc .vmem, ⟨13, _⟩ => ⟨S1024x1, .f32⟩
  | .local .tc .vmem, ⟨14, _⟩ => ⟨S1024x1, .f32⟩
  | .local .tc .vmem, ⟨15, _⟩ => ⟨S1024x512, .f32⟩
  | .local .tc .vmem, ⟨16, _⟩ => ⟨S1024x512, .f32⟩
  | .local .tc .vmem, ⟨17, _⟩ => ⟨S416x512, .f32⟩
  | .local .tc .vmem, ⟨18, _⟩ => ⟨S325x512, .f32⟩
  | .local .tc .vmem, ⟨19, _⟩ => ⟨S512x256, .f32⟩
  | .local .tc .vmem, ⟨20, _⟩ => ⟨S256x1, .f32⟩
  | .local .tc .vmem, ⟨21, _⟩ => ⟨S1x512, .f32⟩
  | .local .tc .vmem, ⟨22, _⟩ => ⟨S1x256, .f32⟩
  | .local .tc .vmem, ⟨23, _⟩ => ⟨S1x1, .f32⟩
  | .local .tc .vmem, ⟨24, _⟩ => ⟨S1024x1, .f32⟩
  | .local .tc .vmem, ⟨25, _⟩ => ⟨S1024x1, .f32⟩
  | .local .tc .vmem, ⟨26, _⟩ => ⟨S1024x512, .f32⟩
  | .local .tc .vmem, ⟨27, _⟩ => ⟨S1024x512, .f32⟩
  | .local .tc .vmem, ⟨28, _⟩ => ⟨S416x512, .f32⟩
  | .local .tc .vmem, ⟨29, _⟩ => ⟨S325x512, .f32⟩
  | .local .tc .vmem, ⟨30, _⟩ => ⟨S512x256, .f32⟩
  | .local .tc .vmem, ⟨31, _⟩ => ⟨S256x1, .f32⟩
  | .local .tc .vmem, ⟨32, _⟩ => ⟨S1x512, .f32⟩
  | .local .tc .vmem, ⟨33, _⟩ => ⟨S1x256, .f32⟩
  | .local .tc .vmem, ⟨34, _⟩ => ⟨S1x1, .f32⟩
  | .local .tc .vmem, ⟨35, _⟩ => ⟨S1024x1, .f32⟩
  | .local .tc .vmem, ⟨36, _⟩ => ⟨S1024x1, .f32⟩
  | .local .tc .vmem, ⟨37, _⟩ => ⟨S1024x512, .f32⟩
  | .local .tc .vmem, ⟨38, _⟩ => ⟨S1024x512, .f32⟩
  | .local .tc .vmem, ⟨39, _⟩ => ⟨S416x512, .f32⟩
  | .local .tc .vmem, ⟨40, _⟩ => ⟨S325x512, .f32⟩
  | .local .tc .vmem, ⟨41, _⟩ => ⟨S512x256, .f32⟩
  | .local .tc .vmem, ⟨42, _⟩ => ⟨S256x1, .f32⟩
  | .local .tc .vmem, ⟨43, _⟩ => ⟨S1x512, .f32⟩
  | .local .tc .vmem, ⟨44, _⟩ => ⟨S1x256, .f32⟩
  | .local .tc .vmem, ⟨45, _⟩ => ⟨S1x1, .f32⟩
  | .local .tc .vmem, ⟨46, _⟩ => ⟨S1024x1, .f32⟩
  | .local .tc .vmem, ⟨47, _⟩ => ⟨S1024x1, .f32⟩
  | .local .scVector .vmem, ⟨0, _⟩ => ⟨S2x1x128, .i32⟩
  | .local .scVector .vmem, ⟨1, _⟩ => ⟨S2x128x16, .f32⟩
  | .local .scVector .vmem, ⟨2, _⟩ => ⟨S2x1x128, .i32⟩
  | .local .scVector .vmem, ⟨3, _⟩ => ⟨S2x128x16, .f32⟩
  | .local .scVector .vmem, ⟨4, _⟩ => ⟨S2x1x128, .i32⟩
  | .local .scVector .vmem, ⟨5, _⟩ => ⟨S2x128x16, .f32⟩
  | .local .scVector .vmem, ⟨6, _⟩ => ⟨S2x1x128, .i32⟩
  | .local .scVector .vmem, ⟨7, _⟩ => ⟨S2x128x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 68 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => false
  | ⟨53, _⟩ => false
  | ⟨54, _⟩ => false
  | ⟨55, _⟩ => false
  | ⟨56, _⟩ => false
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTables nBuf rfl bufTy 4 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_c_2 : Ref sig .tc := ⟨.hbm, 38, rfl⟩
abbrev main_v7 : Ref sig .tc := ⟨.hbm, 39, rfl⟩
abbrev main_v8 : Ref sig .tc := ⟨.hbm, 40, rfl⟩
abbrev main_c_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_c_4 : Ref sig .tc := ⟨.hbm, 69, rfl⟩
abbrev main_v20 : Ref sig .tc := ⟨.hbm, 70, rfl⟩
abbrev main_v21 : Ref sig .tc := ⟨.hbm, 71, rfl⟩
abbrev main_c_5 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v17_scv : Ref sig .scVector := ⟨.hbm, 66, rfl⟩
abbrev main_v30_scv : Ref sig .scVector := ⟨.hbm, 81, rfl⟩
abbrev main_v31_scv : Ref sig .scVector := ⟨.hbm, 82, rfl⟩
abbrev main_v34_scv : Ref sig .scVector := ⟨.hbm, 85, rfl⟩
abbrev main_v35_scv : Ref sig .scVector := ⟨.hbm, 86, rfl⟩
abbrev main_v38_scv : Ref sig .scVector := ⟨.hbm, 89, rfl⟩
abbrev main_v39_scv : Ref sig .scVector := ⟨.hbm, 90, rfl⟩
abbrev main_v42_scv : Ref sig .scVector := ⟨.hbm, 93, rfl⟩
abbrev main_v43_scv : Ref sig .scVector := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg8_1 : Ref sig .tc := ⟨.vmem, 14, rfl⟩
abbrev cc4_stg0_0 : Ref sig .tc := ⟨.vmem, 15, rfl⟩
abbrev cc4_stg0_1 : Ref sig .tc := ⟨.vmem, 16, rfl⟩
abbrev cc4_stg1_0 : Ref sig .tc := ⟨.vmem, 17, rfl⟩
abbrev cc4_stg2_0 : Ref sig .tc := ⟨.vmem, 18, rfl⟩
abbrev cc4_stg3_0 : Ref sig .tc := ⟨.vmem, 19, rfl⟩
abbrev cc4_stg4_0 : Ref sig .tc := ⟨.vmem, 20, rfl⟩
abbrev cc4_stg5_0 : Ref sig .tc := ⟨.vmem, 21, rfl⟩
abbrev cc4_stg6_0 : Ref sig .tc := ⟨.vmem, 22, rfl⟩
abbrev cc4_stg7_0 : Ref sig .tc := ⟨.vmem, 23, rfl⟩
abbrev cc4_stg8_0 : Ref sig .tc := ⟨.vmem, 24, rfl⟩
abbrev cc4_stg8_1 : Ref sig .tc := ⟨.vmem, 25, rfl⟩
abbrev cc6_stg0_0 : Ref sig .tc := ⟨.vmem, 26, rfl⟩
abbrev cc6_stg0_1 : Ref sig .tc := ⟨.vmem, 27, rfl⟩
abbrev cc6_stg1_0 : Ref sig .tc := ⟨.vmem, 28, rfl⟩
abbrev cc6_stg2_0 : Ref sig .tc := ⟨.vmem, 29, rfl⟩
abbrev cc6_stg3_0 : Ref sig .tc := ⟨.vmem, 30, rfl⟩
abbrev cc6_stg4_0 : Ref sig .tc := ⟨.vmem, 31, rfl⟩
abbrev cc6_stg5_0 : Ref sig .tc := ⟨.vmem, 32, rfl⟩
abbrev cc6_stg6_0 : Ref sig .tc := ⟨.vmem, 33, rfl⟩
abbrev cc6_stg7_0 : Ref sig .tc := ⟨.vmem, 34, rfl⟩
abbrev cc6_stg8_0 : Ref sig .tc := ⟨.vmem, 35, rfl⟩
abbrev cc6_stg8_1 : Ref sig .tc := ⟨.vmem, 36, rfl⟩
abbrev cc8_stg0_0 : Ref sig .tc := ⟨.vmem, 37, rfl⟩
abbrev cc8_stg0_1 : Ref sig .tc := ⟨.vmem, 38, rfl⟩
abbrev cc8_stg1_0 : Ref sig .tc := ⟨.vmem, 39, rfl⟩
abbrev cc8_stg2_0 : Ref sig .tc := ⟨.vmem, 40, rfl⟩
abbrev cc8_stg3_0 : Ref sig .tc := ⟨.vmem, 41, rfl⟩
abbrev cc8_stg4_0 : Ref sig .tc := ⟨.vmem, 42, rfl⟩
abbrev cc8_stg5_0 : Ref sig .tc := ⟨.vmem, 43, rfl⟩
abbrev cc8_stg6_0 : Ref sig .tc := ⟨.vmem, 44, rfl⟩
abbrev cc8_stg7_0 : Ref sig .tc := ⟨.vmem, 45, rfl⟩
abbrev cc8_stg8_0 : Ref sig .tc := ⟨.vmem, 46, rfl⟩
abbrev cc8_stg8_1 : Ref sig .tc := ⟨.vmem, 47, rfl⟩
abbrev cc1_scoped0 : Ref sig .scVector := ⟨.vmem, 0, rfl⟩
abbrev cc1_scoped2 : Ref sig .scVector := ⟨.vmem, 1, rfl⟩
abbrev cc3_scoped0 : Ref sig .scVector := ⟨.vmem, 2, rfl⟩
abbrev cc3_scoped2 : Ref sig .scVector := ⟨.vmem, 3, rfl⟩
abbrev cc5_scoped0 : Ref sig .scVector := ⟨.vmem, 4, rfl⟩
abbrev cc5_scoped2 : Ref sig .scVector := ⟨.vmem, 5, rfl⟩
abbrev cc7_scoped0 : Ref sig .scVector := ⟨.vmem, 6, rfl⟩
abbrev cc7_scoped2 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem8_1 : DmaSem sig := 19
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem7_0 : DmaSem sig := 33
abbrev cc4_sem8_0 : DmaSem sig := 34
abbrev cc4_sem8_1 : DmaSem sig := 35
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem8_0 : DmaSem sig := 50
abbrev cc6_sem8_1 : DmaSem sig := 51
abbrev cc8_sem0_0 : DmaSem sig := 57
abbrev cc8_sem0_1 : DmaSem sig := 58
abbrev cc8_sem1_0 : DmaSem sig := 59
abbrev cc8_sem2_0 : DmaSem sig := 60
abbrev cc8_sem3_0 : DmaSem sig := 61
abbrev cc8_sem4_0 : DmaSem sig := 62
abbrev cc8_sem5_0 : DmaSem sig := 63
abbrev cc8_sem6_0 : DmaSem sig := 64
abbrev cc8_sem7_0 : DmaSem sig := 65
abbrev cc8_sem8_0 : DmaSem sig := 66
abbrev cc8_sem8_1 : DmaSem sig := 67
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x16.size a ≤ S2x128x16.size a)
theorem k1_off10_inb : ∀ (arg8_r0 : BitVec 32) (k1_hw2 : k1_chk2 arg8_r0), ∀ a, (k1_off10 arg8_r0) a + S1x128x16.size a ≤ S2x128x16.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x131072.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x131072.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x16.size a ≤ S2x128x16.size a) ∧
  (∀ (k1_h5 : k1_cond5 i k1_t1 arg10_r0 = 1#1), ∀ a, (k1_off13 i arg10_r0) a + S128x16.size a ≤ S131072x16.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x16.size a ≤ S2x128x16.size a) ∧
  (∀ (k1_h7 : k1_cond7 i k1_t1 arg10_r0 = 1#1), ∀ a, (k1_off16 i arg10_r0) a + S128x16.size a ≤ S131072x16.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x131072.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x131072.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x16.size a ≤ S2x128x16.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x16.size a ≤ S131072x16.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x16.size a ≤ S2x128x16.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x16.size a ≤ S131072x16.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x16.size a ≤ S131072x16.size a)
theorem k1_off19_inb : ∀ (i : grid1.Coords) (v33_4_r0 : BitVec 32) (k1_hw5 : k1_chk5 i v33_4_r0), ∀ a, (k1_off19 i v33_4_r0) a + S128x16.size a ≤ S131072x16.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x16.size a ≤ S2x128x16.size a) ∧
  (∀ a, (k1_off20 v33_3_r0) a + S1.size a ≤ S2.size a) ∧
  (∀ a, (k1_off21 v33_3_r0) a + S1x128x16.size a ≤ S2x128x16.size a)
theorem k1_off18_inb : ∀ (v33_3_r0 : BitVec 32) (k1_hw4 : k1_chk4 v33_3_r0), ∀ a, (k1_off18 v33_3_r0) a + S1x128x16.size a ≤ S2x128x16.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x16.size a ≤ S2x128x16.size a := fun v33_3_r0 k1_hw4 => k1_hw4.2.2

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S416x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S325x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![2, 16], ![false, false]⟩

def k3_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k3_off2 (i : grid3.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k3_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k3_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k3_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k3_off5 (i : grid3.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k3_off6 (arg6_r0 : BitVec 32) : Fin 1 → Nat :=
  let c2_i32_99_r0 : BitVec 32 := 2#32
  let v144_r0 : BitVec 32 := Scalar.remui arg6_r0 c2_i32_99_r0
  ![v144_r0.toNat]
def k3_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k3_off8 (i : grid3.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k3_off9 (arg7_r0 : BitVec 32) : Fin 1 → Nat :=
  let c2_i32_100_r0 : BitVec 32 := 2#32
  let v145_r0 : BitVec 32 := Scalar.remui arg7_r0 c2_i32_100_r0
  ![v145_r0.toNat]
def k3_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k3_chk2 (arg8_r0 : BitVec 32) : Prop :=
  (∀ a, (k3_off10 arg8_r0) a + S1x128x16.size a ≤ S2x128x16.size a)
theorem k3_off10_inb : ∀ (arg8_r0 : BitVec 32) (k3_hw2 : k3_chk2 arg8_r0), ∀ a, (k3_off10 arg8_r0) a + S1x128x16.size a ≤ S2x128x16.size a := fun arg8_r0 k3_hw2 => k3_hw2

def k3_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k3_chk3 (arg7_r0 : BitVec 32) : Prop :=
  (∀ a, (k3_off11 arg7_r0) a + S1x1x128.size a ≤ S2x1x128.size a)
theorem k3_off11_inb : ∀ (arg7_r0 : BitVec 32) (k3_hw3 : k3_chk3 arg7_r0), ∀ a, (k3_off11 arg7_r0) a + S1x1x128.size a ≤ S2x1x128.size a := fun arg7_r0 k3_hw3 => k3_hw3

def k3_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k3_off13 (i : grid3.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k3_off14 (arg8_r0 : BitVec 32) : Fin 1 → Nat :=
  let c2_i32_99_r0 : BitVec 32 := 2#32
  let v144_r0 : BitVec 32 := Scalar.remui arg8_r0 c2_i32_99_r0
  ![v144_r0.toNat]
def k3_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k3_off16 (i : grid3.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k3_off17 (arg9_r0 : BitVec 32) : Fin 1 → Nat :=
  let c2_i32_99_r0 : BitVec 32 := 2#32
  let v144_r0 : BitVec 32 := Scalar.remui arg9_r0 c2_i32_99_r0
  ![v144_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x128.size a ≤ S2x1x128.size a) ∧
  (∀ (k3_h1 : k3_cond1 i k3_t1 arg10_r0 = 1#1), ∀ a, (k3_off5 i arg10_r0) a + S1x128.size a ≤ S1x131072.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x128.size a ≤ S2x1x128.size a) ∧
  (∀ (k3_h2 : k3_cond2 i k3_t1 arg10_r0 = 1#1), ∀ a, (k3_off8 i arg10_r0) a + S1x128.size a ≤ S1x131072.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x128x16.size a ≤ S2x128x16.size a) ∧
  (∀ (k3_h5 : k3_cond5 i k3_t1 arg10_r0 = 1#1), ∀ a, (k3_off13 i arg10_r0) a + S128x16.size a ≤ S131072x16.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x128x16.size a ≤ S2x128x16.size a) ∧
  (∀ (k3_h7 : k3_cond7 i k3_t1 arg10_r0 = 1#1), ∀ a, (k3_off16 i arg10_r0) a + S128x16.size a ≤ S131072x16.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x128.size a ≤ S2x1x128.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x128.size a ≤ S1x131072.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x128.size a ≤ S2x1x128.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x128.size a ≤ S1x131072.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x128x16.size a ≤ S2x128x16.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S128x16.size a ≤ S131072x16.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x128x16.size a ≤ S2x128x16.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S128x16.size a ≤ S131072x16.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k3_off19 (i : grid3.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k3_chk5 (i : grid3.Coords) (v33_4_r0 : BitVec 32) : Prop :=
  (∀ a, (k3_off19 i v33_4_r0) a + S128x16.size a ≤ S131072x16.size a)
theorem k3_off19_inb : ∀ (i : grid3.Coords) (v33_4_r0 : BitVec 32) (k3_hw5 : k3_chk5 i v33_4_r0), ∀ a, (k3_off19 i v33_4_r0) a + S128x16.size a ≤ S131072x16.size a := fun i v33_4_r0 k3_hw5 => k3_hw5

def k3_off20 (v33_3_r0 : BitVec 32) : Fin 1 → Nat :=
  let c2_i32_46_r0 : BitVec 32 := 2#32
  let v54_r0 : BitVec 32 := Scalar.remui v33_3_r0 c2_i32_46_r0
  ![v54_r0.toNat]
def k3_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k3_chk4 (v33_3_r0 : BitVec 32) : Prop :=
  (∀ a, (k3_off18 v33_3_r0) a + S1x128x16.size a ≤ S2x128x16.size a) ∧
  (∀ a, (k3_off20 v33_3_r0) a + S1.size a ≤ S2.size a) ∧
  (∀ a, (k3_off21 v33_3_r0) a + S1x128x16.size a ≤ S2x128x16.size a)
theorem k3_off18_inb : ∀ (v33_3_r0 : BitVec 32) (k3_hw4 : k3_chk4 v33_3_r0), ∀ a, (k3_off18 v33_3_r0) a + S1x128x16.size a ≤ S2x128x16.size a := fun v33_3_r0 k3_hw4 => k3_hw4.1
theorem k3_off20_inb : ∀ (v33_3_r0 : BitVec 32) (k3_hw4 : k3_chk4 v33_3_r0), ∀ a, (k3_off20 v33_3_r0) a + S1.size a ≤ S2.size a := fun v33_3_r0 k3_hw4 => k3_hw4.2.1
theorem k3_off21_inb : ∀ (v33_3_r0 : BitVec 32) (k3_hw4 : k3_chk4 v33_3_r0), ∀ a, (k3_off21 v33_3_r0) a + S1x128x16.size a ≤ S2x128x16.size a := fun v33_3_r0 k3_hw4 => k3_hw4.2.2

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S416x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S325x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1024x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨2, ![2, 16], ![false, false]⟩

def k5_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k5_off2 (i : grid5.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k5_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k5_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k5_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k5_cond1 (i : grid5.Coords) (k5_t1 : Fin k5_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k5_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k5_off5 (i : grid5.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k5_off6 (arg6_r0 : BitVec 32) : Fin 1 → Nat :=
  let c2_i32_99_r0 : BitVec 32 := 2#32
  let v144_r0 : BitVec 32 := Scalar.remui arg6_r0 c2_i32_99_r0
  ![v144_r0.toNat]
def k5_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k5_cond2 (i : grid5.Coords) (k5_t1 : Fin k5_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k5_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k5_off8 (i : grid5.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k5_off9 (arg7_r0 : BitVec 32) : Fin 1 → Nat :=
  let c2_i32_100_r0 : BitVec 32 := 2#32
  let v145_r0 : BitVec 32 := Scalar.remui arg7_r0 c2_i32_100_r0
  ![v145_r0.toNat]
def k5_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k5_chk2 (arg8_r0 : BitVec 32) : Prop :=
  (∀ a, (k5_off10 arg8_r0) a + S1x128x16.size a ≤ S2x128x16.size a)
theorem k5_off10_inb : ∀ (arg8_r0 : BitVec 32) (k5_hw2 : k5_chk2 arg8_r0), ∀ a, (k5_off10 arg8_r0) a + S1x128x16.size a ≤ S2x128x16.size a := fun arg8_r0 k5_hw2 => k5_hw2

def k5_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k5_chk3 (arg7_r0 : BitVec 32) : Prop :=
  (∀ a, (k5_off11 arg7_r0) a + S1x1x128.size a ≤ S2x1x128.size a)
theorem k5_off11_inb : ∀ (arg7_r0 : BitVec 32) (k5_hw3 : k5_chk3 arg7_r0), ∀ a, (k5_off11 arg7_r0) a + S1x1x128.size a ≤ S2x1x128.size a := fun arg7_r0 k5_hw3 => k5_hw3

def k5_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k5_cond5 (i : grid5.Coords) (k5_t1 : Fin k5_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k5_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k5_off13 (i : grid5.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k5_off14 (arg8_r0 : BitVec 32) : Fin 1 → Nat :=
  let c2_i32_99_r0 : BitVec 32 := 2#32
  let v144_r0 : BitVec 32 := Scalar.remui arg8_r0 c2_i32_99_r0
  ![v144_r0.toNat]
def k5_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k5_cond7 (i : grid5.Coords) (k5_t1 : Fin k5_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k5_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k5_off16 (i : grid5.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k5_off17 (arg9_r0 : BitVec 32) : Fin 1 → Nat :=
  let c2_i32_99_r0 : BitVec 32 := 2#32
  let v144_r0 : BitVec 32 := Scalar.remui arg9_r0 c2_i32_99_r0
  ![v144_r0.toNat]

def k5_chk1 (i : grid5.Coords) (k5_t1 : Fin k5_t1_loop.trips) (arg6_r0 : BitVec 32) (arg7_r0 : BitVec 32) (arg8_r0 : BitVec 32) (arg9_r0 : BitVec 32) (arg10_r0 : BitVec 32) : Prop :=
  (∀ (k5_h1 : k5_cond1 i k5_t1 arg10_r0 = 1#1), ∀ a, (k5_off4 arg6_r0) a + S1x1x128.size a ≤ S2x1x128.size a) ∧
  (∀ (k5_h1 : k5_cond1 i k5_t1 arg10_r0 = 1#1), ∀ a, (k5_off5 i arg10_r0) a + S1x128.size a ≤ S1x131072.size a) ∧
  (∀ (k5_h1 : k5_cond1 i k5_t1 arg10_r0 = 1#1), ∀ a, (k5_off6 arg6_r0) a + S1.size a ≤ S2.size a) ∧
  (∀ (k5_h2 : k5_cond2 i k5_t1 arg10_r0 = 1#1), ∀ a, (k5_off7 arg7_r0) a + S1x1x128.size a ≤ S2x1x128.size a) ∧
  (∀ (k5_h2 : k5_cond2 i k5_t1 arg10_r0 = 1#1), ∀ a, (k5_off8 i arg10_r0) a + S1x128.size a ≤ S1x131072.size a) ∧
  (∀ (k5_h2 : k5_cond2 i k5_t1 arg10_r0 = 1#1), ∀ a, (k5_off9 arg7_r0) a + S1.size a ≤ S2.size a) ∧
  (∀ (k5_h5 : k5_cond5 i k5_t1 arg10_r0 = 1#1), ∀ a, (k5_off12 arg8_r0) a + S1x128x16.size a ≤ S2x128x16.size a) ∧
  (∀ (k5_h5 : k5_cond5 i k5_t1 arg10_r0 = 1#1), ∀ a, (k5_off13 i arg10_r0) a + S128x16.size a ≤ S131072x16.size a) ∧
  (∀ (k5_h5 : k5_cond5 i k5_t1 arg10_r0 = 1#1), ∀ a, (k5_off14 arg8_r0) a + S1.size a ≤ S2.size a) ∧
  (∀ (k5_h7 : k5_cond7 i k5_t1 arg10_r0 = 1#1), ∀ a, (k5_off15 arg9_r0) a + S1x128x16.size a ≤ S2x128x16.size a) ∧
  (∀ (k5_h7 : k5_cond7 i k5_t1 arg10_r0 = 1#1), ∀ a, (k5_off16 i arg10_r0) a + S128x16.size a ≤ S131072x16.size a) ∧
  (∀ (k5_h7 : k5_cond7 i k5_t1 arg10_r0 = 1#1), ∀ a, (k5_off17 arg9_r0) a + S1.size a ≤ S2.size a)
theorem k5_off4_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h1 : k5_cond1 i k5_t1 arg10_r0 = 1#1), ∀ a, (k5_off4 arg6_r0) a + S1x1x128.size a ≤ S2x1x128.size a := fun i k5_t1 arg6_r0 arg7_r0 arg8_r0 arg9_r0 arg10_r0 k5_hw1 k5_h1 => k5_hw1.1 k5_h1
theorem k5_off5_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h1 : k5_cond1 i k5_t1 arg10_r0 = 1#1), ∀ a, (k5_off5 i arg10_r0) a + S1x128.size a ≤ S1x131072.size a := fun i k5_t1 arg6_r0 arg7_r0 arg8_r0 arg9_r0 arg10_r0 k5_hw1 k5_h1 => k5_hw1.2.1 k5_h1
theorem k5_off6_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h1 : k5_cond1 i k5_t1 arg10_r0 = 1#1), ∀ a, (k5_off6 arg6_r0) a + S1.size a ≤ S2.size a := fun i k5_t1 arg6_r0 arg7_r0 arg8_r0 arg9_r0 arg10_r0 k5_hw1 k5_h1 => k5_hw1.2.2.1 k5_h1
theorem k5_off7_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h2 : k5_cond2 i k5_t1 arg10_r0 = 1#1), ∀ a, (k5_off7 arg7_r0) a + S1x1x128.size a ≤ S2x1x128.size a := fun i k5_t1 arg6_r0 arg7_r0 arg8_r0 arg9_r0 arg10_r0 k5_hw1 k5_h2 => k5_hw1.2.2.2.1 k5_h2
theorem k5_off8_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h2 : k5_cond2 i k5_t1 arg10_r0 = 1#1), ∀ a, (k5_off8 i arg10_r0) a + S1x128.size a ≤ S1x131072.size a := fun i k5_t1 arg6_r0 arg7_r0 arg8_r0 arg9_r0 arg10_r0 k5_hw1 k5_h2 => k5_hw1.2.2.2.2.1 k5_h2
theorem k5_off9_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h2 : k5_cond2 i k5_t1 arg10_r0 = 1#1), ∀ a, (k5_off9 arg7_r0) a + S1.size a ≤ S2.size a := fun i k5_t1 arg6_r0 arg7_r0 arg8_r0 arg9_r0 arg10_r0 k5_hw1 k5_h2 => k5_hw1.2.2.2.2.2.1 k5_h2
theorem k5_off12_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h5 : k5_cond5 i k5_t1 arg10_r0 = 1#1), ∀ a, (k5_off12 arg8_r0) a + S1x128x16.size a ≤ S2x128x16.size a := fun i k5_t1 arg6_r0 arg7_r0 arg8_r0 arg9_r0 arg10_r0 k5_hw1 k5_h5 => k5_hw1.2.2.2.2.2.2.1 k5_h5
theorem k5_off13_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h5 : k5_cond5 i k5_t1 arg10_r0 = 1#1), ∀ a, (k5_off13 i arg10_r0) a + S128x16.size a ≤ S131072x16.size a := fun i k5_t1 arg6_r0 arg7_r0 arg8_r0 arg9_r0 arg10_r0 k5_hw1 k5_h5 => k5_hw1.2.2.2.2.2.2.2.1 k5_h5
theorem k5_off14_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h5 : k5_cond5 i k5_t1 arg10_r0 = 1#1), ∀ a, (k5_off14 arg8_r0) a + S1.size a ≤ S2.size a := fun i k5_t1 arg6_r0 arg7_r0 arg8_r0 arg9_r0 arg10_r0 k5_hw1 k5_h5 => k5_hw1.2.2.2.2.2.2.2.2.1 k5_h5
theorem k5_off15_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h7 : k5_cond7 i k5_t1 arg10_r0 = 1#1), ∀ a, (k5_off15 arg9_r0) a + S1x128x16.size a ≤ S2x128x16.size a := fun i k5_t1 arg6_r0 arg7_r0 arg8_r0 arg9_r0 arg10_r0 k5_hw1 k5_h7 => k5_hw1.2.2.2.2.2.2.2.2.2.1 k5_h7
theorem k5_off16_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h7 : k5_cond7 i k5_t1 arg10_r0 = 1#1), ∀ a, (k5_off16 i arg10_r0) a + S128x16.size a ≤ S131072x16.size a := fun i k5_t1 arg6_r0 arg7_r0 arg8_r0 arg9_r0 arg10_r0 k5_hw1 k5_h7 => k5_hw1.2.2.2.2.2.2.2.2.2.2.1 k5_h7
theorem k5_off17_inb : ∀ (i : grid5.Coords) (k5_t1 : Fin k5_t1_loop.trips) (arg6_r0 : BitVec 32) (arg7_r0 : BitVec 32) (arg8_r0 : BitVec 32) (arg9_r0 : BitVec 32) (arg10_r0 : BitVec 32) (k5_hw1 : k5_chk1 i k5_t1 arg6_r0 arg7_r0 arg8_r0 arg9_r0 arg10_r0), ∀ (k5_h7 : k5_cond7 i k5_t1 arg10_r0 = 1#1), ∀ a, (k5_off17 arg9_r0) a + S1.size a ≤ S2.size a := fun i k5_t1 arg6_r0 arg7_r0 arg8_r0 arg9_r0 arg10_r0 k5_hw1 k5_h7 => k5_hw1.2.2.2.2.2.2.2.2.2.2.2 k5_h7

def k5_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k5_off19 (i : grid5.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k5_chk5 (i : grid5.Coords) (v33_4_r0 : BitVec 32) : Prop :=
  (∀ a, (k5_off19 i v33_4_r0) a + S128x16.size a ≤ S131072x16.size a)
theorem k5_off19_inb : ∀ (i : grid5.Coords) (v33_4_r0 : BitVec 32) (k5_hw5 : k5_chk5 i v33_4_r0), ∀ a, (k5_off19 i v33_4_r0) a + S128x16.size a ≤ S131072x16.size a := fun i v33_4_r0 k5_hw5 => k5_hw5

def k5_off20 (v33_3_r0 : BitVec 32) : Fin 1 → Nat :=
  let c2_i32_46_r0 : BitVec 32 := 2#32
  let v54_r0 : BitVec 32 := Scalar.remui v33_3_r0 c2_i32_46_r0
  ![v54_r0.toNat]
def k5_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k5_chk4 (v33_3_r0 : BitVec 32) : Prop :=
  (∀ a, (k5_off18 v33_3_r0) a + S1x128x16.size a ≤ S2x128x16.size a) ∧
  (∀ a, (k5_off20 v33_3_r0) a + S1.size a ≤ S2.size a) ∧
  (∀ a, (k5_off21 v33_3_r0) a + S1x128x16.size a ≤ S2x128x16.size a)
theorem k5_off18_inb : ∀ (v33_3_r0 : BitVec 32) (k5_hw4 : k5_chk4 v33_3_r0), ∀ a, (k5_off18 v33_3_r0) a + S1x128x16.size a ≤ S2x128x16.size a := fun v33_3_r0 k5_hw4 => k5_hw4.1
theorem k5_off20_inb : ∀ (v33_3_r0 : BitVec 32) (k5_hw4 : k5_chk4 v33_3_r0), ∀ a, (k5_off20 v33_3_r0) a + S1.size a ≤ S2.size a := fun v33_3_r0 k5_hw4 => k5_hw4.2.1
theorem k5_off21_inb : ∀ (v33_3_r0 : BitVec 32) (k5_hw4 : k5_chk4 v33_3_r0), ∀ a, (k5_off21 v33_3_r0) a + S1x128x16.size a ≤ S2x128x16.size a := fun v33_3_r0 k5_hw4 => k5_hw4.2.2

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S416x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S325x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S1024x1 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨2, ![2, 16], ![false, false]⟩

def k7_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k7_off2 (i : grid7.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k7_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k7_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k7_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k7_cond1 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k7_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k7_off5 (i : grid7.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k7_off6 (arg6_r0 : BitVec 32) : Fin 1 → Nat :=
  let c2_i32_99_r0 : BitVec 32 := 2#32
  let v144_r0 : BitVec 32 := Scalar.remui arg6_r0 c2_i32_99_r0
  ![v144_r0.toNat]
def k7_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k7_cond2 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k7_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k7_off8 (i : grid7.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k7_off9 (arg7_r0 : BitVec 32) : Fin 1 → Nat :=
  let c2_i32_100_r0 : BitVec 32 := 2#32
  let v145_r0 : BitVec 32 := Scalar.remui arg7_r0 c2_i32_100_r0
  ![v145_r0.toNat]
def k7_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k7_chk2 (arg8_r0 : BitVec 32) : Prop :=
  (∀ a, (k7_off10 arg8_r0) a + S1x128x16.size a ≤ S2x128x16.size a)
theorem k7_off10_inb : ∀ (arg8_r0 : BitVec 32) (k7_hw2 : k7_chk2 arg8_r0), ∀ a, (k7_off10 arg8_r0) a + S1x128x16.size a ≤ S2x128x16.size a := fun arg8_r0 k7_hw2 => k7_hw2

def k7_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k7_chk3 (arg7_r0 : BitVec 32) : Prop :=
  (∀ a, (k7_off11 arg7_r0) a + S1x1x128.size a ≤ S2x1x128.size a)
theorem k7_off11_inb : ∀ (arg7_r0 : BitVec 32) (k7_hw3 : k7_chk3 arg7_r0), ∀ a, (k7_off11 arg7_r0) a + S1x1x128.size a ≤ S2x1x128.size a := fun arg7_r0 k7_hw3 => k7_hw3

def k7_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k7_cond5 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k7_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k7_off13 (i : grid7.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k7_off14 (arg8_r0 : BitVec 32) : Fin 1 → Nat :=
  let c2_i32_99_r0 : BitVec 32 := 2#32
  let v144_r0 : BitVec 32 := Scalar.remui arg8_r0 c2_i32_99_r0
  ![v144_r0.toNat]
def k7_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k7_cond7 (i : grid7.Coords) (k7_t1 : Fin k7_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k7_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k7_off16 (i : grid7.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k7_off17 (arg9_r0 : BitVec 32) : Fin 1 → Nat :=
  let c2_i32_99_r0 : BitVec 32 := 2#32
  let v144_r0 : BitVec 32 := Scalar.remui arg9_r0 c2_i32_99_r0
  ![v144_r0.toNat]

def k7_chk1 (i : grid7.Coords) (k7_t1 : Fin k7_t1_loop.trips) (arg6_r0 : BitVec 32) (arg7_r0 : BitVec 32) (arg8_r0 : BitVec 32) (arg9_r0 : BitVec 32) (arg10_r0 : BitVec 32) : Prop :=
  (∀ (k7_h1 : k7_cond1 i k7_t1 arg10_r0 = 1#1), ∀ a, (k7_off4 arg6_r0) a + S1x1x128.size a ≤ S2x1x128.size a) ∧
  (∀ (k7_h1 : k7_cond1 i k7_t1 arg10_r0 = 1#1), ∀ a, (k7_off5 i arg10_r0) a + S1x128.size a ≤ S1x131072.size a) ∧
  (∀ (k7_h1 : k7_cond1 i k7_t1 arg10_r0 = 1#1), ∀ a, (k7_off6 arg6_r0) a + S1.size a ≤ S2.size a) ∧
  (∀ (k7_h2 : k7_cond2 i k7_t1 arg10_r0 = 1#1), ∀ a, (k7_off7 arg7_r0) a + S1x1x128.size a ≤ S2x1x128.size a) ∧
  (∀ (k7_h2 : k7_cond2 i k7_t1 arg10_r0 = 1#1), ∀ a, (k7_off8 i arg10_r0) a + S1x128.size a ≤ S1x131072.size a) ∧
  (∀ (k7_h2 : k7_cond2 i k7_t1 arg10_r0 = 1#1), ∀ a, (k7_off9 arg7_r0) a + S1.size a ≤ S2.size a) ∧
  (∀ (k7_h5 : k7_cond5 i k7_t1 arg10_r0 = 1#1), ∀ a, (k7_off12 arg8_r0) a + S1x128x16.size a ≤ S2x128x16.size a) ∧
  (∀ (k7_h5 : k7_cond5 i k7_t1 arg10_r0 = 1#1), ∀ a, (k7_off13 i arg10_r0) a + S128x16.size a ≤ S131072x16.size a) ∧
  (∀ (k7_h5 : k7_cond5 i k7_t1 arg10_r0 = 1#1), ∀ a, (k7_off14 arg8_r0) a + S1.size a ≤ S2.size a) ∧
  (∀ (k7_h7 : k7_cond7 i k7_t1 arg10_r0 = 1#1), ∀ a, (k7_off15 arg9_r0) a + S1x128x16.size a ≤ S2x128x16.size a) ∧
  (∀ (k7_h7 : k7_cond7 i k7_t1 arg10_r0 = 1#1), ∀ a, (k7_off16 i arg10_r0) a + S128x16.size a ≤ S131072x16.size a) ∧
  (∀ (k7_h7 : k7_cond7 i k7_t1 arg10_r0 = 1#1), ∀ a, (k7_off17 arg9_r0) a + S1.size a ≤ S2.size a)
theorem k7_off4_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h1 : k7_cond1 i k7_t1 arg10_r0 = 1#1), ∀ a, (k7_off4 arg6_r0) a + S1x1x128.size a ≤ S2x1x128.size a := fun i k7_t1 arg6_r0 arg7_r0 arg8_r0 arg9_r0 arg10_r0 k7_hw1 k7_h1 => k7_hw1.1 k7_h1
theorem k7_off5_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h1 : k7_cond1 i k7_t1 arg10_r0 = 1#1), ∀ a, (k7_off5 i arg10_r0) a + S1x128.size a ≤ S1x131072.size a := fun i k7_t1 arg6_r0 arg7_r0 arg8_r0 arg9_r0 arg10_r0 k7_hw1 k7_h1 => k7_hw1.2.1 k7_h1
theorem k7_off6_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h1 : k7_cond1 i k7_t1 arg10_r0 = 1#1), ∀ a, (k7_off6 arg6_r0) a + S1.size a ≤ S2.size a := fun i k7_t1 arg6_r0 arg7_r0 arg8_r0 arg9_r0 arg10_r0 k7_hw1 k7_h1 => k7_hw1.2.2.1 k7_h1
theorem k7_off7_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h2 : k7_cond2 i k7_t1 arg10_r0 = 1#1), ∀ a, (k7_off7 arg7_r0) a + S1x1x128.size a ≤ S2x1x128.size a := fun i k7_t1 arg6_r0 arg7_r0 arg8_r0 arg9_r0 arg10_r0 k7_hw1 k7_h2 => k7_hw1.2.2.2.1 k7_h2
theorem k7_off8_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h2 : k7_cond2 i k7_t1 arg10_r0 = 1#1), ∀ a, (k7_off8 i arg10_r0) a + S1x128.size a ≤ S1x131072.size a := fun i k7_t1 arg6_r0 arg7_r0 arg8_r0 arg9_r0 arg10_r0 k7_hw1 k7_h2 => k7_hw1.2.2.2.2.1 k7_h2
theorem k7_off9_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h2 : k7_cond2 i k7_t1 arg10_r0 = 1#1), ∀ a, (k7_off9 arg7_r0) a + S1.size a ≤ S2.size a := fun i k7_t1 arg6_r0 arg7_r0 arg8_r0 arg9_r0 arg10_r0 k7_hw1 k7_h2 => k7_hw1.2.2.2.2.2.1 k7_h2
theorem k7_off12_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h5 : k7_cond5 i k7_t1 arg10_r0 = 1#1), ∀ a, (k7_off12 arg8_r0) a + S1x128x16.size a ≤ S2x128x16.size a := fun i k7_t1 arg6_r0 arg7_r0 arg8_r0 arg9_r0 arg10_r0 k7_hw1 k7_h5 => k7_hw1.2.2.2.2.2.2.1 k7_h5
theorem k7_off13_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h5 : k7_cond5 i k7_t1 arg10_r0 = 1#1), ∀ a, (k7_off13 i arg10_r0) a + S128x16.size a ≤ S131072x16.size a := fun i k7_t1 arg6_r0 arg7_r0 arg8_r0 arg9_r0 arg10_r0 k7_hw1 k7_h5 => k7_hw1.2.2.2.2.2.2.2.1 k7_h5
theorem k7_off14_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h5 : k7_cond5 i k7_t1 arg10_r0 = 1#1), ∀ a, (k7_off14 arg8_r0) a + S1.size a ≤ S2.size a := fun i k7_t1 arg6_r0 arg7_r0 arg8_r0 arg9_r0 arg10_r0 k7_hw1 k7_h5 => k7_hw1.2.2.2.2.2.2.2.2.1 k7_h5
theorem k7_off15_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h7 : k7_cond7 i k7_t1 arg10_r0 = 1#1), ∀ a, (k7_off15 arg9_r0) a + S1x128x16.size a ≤ S2x128x16.size a := fun i k7_t1 arg6_r0 arg7_r0 arg8_r0 arg9_r0 arg10_r0 k7_hw1 k7_h7 => k7_hw1.2.2.2.2.2.2.2.2.2.1 k7_h7
theorem k7_off16_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h7 : k7_cond7 i k7_t1 arg10_r0 = 1#1), ∀ a, (k7_off16 i arg10_r0) a + S128x16.size a ≤ S131072x16.size a := fun i k7_t1 arg6_r0 arg7_r0 arg8_r0 arg9_r0 arg10_r0 k7_hw1 k7_h7 => k7_hw1.2.2.2.2.2.2.2.2.2.2.1 k7_h7
theorem k7_off17_inb : ∀ (i : grid7.Coords) (k7_t1 : Fin k7_t1_loop.trips) (arg6_r0 : BitVec 32) (arg7_r0 : BitVec 32) (arg8_r0 : BitVec 32) (arg9_r0 : BitVec 32) (arg10_r0 : BitVec 32) (k7_hw1 : k7_chk1 i k7_t1 arg6_r0 arg7_r0 arg8_r0 arg9_r0 arg10_r0), ∀ (k7_h7 : k7_cond7 i k7_t1 arg10_r0 = 1#1), ∀ a, (k7_off17 arg9_r0) a + S1.size a ≤ S2.size a := fun i k7_t1 arg6_r0 arg7_r0 arg8_r0 arg9_r0 arg10_r0 k7_hw1 k7_h7 => k7_hw1.2.2.2.2.2.2.2.2.2.2.2 k7_h7

def k7_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k7_off19 (i : grid7.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k7_chk5 (i : grid7.Coords) (v33_4_r0 : BitVec 32) : Prop :=
  (∀ a, (k7_off19 i v33_4_r0) a + S128x16.size a ≤ S131072x16.size a)
theorem k7_off19_inb : ∀ (i : grid7.Coords) (v33_4_r0 : BitVec 32) (k7_hw5 : k7_chk5 i v33_4_r0), ∀ a, (k7_off19 i v33_4_r0) a + S128x16.size a ≤ S131072x16.size a := fun i v33_4_r0 k7_hw5 => k7_hw5

def k7_off20 (v33_3_r0 : BitVec 32) : Fin 1 → Nat :=
  let c2_i32_46_r0 : BitVec 32 := 2#32
  let v54_r0 : BitVec 32 := Scalar.remui v33_3_r0 c2_i32_46_r0
  ![v54_r0.toNat]
def k7_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k7_chk4 (v33_3_r0 : BitVec 32) : Prop :=
  (∀ a, (k7_off18 v33_3_r0) a + S1x128x16.size a ≤ S2x128x16.size a) ∧
  (∀ a, (k7_off20 v33_3_r0) a + S1.size a ≤ S2.size a) ∧
  (∀ a, (k7_off21 v33_3_r0) a + S1x128x16.size a ≤ S2x128x16.size a)
theorem k7_off18_inb : ∀ (v33_3_r0 : BitVec 32) (k7_hw4 : k7_chk4 v33_3_r0), ∀ a, (k7_off18 v33_3_r0) a + S1x128x16.size a ≤ S2x128x16.size a := fun v33_3_r0 k7_hw4 => k7_hw4.1
theorem k7_off20_inb : ∀ (v33_3_r0 : BitVec 32) (k7_hw4 : k7_chk4 v33_3_r0), ∀ a, (k7_off20 v33_3_r0) a + S1.size a ≤ S2.size a := fun v33_3_r0 k7_hw4 => k7_hw4.2.1
theorem k7_off21_inb : ∀ (v33_3_r0 : BitVec 32) (k7_hw4 : k7_chk4 v33_3_r0), ∀ a, (k7_off21 v33_3_r0) a + S1x128x16.size a ≤ S2x128x16.size a := fun v33_3_r0 k7_hw4 => k7_hw4.2.2

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S416x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S325x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x512 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S1024x1 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S16384x26 : Shape := ⟨2, ![16384, 26]⟩
abbrev S26x100000x16 : Shape := ⟨3, ![26, 100000, 16]⟩
abbrev S741x512 : Shape := ⟨2, ![741, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S325 : Shape := ⟨1, ![325]⟩
abbrev S26x16384 : Shape := ⟨2, ![26, 16384]⟩
abbrev S26x16384x1 : Shape := ⟨3, ![26, 16384, 1]⟩
abbrev S26x16384x16 : Shape := ⟨3, ![26, 16384, 16]⟩
abbrev S16384x26x16 : Shape := ⟨3, ![16384, 26, 16]⟩
abbrev S16384x416 : Shape := ⟨2, ![16384, 416]⟩
abbrev S325x1 : Shape := ⟨2, ![325, 1]⟩
abbrev S16384x325x16 : Shape := ⟨3, ![16384, 325, 16]⟩
abbrev S_ : Shape := ⟨0, ![]⟩
abbrev S16384x325 : Shape := ⟨2, ![16384, 325]⟩
abbrev S16384x741 : Shape := ⟨2, ![16384, 741]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩
abbrev S16384 : Shape := ⟨1, ![16384]⟩

abbrev nBuf : Space → Nat
  | .hbm => 50
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100000x16, .f32⟩
  | .hbm, ⟨2, _⟩ => ⟨S741x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S325, .i32⟩
  | .hbm, ⟨9, _⟩ => ⟨S325, .i32⟩
  | .hbm, ⟨10, _⟩ => ⟨S26x16384, .i32⟩
  | .hbm, ⟨11, _⟩ => ⟨S26x16384x1, .i32⟩
  | .hbm, ⟨12, _⟩ => ⟨S26x16384x16, .f32⟩
  | .hbm, ⟨13, _⟩ => ⟨S16384x26x16, .f32⟩
  | .hbm, ⟨14, _⟩ => ⟨S16384x416, .f32⟩
  | .hbm, ⟨15, _⟩ => ⟨S325x1, .i32⟩
  | .hbm, ⟨16, _⟩ => ⟨S16384x325x16, .f32⟩
  | .hbm, ⟨17, _⟩ => ⟨S325x1, .i32⟩
  | .hbm, ⟨18, _⟩ => ⟨S16384x325x16, .f32⟩
  | .hbm, ⟨19, _⟩ => ⟨S16384x325x16, .f32⟩
  | .hbm, ⟨20, _⟩ => ⟨S_, .f32⟩
  | .hbm, ⟨21, _⟩ => ⟨S16384x325, .f32⟩
  | .hbm, ⟨22, _⟩ => ⟨S16384x741, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S16384x1, .f32⟩
  | .hbm, ⟨38, _⟩ => ⟨S1x1, .f32⟩
  | .hbm, ⟨39, _⟩ => ⟨S16384x1, .f32⟩
  | .hbm, ⟨40, _⟩ => ⟨S16384x1, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call1_v0 : Ref sig .tc := ⟨.hbm, 15, rfl⟩
abbrev main_v3 : Ref sig .tc := ⟨.hbm, 16, rfl⟩
abbrev main_call2_v0 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call3_cst : Ref sig .tc := ⟨.hbm, 27, rfl⟩
abbrev main_call3_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call4_cst : Ref sig .tc := ⟨.hbm, 34, rfl⟩
abbrev main_call4_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Proof.All.lean ====
/-
  A conjunction over all the elements of an array, read element by element, and a word between two bounds.
-/
module

public import Idealize.ShloMosaic.PureOps
public import Idealize.ShloMosaic.Lib.StableHlo.Predicate

@[expose] public section

noncomputable section

namespace Cert.Proof

open Idealize.ShloMosaic

theorem andi_one {a b : BitVec 1} (h : IntOp.andi a b = 1#1) : a = 1#1 ∧ b = 1#1 := by
  have : ∀ a b : BitVec 1, IntOp.andi a b = 1#1 → a = 1#1 ∧ b = 1#1 := by decide
  exact this a b h

theorem foldl_andi {α : Type} (g : α → BitVec 1) (l : List α) (v : BitVec 1) (h : l.foldl (fun r n => IntOp.andi r (g n)) v = 1#1) :
    v = 1#1 ∧ ∀ n ∈ l, g n = 1#1 := by
  induction l generalizing v with
  | nil => exact ⟨h, fun n hn => absurd hn List.not_mem_nil⟩
  | cons a l ih =>
    obtain ⟨h1, h2⟩ := ih _ h
    obtain ⟨hv, ha⟩ := andi_one h1
    refine ⟨hv, fun n hn => ?_⟩
    rcases List.mem_cons.mp hn with rfl | hn
    · exact ha
    · exact h2 n hn

/-- An array whose conjunction is one is all ones. -/
theorem all_one {s u : Shape} {axes : List (Fin s.rank)} (x : IVec s 1) (v : IVec u 1) (h : s.ReducesTo axes ⟨0, ![]⟩) (hu : 0 < u.numel) (j : (⟨0, ![]⟩ : Shape).Idx)
    (e : Host.reduce IntOp.andi x v h hu j = 1#1) (i : s.Idx) : x i = 1#1 := by
  unfold Host.reduce at e
  have := (foldl_andi (fun n => x (s.rowMajor.symm n)) _ _ e).2 (s.rowMajor i) (List.mem_filter.mpr ⟨List.mem_finRange _, by
    rw [decide_eq_true_eq]; exact funext fun a => a.elim0⟩)
  simpa using this

/-- A signed word from 0 up to a bound is its own value, below the bound. -/
theorem lt_of_bounds {n : ℕ} (hn : n < 2 ^ 31) (v : BitVec 32)
    (e : IntOp.andi (IntOp.cmpi .sge v 0#32) (IntOp.cmpi .slt v (BitVec.ofNat 32 n)) = 1#1) : v.toNat < n := by
  obtain ⟨h1, h2⟩ := andi_one e
  simp only [IntOp.cmpi, StableHlo.Predicate.ofBool_eq_one_iff, BitVec.sle_eq_decide, BitVec.slt_eq_decide, decide_eq_true_eq, BitVec.toInt_eq_toNat_cond, BitVec.toNat_ofNat] at h1 h2
  rw [Nat.mod_eq_of_lt (show n < 2 ^ 32 by omega)] at h2
  simp at h1
  omega

end Cert.Proof

end
-- ==== Proof.ScOffI.lean ====
/-
  The gather kernel's integer chains in closed form: which slot, which window of 128 rows and which branch each trip takes,
  as functions of the trip's number.
-/
module

public import proofs.«01_k».proof.Proof.Gen.KernelIdeal
public import proofs.«01_k».proof.Proof.Gen.KernelIdeal.Skeleton

@[expose] public section

noncomputable section

namespace Cert.Proof.GatherIdeal

open Cert.KernelIdeal Cert.KernelIdeal.Gen
open Idealize.ShloMosaic

/-- The first row of window `w` of the processor at `L`. -/
abbrev row0 (L : grid1.Coords) (w : ℕ) : ℕ := 65536 * (L 0).val + 4096 * (L 1).val + 128 * (w % 32)

/-- The values the loop carries into trip `t`. -/
def carry (t : ℕ) : BitVec 32 × BitVec 32 × BitVec 32 × BitVec 32 × BitVec 32 :=
  (BitVec.ofNat 32 (min (t + 1) 32), BitVec.ofNat 32 t, BitVec.ofNat 32 t, BitVec.ofNat 32 (t - 1), BitVec.ofNat 32 (t % 32))

theorem trips_eq : k1_t1_loop.trips = 32 := by decide

theorem off1_eq : k1_off1 = ![0 % 2, 0, 0] := by decide
theorem off2_eq : ∀ L : grid1.Coords, k1_off2 L = ![0, row0 L 0] := by decide +kernel
theorem off3_eq : k1_off3 = ![0 % 2] := by decide
theorem off4_eq : ∀ t : Fin 32, k1_off4 (carry t).1 = ![(t.val + 1) % 2, 0, 0] := by decide +kernel
theorem off6_eq : ∀ t : Fin 32, k1_off6 (carry t).1 = ![(t.val + 1) % 2] := by decide +kernel
theorem off5_eq : ∀ (L : grid1.Coords) (t : Fin 32), k1_off5 L (carry t).2.2.2.2 = ![0, row0 L (t.val + 1)] := by decide +kernel
theorem off7_eq : ∀ t : Fin 32, k1_off7 (carry t).2.1 = ![t.val % 2, 0, 0] := by decide +kernel
theorem off8_eq : ∀ (L : grid1.Coords) (t : Fin 32), k1_off8 L (carry t).2.2.2.2 = ![0, row0 L t.val] := by decide +kernel
theorem off9_eq : ∀ t : Fin 32, k1_off9 (carry t).2.1 = ![t.val % 2] := by decide +kernel
theorem off10_eq : ∀ t : Fin 32, k1_off10 (carry t).2.2.1 = ![t.val % 2, 0, 0] := by decide +kernel
theorem off11_eq : ∀ t : Fin 32, k1_off11 (carry t).2.1 = ![t.val % 2, 0, 0] := by decide +kernel
theorem off12_eq : ∀ t : Fin 32, k1_off12 (carry t).2.2.1 = ![t.val % 2, 0, 0] := by decide +kernel
theorem off13_eq : ∀ (L : grid1.Coords) (t : Fin 32), k1_off13 L (carry t).2.2.2.2 = ![row0 L t.val, 0] := by decide +kernel
theorem off14_eq : ∀ t : Fin 32, k1_off14 (carry t).2.2.1 = ![t.val % 2] := by decide +kernel
theorem off15_eq : ∀ t : Fin 31, k1_off15 (carry (t + 1)).2.2.2.1 = ![t.val % 2, 0, 0] := by decide +kernel
theorem off16_eq : ∀ (L : grid1.Coords) (t : Fin 31), k1_off16 L (carry (t + 1)).2.2.2.2 = ![row0 L t.val, 0] := by decide +kernel
theorem off17_eq : ∀ t : Fin 31, k1_off17 (carry (t + 1)).2.2.2.1 = ![t.val % 2] := by decide +kernel
theorem off18_eq : k1_off18 (carry 32).2.2.2.1 = ![31 % 2, 0, 0] := by decide +kernel
theorem off19_eq : ∀ L : grid1.Coords, k1_off19 L (carry 32).2.2.2.2 = ![row0 L 31, 0] := by decide +kernel
theorem off20_eq : k1_off20 (carry 32).2.2.2.1 = ![31 % 2] := by decide +kernel
theorem off21_eq : k1_off21 (carry 32).2.2.2.1 = ![31 % 2, 0, 0] := by decide +kernel

theorem cond1_iff : ∀ (L : grid1.Coords) (t : Fin 32), k1_cond1 L (Fin.cast trips_eq.symm t) (carry t).2.2.2.2 = 1#1 ↔ t.val < 31 := by decide +kernel
theorem cond2_eq : ∀ (L : grid1.Coords) (t : Fin 32), k1_cond2 L (Fin.cast trips_eq.symm t) (carry t).2.2.2.2 = 1#1 := by decide +kernel
theorem cond5_eq : ∀ (L : grid1.Coords) (t : Fin 32), k1_cond5 L (Fin.cast trips_eq.symm t) (carry t).2.2.2.2 = 1#1 := by decide +kernel
theorem cond7_iff : ∀ (L : grid1.Coords) (t : Fin 32), k1_cond7 L (Fin.cast trips_eq.symm t) (carry t).2.2.2.2 = 1#1 ↔ 0 < t.val := by decide +kernel

theorem inb_in (t : ℕ) : ∀ a, (![t % 2, 0, 0] : Fin 3 → ℕ) a + S1x1x128.size a ≤ S2x1x128.size a := by
  have := Nat.mod_lt t (show 0 < 2 by decide)
  intro a; match a with
  | 0 => show t % 2 + 1 ≤ 2; omega
  | 1 => show 0 + 1 ≤ 1; omega
  | 2 => show 0 + 128 ≤ 128; omega
theorem inb_out (t : ℕ) : ∀ a, (![t % 2, 0, 0] : Fin 3 → ℕ) a + S1x128x16.size a ≤ S2x128x16.size a := by
  have := Nat.mod_lt t (show 0 < 2 by decide)
  intro a; match a with
  | 0 => show t % 2 + 1 ≤ 2; omega
  | 1 => show 0 + 128 ≤ 128; omega
  | 2 => show 0 + 16 ≤ 16; omega
theorem inb_sem (t : ℕ) : ∀ a, (![t % 2] : Fin 1 → ℕ) a + S1.size a ≤ S2.size a := by
  have := Nat.mod_lt t (show 0 < 2 by decide)
  intro a; match a with
  | 0 => show t % 2 + 1 ≤ 2; omega
theorem row0_le (L : grid1.Coords) (w : ℕ) : row0 L w + 128 ≤ 131072 := by
  have h0 : (L 0).val < 2 := (L 0).isLt
  have h1 : (L 1).val < 16 := (L 1).isLt
  have := Nat.mod_lt w (show 0 < 32 by decide)
  unfold row0; omega
theorem inb_idx (L : grid1.Coords) (w : ℕ) : ∀ a, (![0, row0 L w] : Fin 2 → ℕ) a + S1x128.size a ≤ S1x131072.size a := by
  have := row0_le L w
  intro a; match a with
  | 0 => show 0 + 1 ≤ 1; omega
  | 1 => exact this
theorem inb_rows (L : grid1.Coords) (w : ℕ) : ∀ a, (![row0 L w, 0] : Fin 2 → ℕ) a + S128x16.size a ≤ S131072x16.size a := by
  have := row0_le L w
  intro a; match a with
  | 0 => exact this
  | 1 => show 0 + 16 ≤ 16; omega

theorem chk1_of (L : grid1.Coords) (t : Fin 32) :
    k1_chk1 L (Fin.cast trips_eq.symm t) (carry t).1 (carry t).2.1 (carry t).2.2.1 (carry t).2.2.2.1 (carry t).2.2.2.2 := by
  have h7 : ∀ t : Fin 32, 0 < t.val → k1_off15 (carry t).2.2.2.1 = ![(t.val - 1) % 2, 0, 0] ∧ k1_off17 (carry t).2.2.2.1 = ![(t.val - 1) % 2] := by
    decide +kernel
  have h16 : ∀ (L : grid1.Coords) (t : Fin 32), 0 < t.val → k1_off16 L (carry t).2.2.2.2 = ![row0 L (t.val - 1), 0] := by decide +kernel
  refine ⟨fun _ => ?_, fun _ => ?_, fun _ => ?_, fun _ => ?_, fun _ => ?_, fun _ => ?_, fun _ => ?_, fun _ => ?_, fun _ => ?_, fun h => ?_, fun h => ?_, fun h => ?_⟩
  · rw [off4_eq]; exact inb_in _
  · rw [off5_eq]; exact inb_idx _ _
  · rw [off6_eq]; exact inb_sem _
  · rw [off7_eq]; exact inb_in _
  · rw [off8_eq]; exact inb_idx _ _
  · rw [off9_eq]; exact inb_sem _
  · rw [off12_eq]; exact inb_out _
  · rw [off13_eq]; exact inb_rows _ _
  · rw [off14_eq]; exact inb_sem _
  · rw [(h7 t ((cond7_iff L t).mp h)).1]; exact inb_out _
  · rw [h16 L t ((cond7_iff L t).mp h)]; exact inb_rows _ _
  · rw [(h7 t ((cond7_iff L t).mp h)).2]; exact inb_sem _
theorem chk2_of (t : Fin 32) : k1_chk2 (carry t).2.2.1 := by
  unfold k1_chk2; rw [off10_eq]; exact inb_out _
theorem chk3_of (t : Fin 32) : k1_chk3 (carry t).2.1 := by
  unfold k1_chk3; rw [off11_eq]; exact inb_in _
theorem chk4_of : k1_chk4 (carry 32).2.2.2.1 := by decide +kernel
theorem chk5_of (L : grid1.Coords) : k1_chk5 L (carry 32).2.2.2.2 := by
  unfold k1_chk5; rw [off19_eq]; exact inb_rows _ _

end Cert.Proof.GatherIdeal

end
-- ==== Proof.ScStepI.lean ====
/-
  The steps of the gather kernel on one vector subcore, each at a symbolic trip: a window of indices copied in, the rows the
  list names gathered, a window of rows copied out, and the waits.
-/
module

public import proofs.«01_k».proof.Proof.ScOffI
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none
abbrev nCalls : ℕ := 4
abbrev UH : Type := URounds (GSem nD τ sig) ℕ
abbrev UU : Type := UH × (URounds (GSem nD τ sig) Unit × Counters)

local notation "𝕄" => MT nD τ sig (HIx nCalls) (Elt F) ℕ UU ℕ

/-- A window of 128 indices in vector memory: slot `t % 2`. -/
abbrev inSlot (sI : Memref sig .scVector .vmem S2x1x128 .i32) (t : ℕ) : Memref sig .scVector .vmem S1x128 .i32 :=
  (sI.slice (Rect.unit (s := S2x1x128) ![t % 2, 0, 0] S1x1x128.size (inb_in t)) (fun _ => rfl)).squeeze S1x128 squeezes_S1x1x128_S1x128
/-- A window of 128 rows in vector memory: slot `t % 2`. -/
abbrev outSlot (sO : Memref sig .scVector .vmem S2x128x16 .f32) (t : ℕ) : Memref sig .scVector .vmem S128x16 .f32 :=
  (sO.slice (Rect.unit (s := S2x128x16) ![t % 2, 0, 0] S1x128x16.size (inb_out t)) (fun _ => rfl)).squeeze S128x16 squeezes_S1x128x16_S128x16
/-- Semaphore `t % 2` of a pair. -/
abbrev pairSem (sm : DmaSems sig S2) (t : ℕ) : DmaSem sig :=
  ((sm.slice (Rect.unit (s := S2) ![t % 2] S1.size (inb_sem t))).squeeze S_ squeezes_S1_S_).sem
/-- The indices of window `w` of the processor at `L`. -/
abbrev idxWin (aI : Memref sig .scVector .hbm S1x131072 .i32) (L : grid1.Coords) (w : ℕ) : Memref sig .scVector .hbm S1x128 .i32 :=
  aI.slice (Rect.unit (s := S1x131072) ![0, row0 L w] S1x128.size (inb_idx L w)) (fun _ => rfl)
/-- The result's rows of window `w` of the processor at `L`. -/
abbrev outWin (aO : Memref sig .scVector .hbm S131072x16 .f32) (L : grid1.Coords) (w : ℕ) : Memref sig .scVector .hbm S128x16 .f32 :=
  aO.slice (Rect.unit (s := S131072x16) ![row0 L w, 0] S128x16.size (inb_rows L w)) (fun _ => rfl)
/-- The whole table, as the gather names it. -/
abbrev tabWin (aT : Memref sig .scVector .hbm S2609152x16 .f32) : Memref sig .scVector .hbm S2609152x16 .f32 :=
  aT.slice (Rect.unit (s := S2609152x16) ![0, 0] S2609152x16.size inb_S2609152x16_S2609152x16_0_0) (fun _ => rfl)
/-- The list of 128 row numbers, as the gather names slot `t % 2`. -/
abbrev lstSlot (sI : Memref sig .scVector .vmem S2x1x128 .i32) (t : ℕ) : Memref sig .scVector .vmem S128 .i32 :=
  ((inSlot sI t).slice (Rect.unit (s := S1x128) ![0, 0] S1x128.size inb_S1x128_S1x128_0_0) (fun _ => rfl)).squeeze S128 squeezes_S1x128_S128

section Steps

variable (c : Fin τ.nSC) (j : Fin τ.nSub) (d : Dev nD) (L : grid1.Coords)
variable (aT : Memref sig .scVector .hbm S2609152x16 .f32) (aI : Memref sig .scVector .hbm S1x131072 .i32) (aO : Memref sig .scVector .hbm S131072x16 .f32)
variable (sI : Memref sig .scVector .vmem S2x1x128 .i32) (sO : Memref sig .scVector .vmem S2x128x16 .f32)
variable (mI mO : DmaSems sig S2) (mG : DmaSems sig S_)
variable (fT : aT.view.ty.Contents (Elt F)) (fI : aI.view.ty.Contents (Elt F)) (g : aO.view.ty.Contents (Elt F)) (q : PosShare TreeShare)

local notation "thr" => (V d c j : Thread nD τ)
local notation "wp'" => wp frame (wpE (defs₀ (F := F)) 𝒱₀ (V d c j) none) Set.univ

/-- Slot `t % 2` of the index scratch at rest. -/
def InFree (t : ℕ) : sProp 𝕄 :=
  iprop((∃ f, (inSlot sI t).view.loc thr ↦[(inSlot sI t).view.set]{fullShare} f) ∗ semVal (thr, SemLoc.dma (pairSem mI t)) 0)
/-- Slot `t % 2` of the row scratch at rest. -/
def OutFree (t : ℕ) : sProp 𝕄 :=
  iprop((∃ f, (outSlot sO t).view.loc thr ↦[(outSlot sO t).view.set]{fullShare} f) ∗ semVal (thr, SemLoc.dma (pairSem mO t)) 0)
/-- Window `w`'s indices. -/
def idxP (w : ℕ) : sProp 𝕄 := (idxWin aI L w).view.loc thr ↦[(idxWin aI L w).view.set]{fullShare} fI
/-- Window `w`'s rows of the result at `f`. -/
def outP (f : aO.view.ty.Contents (Elt F)) (w : ℕ) : sProp 𝕄 := (outWin aO L w).view.loc thr ↦[(outWin aO L w).view.set]{fullShare} f
/-- The share of the table. -/
def tabP : sProp 𝕄 := (tabWin aT).view.loc thr ↦[(tabWin aT).view.set]{q} fT
/-- Slot `t % 2` of the index scratch holding window `w`'s indices. -/
def InFull (t w : ℕ) : sProp 𝕄 :=
  iprop(∃ f, ⌜(inSlot sI t).view.read (Elt F) f = (idxWin aI L w).view.read (Elt F) fI⌝
    ∗ (inSlot sI t).view.loc thr ↦[(inSlot sI t).view.set]{fullShare} f)
/-- Slot `t % 2` of the row scratch holding window `w`'s rows of `g`. -/
def OutFull (t w : ℕ) : sProp 𝕄 :=
  iprop(∃ f, ⌜(outSlot sO t).view.read (Elt F) f = (outWin aO L w).view.read (Elt F) g⌝
    ∗ (outSlot sO t).view.loc thr ↦[(outSlot sO t).view.set]{fullShare} f)
/-- Window `w`'s indices on their way to slot `t % 2`. -/
def InFly (t w : ℕ) : sProp 𝕄 :=
  Flight countersEmb thr (SemLoc.dma (pairSem mI t)) default (inSlot sI 0).view.dmaCredit
    iprop(InFull (F := F) c j d L aI sI fI t w ∗ idxP (F := F) c j d L aI fI w)
/-- Slot `t % 2`'s rows on their way to window `w` of the result. -/
def OutFly (t w : ℕ) : sProp 𝕄 :=
  Flight countersEmb thr (SemLoc.dma (pairSem mO t)) default (outWin aO L 0).view.dmaCredit
    iprop(outP (F := F) c j d L aO g w ∗ ∃ f, (outSlot sO t).view.loc thr ↦[(outSlot sO t).view.set]{fullShare} f)

theorem in_start {α : Type} {Q : α → sProp 𝕄} {k : PUnit → Prog (TpuEff nD τ sig (Elt F) Λ₀ (.scVector c j)) α} {t w : ℕ}
    {o1 : Fin 3 → ℕ} {o2 : Fin 2 → ℕ} {o3 : Fin 1 → ℕ} (e1 : o1 = ![t % 2, 0, 0]) (e2 : o2 = ![0, row0 L w]) (e3 : o3 = ![t % 2])
    {p1 : ∀ a, o1 a + S1x1x128.size a ≤ S2x1x128.size a} {p2 : ∀ a, o2 a + S1x128.size a ≤ S1x131072.size a} {p3 : ∀ a, o3 a + S1.size a ≤ S2.size a}
    {h1 : (aI.slice (Rect.unit (s := S1x131072) o2 S1x128.size p2) (fun _ => rfl)).view.WordExact}
    {h2 : ((sI.slice (Rect.unit (s := S2x1x128) o1 S1x1x128.size p1) (fun _ => rfl)).squeeze S1x128 squeezes_S1x1x128_S1x128).view.WordExact}
    {h3 : DmaTarget.Typed (nD := nD) (τ := τ) (p := .scVector c j) .hbm (SemLoc.dma ((mI.slice (Rect.unit (s := S2) o3 S1.size p3)).squeeze S_ squeezes_S1_S_).sem)
      (.here ((sI.slice (Rect.unit (s := S2x1x128) o1 S1x1x128.size p1) (fun _ => rfl)).squeeze S1x128 squeezes_S1x1x128_S1x128))} :
    iprop(idxP (F := F) c j d L aI fI w ∗ InFree (F := F) c j d sI mI t)
      ⊢ iprop((InFly (F := F) c j d L aI sI mI fI t w -∗ wp' (k ⟨⟩) Q)
        -∗ wp' (Prog.lift (.enqueueDma (aI.slice (Rect.unit (s := S1x131072) o2 S1x128.size p2) (fun _ => rfl))
            (.here ((sI.slice (Rect.unit (s := S2x1x128) o1 S1x1x128.size p1) (fun _ => rfl)).squeeze S1x128 squeezes_S1x1x128_S1x128))
            (.dma ((mI.slice (Rect.unit (s := S2) o3 S1.size p3)).squeeze S_ squeezes_S1_S_).sem) h1 h2 h3) >>= k) Q) := by
  subst e1 e2 e3
  rw [Prog.bind_lift]
  unfold idxP InFree
  iintro ⟨Hi, ⟨%f, Hs⟩, Hv⟩ Hk
  iapply (Transfers.wp_dmaLocal countersEmb 𝒱₀ thr none (src := idxWin aI L w) (dst := inSlot sI t) (default : HIx nCalls)
    (inSlot sI 0).view.dmaCredit rfl (View.dmaCredit_pos _ (by decide)) (Finset.Subset.refl _)) $$ [Hi Hs Hv]
  · isplitl [Hi]; · iexact Hi
    isplitl [Hs]; · iexact Hs
    iexact Hv
  iintro Hf
  iapply Hk
  unfold InFly
  iapply (Transfers.Flight_mono ?_) $$ Hf
  unfold InFull idxP
  iintro ⟨Hs, Hi⟩
  isplitl [Hs]
  · iexists _
    isplitr
    · ipureintro; exact View.read_write_univ f _
    · iexact Hs
  · iexact Hi

/-- Where element `x` of the list lies in its window. -/
def lstIdx (x : S128.Idx) : S1x128.Idx :=
  (Rect.unit (s := S1x128) ![0, 0] S1x128.size inb_S1x128_S1x128_0_0).emb (Shape.reshapeEquiv squeezes_S1x128_S128.numel_eq x)

omit [FloatOps F] in
theorem lst_read (t : ℕ) (f : (inSlot sI t).view.ty.Contents (Elt F)) (x : S128.Idx) :
    (lstSlot sI t).view.read (Elt F) f x = (inSlot sI t).view.read (Elt F) f (lstIdx x) := rfl

theorem lst_set (t : ℕ) : (lstSlot sI t).view.set = (inSlot sI t).view.set := by
  have h : (Rect.unit (s := S1x128) ![0, 0] S1x128.size inb_S1x128_S1x128_0_0).set = Finset.univ := by
    ext i; simp only [Rect.mem_set_unit, Finset.mem_univ, iff_true]
    intro a; match a with
    | 0 => exact ⟨Nat.zero_le _, by have := (i 0).isLt; show (i 0).val < 0 + _; rw [Nat.zero_add]; exact this⟩
    | 1 => exact ⟨Nat.zero_le _, by have := (i 1).isLt; show (i 1).val < 0 + _; rw [Nat.zero_add]; exact this⟩
  show (((inSlot sI t).view.slice _).reshape _ _).set = _
  rw [View.set_reshape, View.set_slice, h]; rfl

theorem in_wait {α : Type} {Q : α → sProp 𝕄} {k : PUnit → Prog (TpuEff nD τ sig (Elt F) Λ₀ (.scVector c j)) α} {t w : ℕ}
    {O : CellTallies nD τ sig (HIx nCalls)} {W : Waits sig (HIx nCalls)}
    {o1 : Fin 3 → ℕ} {o2 : Fin 2 → ℕ} {o3 : Fin 1 → ℕ} (e3 : o3 = ![t % 2])
    {p1 : ∀ a, o1 a + S1x1x128.size a ≤ S2x1x128.size a} {p2 : ∀ a, o2 a + S1x128.size a ≤ S1x131072.size a} {p3 : ∀ a, o3 a + S1.size a ≤ S2.size a}
    {h1 : (aI.slice (Rect.unit (s := S1x131072) o2 S1x128.size p2) (fun _ => rfl)).view.WordExact}
    {h2 : ((sI.slice (Rect.unit (s := S2x1x128) o1 S1x1x128.size p1) (fun _ => rfl)).squeeze S1x128 squeezes_S1x1x128_S1x128).view.WordExact} :
    iprop(MayWaits thr (default : HIx nCalls) O ∗ InFly (F := F) c j d L aI sI mI fI t w ∗ owes thr O W)
      ⊢ iprop((iprop(InFull (F := F) c j d L aI sI fI t w ∗ idxP (F := F) c j d L aI fI w ∗ semVal (thr, SemLoc.dma (pairSem mI t)) 0
            ∗ owes thr O (insert (SemLoc.dma (pairSem mI t), default) W)) -∗ wp' (k ⟨⟩) Q)
        -∗ wp' (Prog.lift (.waitDma2 ((mI.slice (Rect.unit (s := S2) o3 S1.size p3)).squeeze S_ squeezes_S1_S_).sem
            (aI.slice (Rect.unit (s := S1x131072) o2 S1x128.size p2) (fun _ => rfl))
            ((sI.slice (Rect.unit (s := S2x1x128) o1 S1x1x128.size p1) (fun _ => rfl)).squeeze S1x128 squeezes_S1x1x128_S1x128) h1 h2) >>= k) Q) := by
  subst e3
  rw [Prog.bind_lift]
  unfold InFly
  iintro ⟨#Hm, Hf, HO⟩ Hk
  iapply (Transfers.wp_waitLocalO countersEmb 𝒱₀ thr none (sem := pairSem mI t) (hsrc := h1) (hdst := h2) (default : HIx nCalls) (N := (inSlot sI 0).view.dmaCredit) rfl) $$ [Hf HO]
  · isplitl [Hf]; · iexact Hf
    isplitl [HO]; · iexact HO
    iapply (Transfers.MayWaits.elim (SemLoc.dma (pairSem mI t))) $$ Hm
  iintro ⟨⟨Hs, Hi⟩, Hv, HO⟩
  iapply Hk
  isplitl [Hs]; · iexact Hs
  isplitl [Hi]; · iexact Hi
  isplitl [Hv]; · iexact Hv
  iexact HO

theorem out_start {α : Type} {Q : α → sProp 𝕄} {k : PUnit → Prog (TpuEff nD τ sig (Elt F) Λ₀ (.scVector c j)) α} {t w : ℕ}
    {f0 : aO.view.ty.Contents (Elt F)}
    {o1 : Fin 3 → ℕ} {o2 : Fin 2 → ℕ} {o3 : Fin 1 → ℕ} (e1 : o1 = ![t % 2, 0, 0]) (e2 : o2 = ![row0 L w, 0]) (e3 : o3 = ![t % 2])
    {p1 : ∀ a, o1 a + S1x128x16.size a ≤ S2x128x16.size a} {p2 : ∀ a, o2 a + S128x16.size a ≤ S131072x16.size a} {p3 : ∀ a, o3 a + S1.size a ≤ S2.size a}
    {h1 : ((sO.slice (Rect.unit (s := S2x128x16) o1 S1x128x16.size p1) (fun _ => rfl)).squeeze S128x16 squeezes_S1x128x16_S128x16).view.WordExact}
    {h2 : (aO.slice (Rect.unit (s := S131072x16) o2 S128x16.size p2) (fun _ => rfl)).view.WordExact}
    {h3 : DmaTarget.Typed (nD := nD) (τ := τ) (p := .scVector c j) .vmem (SemLoc.dma ((mO.slice (Rect.unit (s := S2) o3 S1.size p3)).squeeze S_ squeezes_S1_S_).sem)
      (.here (aO.slice (Rect.unit (s := S131072x16) o2 S128x16.size p2) (fun _ => rfl)))} :
    iprop(OutFull (F := F) c j d L aO sO g t w ∗ outP (F := F) c j d L aO f0 w ∗ semVal (thr, SemLoc.dma (pairSem mO t)) 0)
      ⊢ iprop((OutFly (F := F) c j d L aO sO mO g t w -∗ wp' (k ⟨⟩) Q)
        -∗ wp' (Prog.lift (.enqueueDma ((sO.slice (Rect.unit (s := S2x128x16) o1 S1x128x16.size p1) (fun _ => rfl)).squeeze S128x16 squeezes_S1x128x16_S128x16)
            (.here (aO.slice (Rect.unit (s := S131072x16) o2 S128x16.size p2) (fun _ => rfl)))
            (.dma ((mO.slice (Rect.unit (s := S2) o3 S1.size p3)).squeeze S_ squeezes_S1_S_).sem) h1 h2 h3) >>= k) Q) := by
  subst e1 e2 e3
  rw [Prog.bind_lift]
  unfold OutFull outP
  iintro ⟨⟨%f, %hf, Hs⟩, Ho, Hv⟩ Hk
  iapply (Transfers.wp_dmaLocal countersEmb 𝒱₀ thr none (src := outSlot sO t) (dst := outWin aO L w) (default : HIx nCalls)
    (outWin aO L 0).view.dmaCredit rfl (View.dmaCredit_pos _ (by decide)) (Finset.Subset.refl _)) $$ [Hs Ho Hv]
  · isplitl [Hs]; · iexact Hs
    isplitl [Ho]; · iexact Ho
    iexact Hv
  iintro Hf
  iapply Hk
  unfold OutFly
  iapply (Transfers.Flight_mono ?_) $$ Hf
  unfold outP
  iintro ⟨Ho, Hs⟩
  isplitl [Ho]
  · iapply (Entails.of_eq (pointsTo_congr fun i hi => ?_)) $$ Ho
    obtain ⟨x, -, rfl⟩ := Finset.mem_map.mp hi
    have h := congrFun hf x
    rw [View.write_emb_of_mem _ _ (Finset.mem_univ x)]
    show _root_.cast _ ((outSlot sO t).view.read (Elt F) f x) = _
    rw [h, View.read_apply]
    simp
  · iexists _; iexact Hs

theorem out_wait {α : Type} {Q : α → sProp 𝕄} {k : PUnit → Prog (TpuEff nD τ sig (Elt F) Λ₀ (.scVector c j)) α} {t w : ℕ}
    {O : CellTallies nD τ sig (HIx nCalls)} {W : Waits sig (HIx nCalls)}
    {o1 : Fin 3 → ℕ} {o2 : Fin 2 → ℕ} {o3 : Fin 1 → ℕ} (e3 : o3 = ![t % 2])
    {p1 : ∀ a, o1 a + S1x128x16.size a ≤ S2x128x16.size a} {p2 : ∀ a, o2 a + S128x16.size a ≤ S131072x16.size a} {p3 : ∀ a, o3 a + S1.size a ≤ S2.size a}
    {h1 : ((sO.slice (Rect.unit (s := S2x128x16) o1 S1x128x16.size p1) (fun _ => rfl)).squeeze S128x16 squeezes_S1x128x16_S128x16).view.WordExact}
    {h2 : (aO.slice (Rect.unit (s := S131072x16) o2 S128x16.size p2) (fun _ => rfl)).view.WordExact} :
    iprop(MayWaits thr (default : HIx nCalls) O ∗ OutFly (F := F) c j d L aO sO mO g t w ∗ owes thr O W)
      ⊢ iprop((iprop(outP (F := F) c j d L aO g w ∗ OutFree (F := F) c j d sO mO t
            ∗ owes thr O (insert (SemLoc.dma (pairSem mO t), default) W)) -∗ wp' (k ⟨⟩) Q)
        -∗ wp' (Prog.lift (.waitDma2 ((mO.slice (Rect.unit (s := S2) o3 S1.size p3)).squeeze S_ squeezes_S1_S_).sem
            ((sO.slice (Rect.unit (s := S2x128x16) o1 S1x128x16.size p1) (fun _ => rfl)).squeeze S128x16 squeezes_S1x128x16_S128x16)
            (aO.slice (Rect.unit (s := S131072x16) o2 S128x16.size p2) (fun _ => rfl)) h1 h2) >>= k) Q) := by
  subst e3
  rw [Prog.bind_lift]
  unfold OutFly
  iintro ⟨#Hm, Hf, HO⟩ Hk
  iapply (Transfers.wp_waitLocalO countersEmb 𝒱₀ thr none (sem := pairSem mO t) (hsrc := h1) (hdst := h2) (default : HIx nCalls) (N := (outWin aO L 0).view.dmaCredit) rfl) $$ [Hf HO]
  · isplitl [Hf]; · iexact Hf
    isplitl [HO]; · iexact HO
    iapply (Transfers.MayWaits.elim (SemLoc.dma (pairSem mO t))) $$ Hm
  iintro ⟨⟨Ho, Hs⟩, Hv, HO⟩
  iapply Hk
  isplitl [Ho]; · iexact Ho
  isplitl [Hs Hv]
  · unfold OutFree
    isplitl [Hs]; · iexact Hs
    iexact Hv
  iexact HO

/-- The list's row numbers, as window `w` of the indices gives them. -/
def winRow (w : ℕ) (x : S128.Idx) : Elt F .i32 := (idxWin aI L w).view.read (Elt F) fI (lstIdx x)

/-- What the theorem of the kernel asks of its operands: window `w`'s indices are rows of the table, and `g`'s window is those rows. -/
structure Spec (w : ℕ) : Prop where
  hin : ∀ x : S128.Idx, (winRow (F := F) L aI fI w x).toNat < S2609152x16.size gathers_S2609152x16_S128x16.axis
  hg : (outWin aO L w).view.read (Elt F) g
    = SparseCore.gatherPayload gathers_S2609152x16_S128x16 ((tabWin aT).view.read (Elt F) fT) (SparseCore.rows (winRow (F := F) L aI fI w) rfl hin)

variable {aT aI aO fT fI g L}

theorem gather {α : Type} {Q : α → sProp 𝕄} {k : PUnit → Prog (TpuEff nD τ sig (Elt F) Λ₀ (.scVector c j)) α} {t w : ℕ}
    (hw : Spec (F := F) L aT aI aO fT fI g w)
    {O : CellTallies nD τ sig (HIx nCalls)} {W : Waits sig (HIx nCalls)}
    {o1 o1' o2 : Fin 3 → ℕ} (e1 : o1 = ![t % 2, 0, 0]) (e2 : o2 = ![t % 2, 0, 0])
    {p1 : ∀ a, o1 a + S1x128x16.size a ≤ S2x128x16.size a} {p1' : ∀ a, o1' a + S1x128x16.size a ≤ S2x128x16.size a} {p2 : ∀ a, o2 a + S1x1x128.size a ≤ S2x1x128.size a}
    {h1 : (tabWin aT).view.WordExact} {h2 : EltTy.f32.bits = 32} {h3 : Space.hbm = Space.hbm ∨ Space.hbm = Space.shared} {hp : (Proc.scVector c j : Proc τ).kind = .scVector} {hr : S2609152x16.StreamRows 0} {h4 : (tabWin aT).view.WordExact}
    {h5 : ((sO.slice (Rect.unit (s := S2x128x16) o1' S1x128x16.size p1') (fun _ => rfl)).squeeze S128x16 squeezes_S1x128x16_S128x16).view.WordExact} :
    iprop(MayWaits thr (default : HIx nCalls) O ∗ tabP (F := F) c j d aT fT q ∗ InFull (F := F) c j d L aI sI fI t w ∗ OutFree (F := F) c j d sO mO t
        ∗ semVal (thr, SemLoc.dma mG.sem) 0 ∗ owes thr O W)
      ⊢ iprop((iprop(tabP (F := F) c j d aT fT q ∗ (∃ f, (inSlot sI t).view.loc thr ↦[(inSlot sI t).view.set]{fullShare} f) ∗ OutFull (F := F) c j d L aO sO g t w
            ∗ semVal (thr, SemLoc.dma (pairSem mO t)) 0
            ∗ semVal (thr, SemLoc.dma mG.sem) 0 ∗ owes thr O (insert (SemLoc.dma mG.sem, default) W)) -∗ wp' (k ⟨⟩) Q)
        -∗ wp' (SparseCore.enqueueIndirectGather hp (tabWin aT)
            ((sO.slice (Rect.unit (s := S2x128x16) o1 S1x128x16.size p1) (fun _ => rfl)).squeeze S128x16 squeezes_S1x128x16_S128x16)
            gathers_S2609152x16_S128x16
            ((((sI.slice (Rect.unit (s := S2x1x128) o2 S1x1x128.size p2) (fun _ => rfl)).squeeze S1x128 squeezes_S1x1x128_S1x128).slice
              (Rect.unit (s := S1x128) ![0, 0] S1x128.size inb_S1x128_S1x128_0_0) (fun _ => rfl)).squeeze S128 squeezes_S1x128_S128) rfl mG.sem h1 h2 h3 hr
          >>= fun _ => SparseCore.waitIndirectGather mG.sem (tabWin aT)
            ((sO.slice (Rect.unit (s := S2x128x16) o1' S1x128x16.size p1') (fun _ => rfl)).squeeze S128x16 squeezes_S1x128x16_S128x16) h4 h5 >>= k) Q) := by
  subst e1 e2
  unfold tabP InFull OutFree
  iintro ⟨#Hm, Ht, ⟨%f, %hf, Hs⟩, ⟨⟨%f', Ho⟩, Hv⟩, Hg, HO⟩ Hk
  have hl : (lstSlot sI t).view.read (Elt F) f = winRow (F := F) L aI fI w := by
    funext x; exact (lst_read sI t f x).trans (congrFun hf (lstIdx x))
  have hin : ∀ x, ((lstSlot sI t).view.read (Elt F) f x).toNat < S2609152x16.size gathers_S2609152x16_S128x16.axis := by
    intro x; rw [hl]; exact hw.hin x
  iapply (SparseCore.wp_indirectGatherLocal countersEmb 𝒱₀ thr none (src := tabWin aT) (dst := outSlot sO t) (hg := gathers_S2609152x16_S128x16)
    (offs := lstSlot sI t) (hn := rfl) (sem := mG.sem) (hp := hp) (hsrc := h1) (he := h2) (hsp := h3) (hr := hr) (default : HIx nCalls) (outSlot sO 0).view.dmaCredit
    (SparseCore.sum_rowCredit_eq_dmaCredit (outSlot sO t) gathers_S2609152x16_S128x16.axis' fun _ => rfl) (by decide) hin) $$ [Ht Ho Hs Hg]
  · isplitl [Ht]; · iexact Ht
    isplitl [Ho]; · iexact Ho
    isplitl [Hs]
    · rw [lst_set]; iexact Hs
    iexact Hg
  iintro Hf
  unfold SparseCore.waitIndirectGather
  rw [Prog.bind_op]
  iapply (Transfers.wp_waitLocalO countersEmb 𝒱₀ thr none (sem := mG.sem) (hsrc := h4) (hdst := h5) (default : HIx nCalls) (N := (outSlot sO 0).view.dmaCredit) rfl) $$ [Hf HO]
  · isplitl [Hf]; · iexact Hf
    isplitl [HO]; · iexact HO
    iapply (Transfers.MayWaits.elim (SemLoc.dma mG.sem)) $$ Hm
  iintro ⟨⟨Ho, Ht, Hs⟩, Hg, HO⟩
  rw [Prog.bind_ret]
  iapply Hk
  isplitl [Ht]; · iexact Ht
  isplitl [Hs]
  · iexists f; rw [← lst_set]; iexact Hs
  isplitl [Ho]
  · unfold OutFull
    iexists (outSlot sO t).view.write (Elt F) f' (SparseCore.gatherPayload gathers_S2609152x16_S128x16 ((tabWin aT).view.read (Elt F) fT)
      (SparseCore.rows ((lstSlot sI t).view.read (Elt F) f) rfl hin)) Finset.univ
    isplitr
    · ipureintro
      refine (View.read_write_univ (v := (outSlot sO t).view) _ _).trans ?_
      rw [hw.hg]; congr 2
    · iexact Ho
  isplitl [Hv]; · iexact Hv
  isplitl [Hg]; · iexact Hg
  iexact HO

end Steps

end Cert.Proof.GatherIdeal

end
-- ==== Proof.ScTripI.lean ====
/-
  One trip of the gather kernel's loop, and the loop.
-/
module

public import proofs.«01_k».proof.Proof.ScStepI

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

section Trip

variable (d : Dev nD) (L : grid1.Coords)
variable (aT : Memref sig .scVector .hbm S2609152x16 .f32) (aI : Memref sig .scVector .hbm S1x131072 .i32) (aO : Memref sig .scVector .hbm S131072x16 .f32)
variable (sI : Memref sig .scVector .vmem S2x1x128 .i32) (sO : Memref sig .scVector .vmem S2x128x16 .f32)
variable (mI mO : DmaSems sig S2) (mG : DmaSems sig S_)
variable (fT : aT.view.ty.Contents (Elt F)) (fI : aI.view.ty.Contents (Elt F)) (f0 g : aO.view.ty.Contents (Elt F)) (q : PosShare TreeShare)
variable (O : CellTallies nD τ sig (HIx nCalls)) (W : Waits sig (HIx nCalls))

abbrev cV (L : grid1.Coords) : Fin τ.nSC := (L 0).castLE hcore1
abbrev jV (L : grid1.Coords) : Fin τ.nSub := (L 1).castLE hsub1

local notation "thr" => (V d (cV L) (jV L) : Thread nD τ)
local notation "wp'" => wp frame (wpE (defs₀ (F := F)) 𝒱₀ (V d (cV L) (jV L)) none) Set.univ

theorem InFree_congr {c : Fin τ.nSC} {j : Fin τ.nSub} {t t' : ℕ} (h : t % 2 = t' % 2) :
    InFree (F := F) c j d sI mI t = InFree (F := F) c j d sI mI t' := by
  have key : ∀ (n n' : ℕ) (p : ∀ a, (![n, 0, 0] : Fin 3 → ℕ) a + S1x1x128.size a ≤ S2x1x128.size a) (p' : ∀ a, (![n', 0, 0] : Fin 3 → ℕ) a + S1x1x128.size a ≤ S2x1x128.size a)
      (r : ∀ a, (![n] : Fin 1 → ℕ) a + S1.size a ≤ S2.size a) (r' : ∀ a, (![n'] : Fin 1 → ℕ) a + S1.size a ≤ S2.size a), n = n' →
      (iprop((∃ f, ((sI.slice (Rect.unit (s := S2x1x128) ![n, 0, 0] S1x1x128.size p) (fun _ => rfl)).squeeze S1x128 squeezes_S1x1x128_S1x128).view.loc (V d c j)
          ↦[((sI.slice (Rect.unit (s := S2x1x128) ![n, 0, 0] S1x1x128.size p) (fun _ => rfl)).squeeze S1x128 squeezes_S1x1x128_S1x128).view.set]{fullShare} f)
        ∗ semVal (V d c j, SemLoc.dma ((mI.slice (Rect.unit (s := S2) ![n] S1.size r)).squeeze S_ squeezes_S1_S_).sem) 0) : sProp 𝕄)
      = iprop((∃ f, ((sI.slice (Rect.unit (s := S2x1x128) ![n', 0, 0] S1x1x128.size p') (fun _ => rfl)).squeeze S1x128 squeezes_S1x1x128_S1x128).view.loc (V d c j)
          ↦[((sI.slice (Rect.unit (s := S2x1x128) ![n', 0, 0] S1x1x128.size p') (fun _ => rfl)).squeeze S1x128 squeezes_S1x1x128_S1x128).view.set]{fullShare} f)
        ∗ semVal (V d c j, SemLoc.dma ((mI.slice (Rect.unit (s := S2) ![n'] S1.size r')).squeeze S_ squeezes_S1_S_).sem) 0) := by
    rintro n _ p p' r r' rfl; rfl
  exact key _ _ (inb_in t) (inb_in t') (inb_sem t) (inb_sem t') h

theorem OutFree_congr {c : Fin τ.nSC} {j : Fin τ.nSub} {t t' : ℕ} (h : t % 2 = t' % 2) :
    OutFree (F := F) c j d sO mO t = OutFree (F := F) c j d sO mO t' := by
  have key : ∀ (n n' : ℕ) (p : ∀ a, (![n, 0, 0] : Fin 3 → ℕ) a + S1x128x16.size a ≤ S2x128x16.size a) (p' : ∀ a, (![n', 0, 0] : Fin 3 → ℕ) a + S1x128x16.size a ≤ S2x128x16.size a)
      (r : ∀ a, (![n] : Fin 1 → ℕ) a + S1.size a ≤ S2.size a) (r' : ∀ a, (![n'] : Fin 1 → ℕ) a + S1.size a ≤ S2.size a), n = n' →
      (iprop((∃ f, ((sO.slice (Rect.unit (s := S2x128x16) ![n, 0, 0] S1x128x16.size p) (fun _ => rfl)).squeeze S128x16 squeezes_S1x128x16_S128x16).view.loc (V d c j)
          ↦[((sO.slice (Rect.unit (s := S2x128x16) ![n, 0, 0] S1x128x16.size p) (fun _ => rfl)).squeeze S128x16 squeezes_S1x128x16_S128x16).view.set]{fullShare} f)
        ∗ semVal (V d c j, SemLoc.dma ((mO.slice (Rect.unit (s := S2) ![n] S1.size r)).squeeze S_ squeezes_S1_S_).sem) 0) : sProp 𝕄)
      = iprop((∃ f, ((sO.slice (Rect.unit (s := S2x128x16) ![n', 0, 0] S1x128x16.size p') (fun _ => rfl)).squeeze S128x16 squeezes_S1x128x16_S128x16).view.loc (V d c j)
          ↦[((sO.slice (Rect.unit (s := S2x128x16) ![n', 0, 0] S1x128x16.size p') (fun _ => rfl)).squeeze S128x16 squeezes_S1x128x16_S128x16).view.set]{fullShare} f)
        ∗ semVal (V d c j, SemLoc.dma ((mO.slice (Rect.unit (s := S2) ![n'] S1.size r')).squeeze S_ squeezes_S1_S_).sem) 0) := by
    rintro n _ p p' r r' rfl; rfl
  exact key _ _ (inb_out t) (inb_out t') (inb_sem t) (inb_sem t') h

/-- The windows of indices at rest before trip `t`: all but window `t`. -/
def IdxR (t : ℕ) : sProp 𝕄 := bigSep ((Finset.range 32).erase t) (idxP (F := F) (cV L) (jV L) d L aI fI)
/-- and with window `t + 1` away too. -/
def IdxM (t : ℕ) : sProp 𝕄 := bigSep (((Finset.range 32).erase t).erase (t + 1)) (idxP (F := F) (cV L) (jV L) d L aI fI)
/-- A window of rows at trip `t`: gathered where the window's turn is over. -/
def outAt (t w : ℕ) : sProp 𝕄 := outP (F := F) (cV L) (jV L) d L aO (if w < t then g else f0) w
/-- The windows of rows at rest before trip `t`: all but window `t - 1`. -/
def OutR (t : ℕ) : sProp 𝕄 := bigSep ((Finset.range 32).filter fun w => w + 1 ≠ t) (outAt d L aO f0 g t)
/-- and with window `t` away too. -/
def OutM (t : ℕ) : sProp 𝕄 := bigSep ((Finset.range 32).filter fun w => w + 1 ≠ t ∧ w ≠ t) (outAt d L aO f0 g t)

theorem IdxR_take {t : ℕ} (h : t < 31) : IdxR d L aI fI t ⊢ iprop(idxP (F := F) (cV L) (jV L) d L aI fI (t + 1) ∗ IdxM d L aI fI t) := by
  unfold IdxR IdxM
  exact Entails.of_eq (SparseCore.bigSep_erase' (Finset.mem_erase.mpr ⟨by omega, Finset.mem_range.mpr (by omega)⟩))
theorem IdxR_last : IdxR d L aI fI 31 = IdxM d L aI fI 31 := by
  unfold IdxR IdxM
  rw [Finset.erase_eq_of_notMem (a := 31 + 1)]; simp
theorem IdxM_put {t : ℕ} (h : t < 32) : iprop(idxP (F := F) (cV L) (jV L) d L aI fI t ∗ IdxM d L aI fI t) ⊢ IdxR d L aI fI (t + 1) := by
  unfold IdxR IdxM
  rw [Finset.erase_right_comm]
  exact Entails.of_eq (SparseCore.bigSep_erase' (Finset.mem_erase.mpr ⟨by omega, Finset.mem_range.mpr h⟩)).symm

theorem OutR_take {t : ℕ} (h : t < 32) :
    OutR d L aO f0 g t ⊢ iprop(outP (F := F) (cV L) (jV L) d L aO f0 t ∗ OutM d L aO f0 g t) := by
  unfold OutR OutM
  refine (Entails.of_eq (SparseCore.bigSep_erase' (i := t) (Finset.mem_filter.mpr ⟨Finset.mem_range.mpr h, by omega⟩))).trans ?_
  rw [show ((Finset.range 32).filter fun w => w + 1 ≠ t).erase t = (Finset.range 32).filter fun w => w + 1 ≠ t ∧ w ≠ t by
    ext w; simp only [Finset.mem_erase, Finset.mem_filter]; tauto]
  unfold outAt; rw [if_neg (lt_irrefl t)]
theorem OutM_congr (t : ℕ) : OutM d L aO f0 g t = bigSep ((Finset.range 32).filter fun w => w + 1 ≠ t ∧ w ≠ t) (outAt d L aO f0 g (t + 1)) := by
  unfold OutM
  refine bigSep_congr fun w hw => ?_
  have h := (Finset.mem_filter.mp hw).2.2
  simp only [outAt, show (w < t + 1) ↔ (w < t) by omega]
theorem OutM_zero : OutM d L aO f0 g 0 ⊢ OutR d L aO f0 g 1 := by
  rw [OutM_congr]; unfold OutR
  rw [show ((Finset.range 32).filter fun w => w + 1 ≠ 0 ∧ w ≠ 0) = (Finset.range 32).filter fun w => w + 1 ≠ 0 + 1 by
    ext w; simp only [Finset.mem_filter, Finset.mem_range]; omega]
theorem OutM_put {t : ℕ} (h : t < 32) (h0 : 0 < t) :
    iprop(outP (F := F) (cV L) (jV L) d L aO g (t - 1) ∗ OutM d L aO f0 g t) ⊢ OutR d L aO f0 g (t + 1) := by
  rw [OutM_congr]; unfold OutR
  refine BI.Entails.trans ?_ (Entails.of_eq (SparseCore.bigSep_erase' (i := t - 1) (Finset.mem_filter.mpr ⟨Finset.mem_range.mpr (by omega), by omega⟩)).symm)
  rw [show ((Finset.range 32).filter fun w => w + 1 ≠ t + 1).erase (t - 1) = (Finset.range 32).filter fun w => w + 1 ≠ t ∧ w ≠ t by
    ext w; simp only [Finset.mem_erase, Finset.mem_filter, Finset.mem_range]; omega]
  rw [show outAt d L aO f0 g (t + 1) (t - 1) = outP (F := F) (cV L) (jV L) d L aO g (t - 1) by unfold outAt; rw [if_pos (by omega)]]
  exact BI.Entails.refl _

/-- Window `t`'s indices at trip `t`: on their way, and nothing past the last window. -/
def InA (t : ℕ) : sProp 𝕄 :=
  if t < 32 then InFly (F := F) (cV L) (jV L) d L aI sI mI fI t t else InFree (F := F) (cV L) (jV L) d sI mI t
/-- Window `t - 1`'s rows at trip `t`: on their way, and nothing before the first window. -/
def OutA (t : ℕ) : sProp 𝕄 :=
  if 0 < t then OutFly (F := F) (cV L) (jV L) d L aO sO mO g (t - 1) (t - 1) else OutFree (F := F) (cV L) (jV L) d sO mO (t + 1)

/-- What holds before trip `t`. -/
def Inv (t : ℕ) (acc : BitVec 32 × BitVec 32 × BitVec 32 × BitVec 32 × BitVec 32) : sProp 𝕄 :=
  iprop(⌜acc = carry t⌝ ∗ MayWaits thr (default : HIx nCalls) O ∗ tabP (F := F) (cV L) (jV L) d aT fT q
    ∗ InA d L aI sI mI fI t ∗ InFree (F := F) (cV L) (jV L) d sI mI (t + 1) ∗ IdxR d L aI fI t
    ∗ OutA d L aO sO mO g t ∗ OutFree (F := F) (cV L) (jV L) d sO mO t ∗ OutR d L aO f0 g t
    ∗ semVal (thr, SemLoc.dma mG.sem) 0
    ∗ ∃ W', ⌜∀ p ∈ W', p ∈ W ∨ p.2 = none⌝ ∗ owes thr O W')

variable {aT aI aO fT fI g L}

theorem branch {p : Prop} [Decidable p] {α : Type} {Q : α → sProp 𝕄} {A : p → Prog (TpuEff nD τ sig (Elt F) Λ₀ (.scVector (cV L) (jV L))) α}
    {B : Prog (TpuEff nD τ sig (Elt F) Λ₀ (.scVector (cV L) (jV L))) α} {R R' : sProp 𝕄}
    (h1 : ∀ h : p, R ⊢ iprop((R' -∗ wp' B Q) -∗ wp' (A h) Q)) (h2 : ¬ p → R ⊢ R') :
    R ⊢ iprop((R' -∗ wp' B Q) -∗ wp' (if h : p then A h else B) Q) := by
  by_cases h : p
  · rw [dif_pos h]; exact h1 h
  · rw [dif_neg h]
    iintro HR Hk
    iapply Hk
    iapply (h2 h) $$ HR

theorem branch_bind {p : Prop} [Decidable p] {α β : Type} {Q : α → sProp 𝕄} {A : p → Prog (TpuEff nD τ sig (Elt F) Λ₀ (.scVector (cV L) (jV L))) PUnit}
    {b : β} {k : β → Prog (TpuEff nD τ sig (Elt F) Λ₀ (.scVector (cV L) (jV L))) α} {R R' : sProp 𝕄}
    (h1 : ∀ (h : p) (k' : PUnit → Prog (TpuEff nD τ sig (Elt F) Λ₀ (.scVector (cV L) (jV L))) α), R ⊢ iprop((R' -∗ wp' (k' ⟨⟩) Q) -∗ wp' (A h >>= k') Q))
    (h2 : ¬ p → R ⊢ R') :
    R ⊢ iprop((R' -∗ wp' (k b) Q) -∗ wp' ((if h : p then A h >>= fun _ => pure b else pure b) >>= k) Q) := by
  by_cases h : p
  · rw [dif_pos h, Prog.bind_assoc]; exact h1 h (fun _ => k b)
  · rw [dif_neg h]
    iintro HR Hk
    iapply Hk
    iapply (h2 h) $$ HR

theorem InA_fly {t : ℕ} (h : t < 32) : InA d L aI sI mI fI t = InFly (F := F) (cV L) (jV L) d L aI sI mI fI t t := if_pos h
theorem InA_none {t : ℕ} (h : ¬ t < 32) : InA d L aI sI mI fI t = InFree (F := F) (cV L) (jV L) d sI mI t := if_neg h
theorem OutA_fly {t : ℕ} (h : 0 < t) : OutA d L aO sO mO g t = OutFly (F := F) (cV L) (jV L) d L aO sO mO g (t - 1) (t - 1) := if_pos h
theorem OutA_none {t : ℕ} (h : ¬ 0 < t) : OutA d L aO sO mO g t = OutFree (F := F) (cV L) (jV L) d sO mO (t + 1) := if_neg h

theorem branch_pure {p : Prop} [Decidable p] {β : Type} {Q : β → sProp 𝕄} {A : p → Prog (TpuEff nD τ sig (Elt F) Λ₀ (.scVector (cV L) (jV L))) PUnit}
    {b : β} {R R' : sProp 𝕄}
    (h1 : ∀ (h : p) (k' : PUnit → Prog (TpuEff nD τ sig (Elt F) Λ₀ (.scVector (cV L) (jV L))) β), R ⊢ iprop((R' -∗ wp' (k' ⟨⟩) Q) -∗ wp' (A h >>= k') Q))
    (h2 : ¬ p → R ⊢ R') :
    R ⊢ iprop((R' -∗ wp' (pure b) Q) -∗ wp' (if h : p then A h >>= fun _ => pure b else pure b) Q) := by
  by_cases h : p
  · rw [dif_pos h]; exact h1 h (fun _ => pure b)
  · rw [dif_neg h]
    iintro HR Hk
    iapply Hk
    iapply (h2 h) $$ HR

/-- The number of the first window of the processor at `L`, as the kernel computes it. -/
abbrev win0 (L : grid1.Coords) : BitVec 32 :=
  Scalar.muli (Scalar.addi (Scalar.addi 0#32 (Scalar.muli (BitVec.ofNat 32 (L 1).val) 1#32)) (Scalar.muli (BitVec.ofNat 32 (L 0).val) 16#32)) 32#32

/-- Copy `t + 1` of the indices is issued where there is one. -/
theorem trip_in {α : Type} {Q : α → sProp 𝕄} {k : PUnit → Prog (TpuEff nD τ sig (Elt F) Λ₀ (.scVector (cV L) (jV L))) α} {t : ℕ} (ht : t < 31)
    {o1 : Fin 3 → ℕ} {o2 : Fin 2 → ℕ} {o3 : Fin 1 → ℕ} (e1 : o1 = ![(t + 1) % 2, 0, 0]) (e2 : o2 = ![0, row0 L (t + 1)]) (e3 : o3 = ![(t + 1) % 2])
    {p1 : ∀ a, o1 a + S1x1x128.size a ≤ S2x1x128.size a} {p2 : ∀ a, o2 a + S1x128.size a ≤ S1x131072.size a} {p3 : ∀ a, o3 a + S1.size a ≤ S2.size a}
    {h1 : (aI.slice (Rect.unit (s := S1x131072) o2 S1x128.size p2) (fun _ => rfl)).view.WordExact}
    {h2 : ((sI.slice (Rect.unit (s := S2x1x128) o1 S1x1x128.size p1) (fun _ => rfl)).squeeze S1x128 squeezes_S1x1x128_S1x128).view.WordExact}
    {h3 : DmaTarget.Typed (nD := nD) (τ := τ) (p := .scVector (cV L) (jV L)) .hbm (SemLoc.dma ((mI.slice (Rect.unit (s := S2) o3 S1.size p3)).squeeze S_ squeezes_S1_S_).sem)
      (.here ((sI.slice (Rect.unit (s := S2x1x128) o1 S1x1x128.size p1) (fun _ => rfl)).squeeze S1x128 squeezes_S1x1x128_S1x128))} :
    iprop(IdxR d L aI fI t ∗ InFree (F := F) (cV L) (jV L) d sI mI (t + 1))
      ⊢ iprop((iprop(IdxM d L aI fI t ∗ InA d L aI sI mI fI (t + 1)) -∗ wp' (k ⟨⟩) Q)
        -∗ wp' (Prog.lift (.enqueueDma (aI.slice (Rect.unit (s := S1x131072) o2 S1x128.size p2) (fun _ => rfl))
            (.here ((sI.slice (Rect.unit (s := S2x1x128) o1 S1x1x128.size p1) (fun _ => rfl)).squeeze S1x128 squeezes_S1x1x128_S1x128))
            (.dma ((mI.slice (Rect.unit (s := S2) o3 S1.size p3)).squeeze S_ squeezes_S1_S_).sem) h1 h2 h3) >>= k) Q) := by
  iintro ⟨Hx, Hf⟩ Hk
  ihave Hx' := (IdxR_take d L aI fI ht) $$ Hx
  icases Hx' with ⟨Hi, Hx⟩
  iapply (in_start (F := F) (cV L) (jV L) d L aI sI mI fI e1 e2 e3) $$ [Hi Hf]
  · isplitl [Hi]; · iexact Hi
    iexact Hf
  iintro Hfly
  iapply Hk
  isplitl [Hx]; · iexact Hx
  unfold InA; rw [if_pos (by omega)]
  iexact Hfly

theorem trip_in_none {t : ℕ} (ht : t < 32) (h : ¬ t < 31) :
    iprop(IdxR d L aI fI t ∗ InFree (F := F) (cV L) (jV L) d sI mI (t + 1)) ⊢ iprop(IdxM d L aI fI t ∗ InA d L aI sI mI fI (t + 1)) := by
  obtain rfl : t = 31 := by omega
  unfold InA; rw [IdxR_last, if_neg (by omega)]

/-- The step number after `v`, and the one before, as the kernel computes them. -/
abbrev nextStep (v : BitVec 32) : BitVec 32 :=
  Scalar.select (Scalar.cmpi .eq (Scalar.select 1#1 (Scalar.addi v 1#32) v) 32#32) 0#32 (Scalar.select 1#1 (Scalar.addi v 1#32) v)
@[inherit_doc nextStep] abbrev prevStep (v : BitVec 32) : BitVec 32 :=
  Scalar.select (Scalar.cmpi .eq (Scalar.select 1#1 (Scalar.subi v 1#32) v) 4294967295#32) 31#32 (Scalar.select 1#1 (Scalar.subi v 1#32) v)

/-- The numbers carried to the next trip. -/
theorem carry_succ : ∀ (L : grid1.Coords) (t : Fin 32),
    (let v := BitVec.ofNat 32 (t.val % 32)
     let iv := Scf.iv 0#32 1#32 t.val
     let ne := Scalar.cmpi .ne (Scalar.addi v (win0 L)) (Scalar.addi (nextStep v) (win0 L))
     let a := BitVec.ofNat 32 (min (t.val + 1) 32)
     let b := BitVec.ofNat 32 t.val
     let e := BitVec.ofNat 32 (t.val - 1)
     let last := Scalar.cmpi .eq iv 31#32
     ((Scalar.select (Scalar.andi (Scalar.andi ne (Scalar.xori (Scalar.cmpi .sge iv 31#32) 1#1)) 1#1) (Scalar.addi a 1#32) a,
       Scalar.select (Scalar.ori ne last) (Scalar.addi b 1#32) b,
       Scalar.select (Scalar.andi (Scalar.ori ne last) 1#1) (Scalar.addi b 1#32) b,
       Scalar.select (Scalar.andi (Scalar.andi (Scalar.cmpi .ne (Scalar.addi v (win0 L)) (Scalar.addi (prevStep v) (win0 L)))
         (Scalar.xori (Scalar.cmpi .eq iv 0#32) 1#1)) 1#1) (Scalar.addi e 1#32) e,
       nextStep v) : BitVec 32 × BitVec 32 × BitVec 32 × BitVec 32 × BitVec 32)) = carry (t + 1) := by decide +kernel

theorem off17_of : ∀ t : Fin 32, 0 < t.val → k1_off17 (carry t).2.2.2.1 = ![(t.val - 1) % 2] := by decide +kernel

/-- What the end of trip `t` starts from, and what it leaves. -/
def EndA (t : ℕ) : sProp 𝕄 :=
  iprop(MayWaits thr (default : HIx nCalls) O ∗ OutA d L aO sO mO g t ∗ OutM d L aO f0 g t
    ∗ ∃ W', ⌜∀ p ∈ W', p ∈ W ∨ p.2 = none⌝ ∗ owes thr O W')
@[inherit_doc EndA] def EndB (t : ℕ) : sProp 𝕄 :=
  iprop(OutFree (F := F) (cV L) (jV L) d sO mO (t + 1) ∗ OutR d L aO f0 g (t + 1)
    ∗ ∃ W', ⌜∀ p ∈ W', p ∈ W ∨ p.2 = none⌝ ∗ owes thr O W')

/-- The wait for the rows sent out by the trip before. -/
theorem trip_out {α : Type} {Q : α → sProp 𝕄} {k : PUnit → Prog (TpuEff nD τ sig (Elt F) Λ₀ (.scVector (cV L) (jV L))) α} {t : ℕ} (ht : t < 32) (h0 : 0 < t)
    {o1 : Fin 3 → ℕ} {o2 : Fin 2 → ℕ} {o3 : Fin 1 → ℕ} (e3 : o3 = ![(t - 1) % 2])
    {p1 : ∀ a, o1 a + S1x128x16.size a ≤ S2x128x16.size a} {p2 : ∀ a, o2 a + S128x16.size a ≤ S131072x16.size a} {p3 : ∀ a, o3 a + S1.size a ≤ S2.size a}
    {h1 : ((sO.slice (Rect.unit (s := S2x128x16) o1 S1x128x16.size p1) (fun _ => rfl)).squeeze S128x16 squeezes_S1x128x16_S128x16).view.WordExact}
    {h2 : (aO.slice (Rect.unit (s := S131072x16) o2 S128x16.size p2) (fun _ => rfl)).view.WordExact} :
    EndA d (L := L) (aO := aO) sO mO f0 (g := g) O W t
      ⊢ iprop((EndB d (L := L) (aO := aO) sO mO f0 (g := g) O W t -∗ wp' (k ⟨⟩) Q)
        -∗ wp' (Prog.lift (.waitDma2 ((mO.slice (Rect.unit (s := S2) o3 S1.size p3)).squeeze S_ squeezes_S1_S_).sem
            ((sO.slice (Rect.unit (s := S2x128x16) o1 S1x128x16.size p1) (fun _ => rfl)).squeeze S128x16 squeezes_S1x128x16_S128x16)
            (aO.slice (Rect.unit (s := S131072x16) o2 S128x16.size p2) (fun _ => rfl)) h1 h2) >>= k) Q) := by
  unfold EndA
  iintro ⟨#Hm, Ha, Ho, %W', %hW, HO⟩ Hk
  ihave Ha := (Entails.of_eq (OutA_fly d sO mO h0)) $$ Ha
  iapply (out_wait (F := F) (cV L) (jV L) d L aO sO mO g e3) $$ [Ha HO]
  · isplitr; · iexact Hm
    isplitl [Ha]; · iexact Ha
    iexact HO
  iintro ⟨Hp, Hf, HO⟩
  iapply Hk
  unfold EndB
  isplitl [Hf]
  · rw [← OutFree_congr d sO mO (show (t - 1) % 2 = (t + 1) % 2 by omega)]; iexact Hf
  isplitl [Hp Ho]
  · iapply (OutM_put d L aO f0 g ht h0) $$ [Hp Ho]
    isplitl [Hp]; · iexact Hp
    iexact Ho
  iexists _
  isplitr
  rotate_left
  · iexact HO
  · ipureintro
    intro p hp
    rcases Finset.mem_insert.mp hp with rfl | hp
    · exact Or.inr rfl
    · exact hW p hp

theorem trip_out_none {t : ℕ} (h0 : ¬ 0 < t) :
    EndA d (L := L) (aO := aO) sO mO f0 (g := g) O W t ⊢ EndB d (L := L) (aO := aO) sO mO f0 (g := g) O W t := by
  obtain rfl : t = 0 := by omega
  unfold EndA EndB
  iintro ⟨-, Ha, Ho, HW⟩
  ihave Ha := (Entails.of_eq (OutA_none d sO mO h0)) $$ Ha
  isplitl [Ha]; · iexact Ha
  isplitl [Ho]; · iapply (OutM_zero d L aO f0 g) $$ Ho
  iexact HW

theorem trip (hs : ∀ w < 32, Spec (F := F) L aT aI aO fT fI g w) (harg2 : aT.IsWhole) (harg3 : aI.IsWhole) (harg4 : aO.IsWhole) (hsI : sI.IsWhole) (hsO : sO.IsWhole) (t : Fin 32) :
    Inv d L aT aI aO sI sO mI mO mG fT fI f0 g q O W t.val (carry t)
      ⊢ wp' (k1_t1_body L aT harg2 aI harg3 aO harg4 sI hsI mI sO hsO mO mG (win0 L) (Fin.cast trips_eq.symm t) (carry t))
        (Inv d L aT aI aO sI sO mI mO mG fT fI f0 g q O W (t.val + 1)) := by
  have hc2 : k1_cond2 L (Fin.cast trips_eq.symm t) (BitVec.ofNat 32 (t.val % 32)) = 1#1 := cond2_eq L t
  have hc5 : k1_cond5 L (Fin.cast trips_eq.symm t) (BitVec.ofNat 32 (t.val % 32)) = 1#1 := cond5_eq L t
  unfold k1_t1_body carry
  simp only [k1_part1_eq_skeleton, k1_part2_eq_skeleton]
  unfold k1_part1_skel k1_part2_skel
  simp only [Prog.bind_assoc, pure_bind, dif_pos hc2, dif_pos hc5, ite_self]
  unfold Inv
  iintro ⟨-, #Hm, Ht, Ha, Hf, Hx, Hoa, Hof, Ho, Hg, %W', %hW, HO⟩
  rw [Prog.bind_lift]
  iapply (wp_assume 𝒱₀ thr none Set.univ (chk3_of t))
  rw [Prog.bind_lift]
  iapply (wp_assume 𝒱₀ thr none Set.univ (chk2_of t))
  rw [Prog.bind_lift]
  iapply (wp_assume 𝒱₀ thr none Set.univ (chk1_of L t))
  iapply (branch_bind d (R := iprop(IdxR d L aI fI t.val ∗ InFree (F := F) (cV L) (jV L) d sI mI (t.val + 1)))
    (R' := iprop(IdxM d L aI fI t.val ∗ InA d L aI sI mI fI (t.val + 1)))
    (fun h k' => trip_in d sI mI ((cond1_iff L t).mp h) (off4_eq t) (off5_eq L t) (off6_eq t))
    (fun h => trip_in_none d sI mI t.isLt (fun h' => h ((cond1_iff L t).mpr h')))) $$ [Hx Hf]
  · isplitl [Hx]; · iexact Hx
    iexact Hf
  iintro ⟨Hx, Ha'⟩
  -- the wait for window `t`'s indices
  ihave Ha := (Entails.of_eq (InA_fly d sI mI t.isLt)) $$ Ha
  iapply (in_wait (F := F) (cV L) (jV L) d L aI sI mI fI (off9_eq t)) $$ [Ha HO]
  · isplitr; · iexact Hm
    isplitl [Ha]; · iexact Ha
    iexact HO
  iintro ⟨Hs, Hi, Hv, HO⟩
  ihave Hx := (IdxM_put d L aI fI t.isLt) $$ [Hi Hx]
  · isplitl [Hi]; · iexact Hi
    iexact Hx
  -- the rows gathered
  iapply (gather (F := F) (cV L) (jV L) d sI sO mO mG q (hs t.val t.isLt) (off10_eq t) (off11_eq t)) $$ [Ht Hs Hof Hg HO]
  · isplitr; · iexact Hm
    isplitl [Ht]; · iexact Ht
    isplitl [Hs]; · iexact Hs
    isplitl [Hof]; · iexact Hof
    isplitl [Hg]; · iexact Hg
    iexact HO
  iintro ⟨Ht, Hs, Hfull, Hvo, Hg, HO⟩
  -- the rows sent out
  ihave Ho' := (OutR_take d L aO f0 g t.isLt) $$ Ho
  icases Ho' with ⟨Hp, Ho⟩
  iapply (out_start (F := F) (cV L) (jV L) d L aO sO mO g (f0 := f0) (off12_eq t) (off13_eq L t) (off14_eq t)) $$ [Hfull Hp Hvo]
  · isplitl [Hfull]; · iexact Hfull
    isplitl [Hp]; · iexact Hp
    iexact Hvo
  iintro Hfly
  iapply (branch_pure d (R := EndA d (L := L) (aO := aO) sO mO f0 (g := g) O W t.val) (R' := EndB d (L := L) (aO := aO) sO mO f0 (g := g) O W t.val)
    (fun h k' => trip_out d sO mO f0 O W t.isLt ((cond7_iff L t).mp h) (off17_of t ((cond7_iff L t).mp h)))
    (fun h => trip_out_none d sO mO f0 O W (fun h' => h ((cond7_iff L t).mpr h')))) $$ [Hoa Ho HO]
  · unfold EndA
    isplitr; · iexact Hm
    isplitl [Hoa]; · iexact Hoa
    isplitl [Ho]; · iexact Ho
    iexists _
    isplitr
    rotate_left
    · iexact HO
    · ipureintro
      intro p hp
      rcases Finset.mem_insert.mp hp with rfl | hp
      · exact Or.inr rfl
      rcases Finset.mem_insert.mp hp with rfl | hp
      · exact Or.inr rfl
      · exact hW p hp
  unfold EndB
  iintro ⟨Hof, Ho, HW⟩
  rw [show ∀ b : BitVec 32 × BitVec 32 × BitVec 32 × BitVec 32 × BitVec 32, (pure b : Prog (TpuEff nD τ sig (Elt F) Λ₀ (.scVector (cV L) (jV L))) _) = .ret b from fun _ => rfl, wp_ret]
  imodintro
  isplitr
  · ipureintro
    exact carry_succ L t
  isplitr; · iexact Hm
  isplitl [Ht]; · iexact Ht
  isplitl [Ha']; · iexact Ha'
  isplitl [Hs Hv]
  · rw [← InFree_congr d sI mI (show t.val % 2 = (t.val + 1 + 1) % 2 by omega)]
    unfold InFree
    isplitl [Hs]; · iexact Hs
    iexact Hv
  isplitl [Hx]; · iexact Hx
  isplitl [Hfly]
  · rw [OutA_fly d sO mO (Nat.succ_pos _)]; iexact Hfly
  isplitl [Hof]; · iexact Hof
  isplitl [Ho]; · iexact Ho
  isplitl [Hg]; · iexact Hg
  iexact HW

end Trip

end Cert.Proof.GatherIdeal

end
-- ==== Proof.ScBodyI.lean ====
/-
  The gather kernel on one vector subcore, from its operands to its result.
-/
module

public import proofs.«01_k».proof.Proof.ScTripI

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

section Body

variable (d : Dev nD) (L : grid1.Coords)
variable (aT : Memref sig .scVector .hbm S2609152x16 .f32) (aI : Memref sig .scVector .hbm S1x131072 .i32) (aO : Memref sig .scVector .hbm S131072x16 .f32)
variable (sI : Memref sig .scVector .vmem S2x1x128 .i32) (sO : Memref sig .scVector .vmem S2x128x16 .f32)
variable (mI mO : DmaSems sig S2) (mG : DmaSems sig S_)
variable (fT : aT.view.ty.Contents (Elt F)) (fI : aI.view.ty.Contents (Elt F)) (f0 g : aO.view.ty.Contents (Elt F)) (q : PosShare TreeShare)
variable (O : CellTallies nD τ sig (HIx nCalls)) (W : Waits sig (HIx nCalls))

local notation "thr" => (V d (cV L) (jV L) : Thread nD τ)
local notation "wp'" => wp frame (wpE (defs₀ (F := F)) 𝒱₀ (V d (cV L) (jV L)) none) Set.univ

/-- The operands of the call on one vector subcore: its share of the table, its windows of the indices and of the result. -/
def Held (f : aO.view.ty.Contents (Elt F)) : sProp 𝕄 :=
  iprop(tabP (F := F) (cV L) (jV L) d aT fT q ∗ bigSep (Finset.range 32) (idxP (F := F) (cV L) (jV L) d L aI fI)
    ∗ bigSep (Finset.range 32) (outP (F := F) (cV L) (jV L) d L aO f))
/-- The two pairs of slots and the semaphore of the gathers, at rest. -/
def Rest : sProp 𝕄 :=
  iprop(InFree (F := F) (cV L) (jV L) d sI mI 0 ∗ InFree (F := F) (cV L) (jV L) d sI mI 1
    ∗ OutFree (F := F) (cV L) (jV L) d sO mO 0 ∗ OutFree (F := F) (cV L) (jV L) d sO mO 1 ∗ semVal (thr, SemLoc.dma mG.sem) 0)

theorem IdxR_zero : bigSep (Finset.range 32) (idxP (F := F) (cV L) (jV L) d L aI fI)
    = iprop(idxP (F := F) (cV L) (jV L) d L aI fI 0 ∗ IdxR d L aI fI 0) := SparseCore.bigSep_erase' (by decide)
theorem IdxR_end : IdxR d L aI fI 32 = bigSep (Finset.range 32) (idxP (F := F) (cV L) (jV L) d L aI fI) := by
  unfold IdxR; rw [Finset.erase_eq_of_notMem (by decide)]
theorem OutR_zero : OutR d L aO f0 g 0 = bigSep (Finset.range 32) (outP (F := F) (cV L) (jV L) d L aO f0) := by
  unfold OutR
  rw [Finset.filter_true_of_mem (fun w _ => Nat.succ_ne_zero w)]
  exact bigSep_congr fun w _ => by unfold outAt; rw [if_neg (Nat.not_lt_zero w)]
theorem OutR_end : iprop(outP (F := F) (cV L) (jV L) d L aO g 31 ∗ OutR d L aO f0 g 32) = bigSep (Finset.range 32) (outP (F := F) (cV L) (jV L) d L aO g) := by
  rw [SparseCore.bigSep_erase' (show 31 ∈ Finset.range 32 by decide)]
  congr 1

variable {aT aI aO fT fI g L}

theorem body (hs : ∀ w < 32, Spec (F := F) L aT aI aO fT fI g w) (harg2 : aT.IsWhole) (harg3 : aI.IsWhole) (harg4 : aO.IsWhole) (hsI : sI.IsWhole) (hsO : sO.IsWhole) :
    iprop(MayWaits thr (default : HIx nCalls) O ∗ Held d L aT aI aO fT fI q f0 ∗ Rest d L sI sO mI mO mG ∗ owes thr O W)
      ⊢ wp' (cc1_k L aT harg2 aI harg3 aO harg4 sI hsI mI sO hsO mO mG)
        fun _ => iprop(Held d L aT aI aO fT fI q g ∗ Rest d L sI sO mI mO mG ∗ ∃ W', ⌜∀ p ∈ W', p ∈ W ∨ p.2 = none⌝ ∗ owes thr O W') := by
  rw [cc1_k_eq_skeleton]; unfold cc1_k_skel
  simp only [k1_part3_eq_skeleton, k1_part4_eq_skeleton]
  unfold k1_part3_skel k1_part4_skel Scf.Loop.for
  simp only [Prog.bind_assoc, pure_bind]
  unfold Held Rest
  iintro ⟨#Hm, ⟨Ht, Hx, Ho⟩, ⟨Hi0, Hi1, Ho0, Ho1, Hg⟩, HO⟩
  ihave Hx := (Entails.of_eq (IdxR_zero d L aI fI)) $$ Hx
  icases Hx with ⟨Hx0, Hx⟩
  iapply (in_start (F := F) (cV L) (jV L) d L aI sI mI fI off1_eq (off2_eq L) off3_eq) $$ [Hx0 Hi0]
  · isplitl [Hx0]; · iexact Hx0
    iexact Hi0
  iintro Hfly
  iapply (Scf.wp_for_bind frame (wpE (defs₀ (F := F)) 𝒱₀ thr none) Set.univ _ _ _ _ _ _ (Inv d L aT aI aO sI sO mI mO mG fT fI f0 g q O W) ?_) $$ [Ht Hx Ho Hfly Hi1 Ho0 Ho1 Hg HO]
  rotate_left
  · unfold Inv
    isplitr; · ipureintro; decide
    isplitr; · iexact Hm
    isplitl [Ht]; · iexact Ht
    isplitl [Hfly]; · rw [InA_fly d sI mI (by decide)]; iexact Hfly
    isplitl [Hi1]; · iexact Hi1
    isplitl [Hx]; · iexact Hx
    isplitl [Ho1]; · rw [OutA_none d sO mO (by decide)]; iexact Ho1
    isplitl [Ho0]; · iexact Ho0
    isplitl [Ho]; · rw [OutR_zero]; iexact Ho
    isplitl [Hg]; · iexact Hg
    iexists W
    isplitr
    · ipureintro; exact fun p h => Or.inl h
    iexact HO
  · iintro %acc HI
    rw [show Scf.trips k1_t1_loop.lb k1_t1_loop.ub k1_t1_loop.st = 32 from trips_eq]
    unfold Inv
    icases HI with ⟨%hacc, -, Ht, Hi0, Hi1, Hx, Hoa, Hof, Ho, Hg, %W', %hW, HO⟩
    subst hacc
    dsimp only [carry]
    rw [Prog.bind_lift]
    iapply (wp_assume 𝒱₀ thr none Set.univ (chk5_of L))
    rw [Prog.bind_lift]
    iapply (wp_assume 𝒱₀ thr none Set.univ chk4_of)
    ihave Hoa := (Entails.of_eq (OutA_fly d sO mO (show 0 < 32 by decide))) $$ Hoa
    iapply (out_wait (F := F) (cV L) (jV L) d L aO sO mO g off20_eq) $$ [Hoa HO]
    · isplitr; · iexact Hm
      isplitl [Hoa]; · iexact Hoa
      iexact HO
    iintro ⟨Hp, Hf, HO⟩
    rw [show ∀ b : PUnit, (pure b : Prog (TpuEff nD τ sig (Elt F) Λ₀ (.scVector (cV L) (jV L))) _) = .ret b from fun _ => rfl, wp_ret]
    imodintro
    isplitl [Ht Hx Ho Hp]
    · isplitl [Ht]; · iexact Ht
      isplitl [Hx]; · rw [← IdxR_end]; iexact Hx
      rw [← OutR_end d L aO f0 g]
      isplitl [Hp]; · iexact Hp
      iexact Ho
    isplitl [Hi0 Hi1 Hf Hof Hg]
    · isplitl [Hi0]; · rw [← InFree_congr d sI mI (show 32 % 2 = 0 % 2 by decide), ← InA_none d sI mI (show ¬ 32 < 32 by decide)]; iexact Hi0
      isplitl [Hi1]; · rw [← InFree_congr d sI mI (show (32 + 1) % 2 = 1 % 2 by decide)]; iexact Hi1
      isplitl [Hof]; · rw [← OutFree_congr d sO mO (show 32 % 2 = 0 % 2 by decide)]; iexact Hof
      isplitl [Hf]; · rw [← OutFree_congr d sO mO (show 31 % 2 = 1 % 2 by decide)]; iexact Hf
      iexact Hg
    iexists _
    isplitr
    rotate_left
    · iexact HO
    · ipureintro
      intro p hp
      rcases Finset.mem_insert.mp hp with rfl | hp
      · exact Or.inr rfl
      · exact hW p hp
  · intro k acc
    obtain ⟨t, rfl⟩ : ∃ t : Fin 32, k = Fin.cast trips_eq.symm t := ⟨Fin.cast trips_eq k, rfl⟩
    have h : Inv d L aT aI aO sI sO mI mO mG fT fI f0 g q O W t.val acc ⊢ iprop(⌜acc = carry t.val⌝ ∗ Inv d L aT aI aO sI sO mI mO mG fT fI f0 g q O W t.val acc) := by
      unfold Inv
      iintro ⟨%h, H⟩
      isplitr; · ipureintro; exact h
      isplitr; · ipureintro; exact h
      iexact H
    refine h.trans ?_
    iintro ⟨%h, H⟩
    subst h
    iapply (trip d sI sO mI mO mG f0 q O W hs harg2 harg3 harg4 hsI hsO t) $$ H

end Body

end Cert.Proof.GatherIdeal

end
-- ==== Proof.ScOpsI.lean ====
/-
  The operands of the gather call: the windows of the indices and of the result are all of them, and the rows the windows hold.
-/
module

public import proofs.«01_k».proof.Proof.ScBodyI

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

/-- The vector subcore `(c, s)` of the grid. -/
def coordsV (c : Fin (grid1.bound 0)) (s : Fin (grid1.bound 1)) : grid1.Coords :=
  fun | 0 => c | 1 => s | ⟨_ + 2, h⟩ => absurd h (Nat.not_lt.2 (Nat.le_add_left _ _))

/-- Elements held at once are held piece by piece, the pieces numbered by core, subcore and window. -/
theorem nest {ℓ : Loc nD τ sig} {q : PosShare TreeShare} {f : Buf (Elt F) ℓ} (W : Fin 2 → Fin 16 → ℕ → Finset (Idx ℓ))
    (num : Idx ℓ → ℕ)
    (hw : ∀ c s w i, w < 32 → (i ∈ W c s w ↔ num i / 128 = 512 * c.val + 32 * s.val + w)) (hn : ∀ i, num i < 131072) :
    (ℓ ↦{q} f : sProp 𝕄) = bigSep Finset.univ fun c : Fin 2 => bigSep Finset.univ fun s : Fin 16 => bigSep (Finset.range 32) fun w => ℓ ↦[W c s w]{q} f := by
  have hd3 : ∀ (c : Fin 2) (s : Fin 16), ∀ w ∈ Finset.range 32, ∀ w' ∈ Finset.range 32, w ≠ w' → Disjoint (W c s w) (W c s w') := by
    intro c s w h w' h' hne
    rw [Finset.disjoint_left]; intro i hi hi'
    rw [hw _ _ _ _ (Finset.mem_range.mp h)] at hi; rw [hw _ _ _ _ (Finset.mem_range.mp h')] at hi'
    omega
  have hd2 : ∀ c : Fin 2, ∀ s ∈ (Finset.univ : Finset (Fin 16)), ∀ s' ∈ (Finset.univ : Finset (Fin 16)), s ≠ s' →
      Disjoint ((Finset.range 32).biUnion (W c s)) ((Finset.range 32).biUnion (W c s')) := by
    intro c s _ s' _ hne
    rw [Finset.disjoint_left]; intro i hi hi'
    obtain ⟨w, h, hi⟩ := Finset.mem_biUnion.mp hi; obtain ⟨w', h', hi'⟩ := Finset.mem_biUnion.mp hi'
    have h := Finset.mem_range.mp h; have h' := Finset.mem_range.mp h'
    rw [hw _ _ _ _ h] at hi; rw [hw _ _ _ _ h'] at hi'
    exact hne (Fin.ext (by omega))
  have hd1 : ∀ c ∈ (Finset.univ : Finset (Fin 2)), ∀ c' ∈ (Finset.univ : Finset (Fin 2)), c ≠ c' →
      Disjoint (Finset.univ.biUnion fun s : Fin 16 => (Finset.range 32).biUnion (W c s)) (Finset.univ.biUnion fun s : Fin 16 => (Finset.range 32).biUnion (W c' s)) := by
    intro c _ c' _ hne
    rw [Finset.disjoint_left]; intro i hi hi'
    obtain ⟨s, -, hi⟩ := Finset.mem_biUnion.mp hi; obtain ⟨s', -, hi'⟩ := Finset.mem_biUnion.mp hi'
    obtain ⟨w, h, hi⟩ := Finset.mem_biUnion.mp hi; obtain ⟨w', h', hi'⟩ := Finset.mem_biUnion.mp hi'
    have h := Finset.mem_range.mp h; have h' := Finset.mem_range.mp h'
    rw [hw _ _ _ _ h] at hi; rw [hw _ _ _ _ h'] at hi'
    exact hne (Fin.ext (by omega))
  rw [show (Finset.univ : Finset (Idx ℓ)) = Finset.univ.biUnion fun c : Fin 2 => Finset.univ.biUnion fun s : Fin 16 => (Finset.range 32).biUnion (W c s) by
    ext i
    simp only [Finset.mem_univ, Finset.mem_biUnion, true_and, true_iff, Finset.mem_range]
    have h := hn i
    refine ⟨⟨num i / 128 / 512, by omega⟩, ⟨num i / 128 / 32 % 16, by omega⟩, num i / 128 % 32, by omega, ?_⟩
    rw [hw _ _ _ _ (by omega)]
    show _ = 512 * (num i / 128 / 512) + 32 * (num i / 128 / 32 % 16) + num i / 128 % 32
    omega, pointsTo_biUnion _ _ hd1]
  refine bigSep_congr fun c _ => ?_
  rw [pointsTo_biUnion _ _ (hd2 c)]
  refine bigSep_congr fun s _ => ?_
  rw [pointsTo_biUnion _ _ (hd3 c s)]

/-- A share held whole is held in 2 × 16 pieces. -/
abbrev tileShare (c : Fin 2) (s : Fin 16) : PosShare TreeShare := pieceOf (pieceOf fullShare 2 (by decide) c) 16 (by decide) s
theorem nest_share {ℓ : Loc nD τ sig} {f : Buf (Elt F) ℓ} :
    (ℓ ↦{fullShare} f : sProp 𝕄) = bigSep Finset.univ fun c : Fin 2 => bigSep Finset.univ fun s : Fin 16 => ℓ ↦{tileShare c s} f := by
  rw [pointsTo_piecesOf Finset.univ f (show 0 < 2 by decide) fullShare]
  refine bigSep_congr fun c _ => ?_
  rw [pointsTo_piecesOf Finset.univ f (show 0 < 16 by decide)]

theorem mem_rows (c : Fin 2) (s : Fin 16) (w : ℕ) (i : S131072x16.Idx) (h : w < 32) :
    i ∈ (Rect.unit (s := S131072x16) ![row0 (coordsV c s) w, 0] S128x16.size (inb_rows _ w)).set ↔ (i 0).val / 128 = 512 * c.val + 32 * s.val + w := by
  rw [Rect.mem_set_unit]
  have h1 : (i 1).val < 16 := (i 1).isLt
  constructor
  · intro ha
    have h0 := ha 0
    have h0' : row0 (coordsV c s) w ≤ (i 0).val ∧ (i 0).val < row0 (coordsV c s) w + 128 := h0
    have : row0 (coordsV c s) w = 65536 * c.val + 4096 * s.val + 128 * (w % 32) := rfl
    omega
  · intro hi a
    have : row0 (coordsV c s) w = 65536 * c.val + 4096 * s.val + 128 * (w % 32) := rfl
    match a with
    | 0 => show row0 (coordsV c s) w ≤ (i 0).val ∧ (i 0).val < row0 (coordsV c s) w + 128; omega
    | 1 => show 0 ≤ (i 1).val ∧ (i 1).val < 0 + 16; omega
theorem mem_idx (c : Fin 2) (s : Fin 16) (w : ℕ) (i : S1x131072.Idx) (h : w < 32) :
    i ∈ (Rect.unit (s := S1x131072) ![0, row0 (coordsV c s) w] S1x128.size (inb_idx _ w)).set ↔ (i 1).val / 128 = 512 * c.val + 32 * s.val + w := by
  rw [Rect.mem_set_unit]
  have h1 : (i 0).val < 1 := (i 0).isLt
  constructor
  · intro ha
    have h0' : row0 (coordsV c s) w ≤ (i 1).val ∧ (i 1).val < row0 (coordsV c s) w + 128 := ha 1
    have : row0 (coordsV c s) w = 65536 * c.val + 4096 * s.val + 128 * (w % 32) := rfl
    omega
  · intro hi a
    have : row0 (coordsV c s) w = 65536 * c.val + 4096 * s.val + 128 * (w % 32) := rfl
    match a with
    | 0 => show 0 ≤ (i 0).val ∧ (i 0).val < 0 + 1; omega
    | 1 => show row0 (coordsV c s) w ≤ (i 1).val ∧ (i 1).val < row0 (coordsV c s) w + 128; omega

/-- The rows of the table that the indices name. -/
def gathered (fT : S2609152x16.Idx → Elt F .f32) (fI : S1x131072.Idx → Elt F .i32) : S131072x16.Idx → Elt F .f32 := fun i =>
  fT fun | 0 => ⟨(fI fun | 0 => ⟨0, by decide⟩ | 1 => i 0 | ⟨_ + 2, h⟩ => absurd h (Nat.not_lt.2 (Nat.le_add_left _ _))).toNat % 2609152, Nat.mod_lt _ (by decide)⟩
         | 1 => i 1 | ⟨_ + 2, h⟩ => absurd h (Nat.not_lt.2 (Nat.le_add_left _ _))

theorem lst_row : ∀ k : Fin 128, (lstIdx (S128.rowMajor.symm (k.cast (show 128 = S128.numel by decide))) 1).val = k.val := by decide +kernel

section Spec

variable {L : grid1.Coords}
variable {aT : Memref sig .scVector .hbm S2609152x16 .f32} {aI : Memref sig .scVector .hbm S1x131072 .i32} {aO : Memref sig .scVector .hbm S131072x16 .f32}
variable {fT : aT.view.ty.Contents (Elt F)} {fI : aI.view.ty.Contents (Elt F)} {g : aO.view.ty.Contents (Elt F)}

/-- Where the result is the rows that the indices name, so is each of its windows. -/
theorem spec_of (hin : ∀ j, (aI.view.read (Elt F) fI j).toNat < 2609152)
    (hg : ∀ i, aO.view.read (Elt F) g i = gathered (aT.view.read (Elt F) fT) (aI.view.read (Elt F) fI) i) (w : ℕ) :
    Spec (F := F) L aT aI aO fT fI g w := by
  refine ⟨fun x => hin _, ?_⟩
  funext x
  show aO.view.read (Elt F) g ((Rect.unit (s := S131072x16) ![row0 L w, 0] S128x16.size (inb_rows L w)).emb x) = _
  rw [hg]
  unfold gathered SparseCore.gatherPayload
  show aT.view.read (Elt F) fT _ = aT.view.read (Elt F) fT ((Rect.unit (s := S2609152x16) ![0, 0] S2609152x16.size inb_S2609152x16_S2609152x16_0_0).emb _)
  congr 1
  funext a
  match a with
  | 0 =>
    refine Fin.ext ?_
    show (aI.view.read (Elt F) fI _).toNat % 2609152 = 0 + 1 * _
    rw [Nat.zero_add, Nat.one_mul, Nat.mod_eq_of_lt (hin _)]
    refine Eq.trans ?_ (congrArg Fin.val (gathers_S2609152x16_S128x16.idx_axis _ x)).symm
    show _ = (aI.view.read (Elt F) fI ((Rect.unit (s := S1x131072) ![0, row0 L w] S1x128.size (inb_idx L w)).emb (lstIdx (S128.rowMajor.symm ((x 0).cast _))))).toNat
    congr 2
    funext b
    match b with
    | 0 => exact Subsingleton.elim (α := Fin 1) _ _
    | 1 =>
      refine Fin.ext ?_
      show row0 L w + 1 * (x 0).val = row0 L w + 1 * (lstIdx (S128.rowMajor.symm ((x 0).cast _)) 1).val
      exact congrArg (fun n => row0 L w + 1 * n) (lst_row (x 0)).symm
  | 1 =>
    refine Fin.ext ?_
    show 0 + 1 * (x 1).val = 0 + 1 * _
    rw [gathers_S2609152x16_S128x16.idx_of_ne _ x 1 (by decide)]
    rfl

end Spec

end Cert.Proof.GatherIdeal

end
-- ==== Proof.ScTileI.lean ====
/-
  The scratch of a gather call on one vector subcore, and the call from the subcore's own storage.
-/
module

public import proofs.«01_k».proof.Proof.ScOpsI

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 5) fun p => (pcfgs (F := F) p).Adm
abbrev K : SparseCore.Cfg τ sig (ΛP (F := F)) nCalls := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx nCalls) (Elt F) ℕ UU ℕ

section Scratch

variable (c : Fin τ.nSC) (j : Fin τ.nSub) (d : Dev nD)

local notation "thr" => (V d c j : Thread nD τ)

/-- Five of the subcore's transfer semaphores, at zero, and the others. -/
theorem own_sems (t : Finset (DmaSem sig)) (h : ∀ s ∈ t, (SemLoc.dma s : SemLoc sig).isScoped .scVector = true) :
    (ownSems0 thr : sProp 𝕄) = iprop((bigSep t fun s => semVal (thr, SemLoc.dma s) 0)
      ∗ bigSep (ownCells thr \ t.map ⟨fun s => ((thr, SemLoc.dma s) : GSem nD τ sig), fun _ _ e => SemLoc.dma.inj (Prod.mk.inj e).2⟩) fun x => semVal x 0) := by
  unfold SparseCore.Cfg.ownSems0
  rw [SparseCore.bigSep_sdiff_split' (t := t.map ⟨fun s => ((thr, SemLoc.dma s) : GSem nD τ sig), fun _ _ e => SemLoc.dma.inj (Prod.mk.inj e).2⟩), bigSep_map]
  · rfl
  · intro x hx
    obtain ⟨s, hs, rfl⟩ := Finset.mem_map.mp hx
    exact mem_ownCells.mpr ⟨rfl, h s hs⟩

/-- Two of the subcore's buffers, and the others. -/
theorem own_bufs (bI bO : Ref sig .scVector) (hI : ((Proc.scVector c j).devRef bI).owner = .proc (.scVector c j))
    (hO : ((Proc.scVector c j).devRef bO).owner = .proc (.scVector c j)) (hne : bO ≠ bI) :
    (ownBufs thr : sProp 𝕄) = iprop((∃ f, (V d c j).loc bI ↦{fullShare} f) ∗ (∃ f, (V d c j).loc bO ↦{fullShare} f)
      ∗ bigSep (((ownRefs (τ := τ) (.scVector c j)).erase ((Proc.scVector c j).devRef bI)).erase ((Proc.scVector c j).devRef bO))
          fun b => iprop(∃ f, ((d, b) : Loc nD τ sig) ↦{fullShare} f)) := by
  unfold SparseCore.Cfg.ownBufs
  refine (SparseCore.bigSep_erase' (SparseCore.Cfg.mem_ownRefs_of_owner hI)).trans ?_
  rw [SparseCore.bigSep_erase' (Finset.mem_erase.mpr ⟨fun e => absurd (Proc.devRef_injective _ e) hne, SparseCore.Cfg.mem_ownRefs_of_owner hO⟩)]

variable {sI : Memref sig .scVector .vmem S2x1x128 .i32} {sO : Memref sig .scVector .vmem S2x128x16 .f32}

/-- Elements in two disjoint parts are held part by part. -/
theorem two_parts {ℓ : Loc nD τ sig} {A B : Finset (Idx ℓ)} (hd : Disjoint A B) (hu : A ∪ B = Finset.univ) :
    (iprop(∃ f, ℓ ↦{fullShare} f) : sProp 𝕄) ⊣⊢ iprop((∃ f, ℓ ↦[A]{fullShare} f) ∗ ∃ f, ℓ ↦[B]{fullShare} f) := by
  constructor
  · iintro ⟨%f, H⟩
    rw [← hu]
    ihave H := (pointsTo_union hd).1 $$ H
    icases H with ⟨Ha, Hb⟩
    isplitl [Ha]; · iexists f; iexact Ha
    iexists f; iexact Hb
  · iintro ⟨⟨%f, Ha⟩, %g, Hb⟩
    ihave H := (pointsTo_join hd) $$ [Ha Hb]
    · isplitl [Ha]; · iexact Ha
      iexact Hb
    rw [hu]
    iexists _; iexact H

theorem in_parts (h : sI.IsWhole) : Disjoint (inSlot sI 0).view.set (inSlot sI 1).view.set ∧ (inSlot sI 0).view.set ∪ (inSlot sI 1).view.set = Finset.univ := by
  have e : ∀ t, (inSlot sI t).view.set = (Rect.unit (s := S2x1x128) ![t % 2, 0, 0] S1x1x128.size (inb_in t)).set.map sI.view.emb := fun t =>
    (View.set_reshape _ _).trans (View.set_slice _ _)
  rw [e, e, Finset.disjoint_map, ← Finset.map_union, ← h.set_eq_univ]
  constructor
  · rw [Finset.disjoint_left]; intro i hi hi'
    have h0 := (Rect.mem_set_unit.mp hi) 0; have h1 := (Rect.mem_set_unit.mp hi') 0
    change 0 ≤ (i 0).val ∧ (i 0).val < 0 + 1 at h0; change 1 ≤ (i 0).val ∧ (i 0).val < 1 + 1 at h1
    omega
  · refine congrArg (Finset.map sI.view.emb) ?_
    ext i
    rw [Finset.mem_union, Rect.mem_set_unit, Rect.mem_set_unit]
    simp only [Finset.mem_univ, iff_true]
    have b0 : (i 0).val < 2 := (i 0).isLt
    have b1 : (i 1).val < 1 := (i 1).isLt
    have b2 : (i 2).val < 128 := (i 2).isLt
    rcases (show (i 0).val = 0 ∨ (i 0).val = 1 by omega) with hz | hz
    · left; intro a; match a with
      | 0 => show 0 ≤ (i 0).val ∧ (i 0).val < 0 + 1; omega
      | 1 => show 0 ≤ (i 1).val ∧ (i 1).val < 0 + 1; omega
      | 2 => show 0 ≤ (i 2).val ∧ (i 2).val < 0 + 128; omega
    · right; intro a; match a with
      | 0 => show 1 ≤ (i 0).val ∧ (i 0).val < 1 + 1; omega
      | 1 => show 0 ≤ (i 1).val ∧ (i 1).val < 0 + 1; omega
      | 2 => show 0 ≤ (i 2).val ∧ (i 2).val < 0 + 128; omega
theorem out_parts (h : sO.IsWhole) : Disjoint (outSlot sO 0).view.set (outSlot sO 1).view.set ∧ (outSlot sO 0).view.set ∪ (outSlot sO 1).view.set = Finset.univ := by
  have e : ∀ t, (outSlot sO t).view.set = (Rect.unit (s := S2x128x16) ![t % 2, 0, 0] S1x128x16.size (inb_out t)).set.map sO.view.emb := fun t =>
    (View.set_reshape _ _).trans (View.set_slice _ _)
  rw [e, e, Finset.disjoint_map, ← Finset.map_union, ← h.set_eq_univ]
  constructor
  · rw [Finset.disjoint_left]; intro i hi hi'
    have h0 := (Rect.mem_set_unit.mp hi) 0; have h1 := (Rect.mem_set_unit.mp hi') 0
    change 0 ≤ (i 0).val ∧ (i 0).val < 0 + 1 at h0; change 1 ≤ (i 0).val ∧ (i 0).val < 1 + 1 at h1
    omega
  · refine congrArg (Finset.map sO.view.emb) ?_
    ext i
    rw [Finset.mem_union, Rect.mem_set_unit, Rect.mem_set_unit]
    simp only [Finset.mem_univ, iff_true]
    have b0 : (i 0).val < 2 := (i 0).isLt
    have b1 : (i 1).val < 128 := (i 1).isLt
    have b2 : (i 2).val < 16 := (i 2).isLt
    rcases (show (i 0).val = 0 ∨ (i 0).val = 1 by omega) with hz | hz
    · left; intro a; match a with
      | 0 => show 0 ≤ (i 0).val ∧ (i 0).val < 0 + 1; omega
      | 1 => show 0 ≤ (i 1).val ∧ (i 1).val < 0 + 128; omega
      | 2 => show 0 ≤ (i 2).val ∧ (i 2).val < 0 + 16; omega
    · right; intro a; match a with
      | 0 => show 1 ≤ (i 0).val ∧ (i 0).val < 1 + 1; omega
      | 1 => show 0 ≤ (i 1).val ∧ (i 1).val < 0 + 128; omega
      | 2 => show 0 ≤ (i 2).val ∧ (i 2).val < 0 + 16; omega

end Scratch

section Tile

variable (d : Dev nD) (L : grid1.Coords)
variable {aT : Memref sig .scVector .hbm S2609152x16 .f32} {aI : Memref sig .scVector .hbm S1x131072 .i32} {aO : Memref sig .scVector .hbm S131072x16 .f32}
variable (sI : Memref sig .scVector .vmem S2x1x128 .i32) (sO : Memref sig .scVector .vmem S2x128x16 .f32)
variable (mI mO : DmaSems sig S2) (mG : DmaSems sig S_)
variable {fT : aT.view.ty.Contents (Elt F)} {fI : aI.view.ty.Contents (Elt F)} {f0 g : aO.view.ty.Contents (Elt F)} {q : PosShare TreeShare}
variable (O : CellTallies nD τ sig (HIx nCalls)) (W : Waits sig (HIx nCalls))

local notation "thr" => (V d (cV L) (jV L) : Thread nD τ)
local notation "wp'" => wp frame (wpE (defs₀ (F := F)) 𝒱₀ (V d (cV L) (jV L)) none) Set.univ

/-- The semaphores of a gather call. -/
abbrev five : Finset (DmaSem sig) := {pairSem mI 0, pairSem mI 1, pairSem mO 0, pairSem mO 1, mG.sem}

/-- The subcore's own storage is a gather call's scratch and more. -/
def Owns : Prop :=
  ∃ R : sProp 𝕄, (iprop(scopedBufs thr ∗ scopedSems0 thr) : sProp 𝕄)
    ⊣⊢ iprop((∃ f, sI.view.loc thr ↦{fullShare} f) ∗ (∃ f, sO.view.loc thr ↦{fullShare} f) ∗ (bigSep (five mI mO mG) fun s => semVal (thr, SemLoc.dma s) 0) ∗ R)

theorem owns_of (bI bO : Ref sig .scVector) (hI : ((Proc.scVector (cV L) (jV L)).devRef bI).owner = .proc (.scVector (cV L) (jV L)))
    (hO : ((Proc.scVector (cV L) (jV L)).devRef bO).owner = .proc (.scVector (cV L) (jV L))) (hne : bO ≠ bI)
    (eI : (iprop(∃ f, sI.view.loc thr ↦{fullShare} f) : sProp 𝕄) = iprop(∃ f, (V d (cV L) (jV L)).loc bI ↦{fullShare} f))
    (eO : (iprop(∃ f, sO.view.loc thr ↦{fullShare} f) : sProp 𝕄) = iprop(∃ f, (V d (cV L) (jV L)).loc bO ↦{fullShare} f))
    (h : ∀ s ∈ five mI mO mG, (SemLoc.dma s : SemLoc sig).isScoped .scVector = true) : Owns (F := F) d L sI sO mI mO mG := by
  refine ⟨iprop((bigSep (((ownRefs (τ := τ) (.scVector (cV L) (jV L))).erase ((Proc.scVector (cV L) (jV L)).devRef bI)).erase ((Proc.scVector (cV L) (jV L)).devRef bO))
          fun b => iprop(∃ f, ((d, b) : Loc nD τ sig) ↦{fullShare} f))
      ∗ bigSep (ownCells thr \ (five mI mO mG).map ⟨fun s => ((thr, SemLoc.dma s) : GSem nD τ sig), fun _ _ e => SemLoc.dma.inj (Prod.mk.inj e).2⟩) fun x => semVal x 0), ?_⟩
  rw [(K (F := F)).scopedBufs_V facts d (cV L) (jV L), SparseCore.Cfg.scopedSems0_V (Val := Elt F) d (cV L) (jV L), own_sems _ _ _ _ h,
      own_bufs _ _ _ bI bO hI hO hne, eI, eO]
  constructor
  · iintro ⟨⟨Ha, Hb, Hr⟩, Hs, Ht⟩
    isplitl [Ha]; · iexact Ha
    isplitl [Hb]; · iexact Hb
    isplitl [Hs]; · iexact Hs
    isplitl [Hr]; · iexact Hr
    iexact Ht
  · iintro ⟨Ha, Hb, Hs, Hr, Ht⟩
    isplitl [Ha Hb Hr]
    · isplitl [Ha]; · iexact Ha
      isplitl [Hb]; · iexact Hb
      iexact Hr
    isplitl [Hs]; · iexact Hs
    iexact Ht

/-- The five are distinct. -/
abbrev Five : Prop := pairSem mI 0 ∉ ({pairSem mI 1, pairSem mO 0, pairSem mO 1, mG.sem} : Finset _) ∧ pairSem mI 1 ∉ ({pairSem mO 0, pairSem mO 1, mG.sem} : Finset _)
  ∧ pairSem mO 0 ∉ ({pairSem mO 1, mG.sem} : Finset _) ∧ pairSem mO 1 ∉ ({mG.sem} : Finset _)

set_option maxHeartbeats 4000000 in
theorem rest_of (hsI : sI.IsWhole) (hsO : sO.IsWhole) (hn : Five mI mO mG) :
    (iprop((∃ f, sI.view.loc thr ↦{fullShare} f) ∗ (∃ f, sO.view.loc thr ↦{fullShare} f) ∗ bigSep (five mI mO mG) fun s => semVal (thr, SemLoc.dma s) 0) : sProp 𝕄)
      ⊣⊢ Rest d L sI sO mI mO mG := by
  obtain ⟨h1, h2, h3, h4⟩ := hn
  unfold Rest InFree OutFree
  rw [SparseCore.bigSep_insert' h1, SparseCore.bigSep_insert' h2, SparseCore.bigSep_insert' h3, SparseCore.bigSep_insert' h4, bigSep_singleton]
  constructor
  · iintro ⟨HI, HO, H1, H2, H3, H4, H5⟩
    ihave HI := (two_parts (in_parts hsI).1 (in_parts hsI).2).1 $$ HI
    ihave HO := (two_parts (out_parts hsO).1 (out_parts hsO).2).1 $$ HO
    icases HI with ⟨HI0, HI1⟩
    icases HO with ⟨HO0, HO1⟩
    isplitl [HI0 H1]; · isplitl [HI0]; (· iexact HI0); iexact H1
    isplitl [HI1 H2]; · isplitl [HI1]; (· iexact HI1); iexact H2
    isplitl [HO0 H3]; · isplitl [HO0]; (· iexact HO0); iexact H3
    isplitl [HO1 H4]; · isplitl [HO1]; (· iexact HO1); iexact H4
    iexact H5
  · iintro ⟨⟨HI0, H1⟩, ⟨HI1, H2⟩, ⟨HO0, H3⟩, ⟨HO1, H4⟩, H5⟩
    isplitl [HI0 HI1]
    · iapply (two_parts (in_parts hsI).1 (in_parts hsI).2).2
      isplitl [HI0]; (· iexact HI0); iexact HI1
    isplitl [HO0 HO1]
    · iapply (two_parts (out_parts hsO).1 (out_parts hsO).2).2
      isplitl [HO0]; (· iexact HO0); iexact HO1
    isplitl [H1]; · iexact H1
    isplitl [H2]; · iexact H2
    isplitl [H3]; · iexact H3
    isplitl [H4]; · iexact H4
    iexact H5

theorem tile (ho : Owns (F := F) d L sI sO mI mO mG) (hn : Five mI mO mG) (hO : ∀ x, O x none = 0)
    (hs : ∀ w < 32, Spec (F := F) L aT aI aO fT fI g w) (harg2 : aT.IsWhole) (harg3 : aI.IsWhole) (harg4 : aO.IsWhole) (hsI : sI.IsWhole) (hsO : sO.IsWhole) :
    iprop(levAts (K (F := F)).L (K (F := F)).lev ∗ emp ∗ Held d L aT aI aO fT fI q f0 ∗ scopedBufs (V d (cV L) (jV L)) ∗ scopedSems0 (V d (cV L) (jV L)) ∗ owes (V d (cV L) (jV L)) O W)
      ⊢ wp' (cc1_k L aT harg2 aI harg3 aO harg4 sI hsI mI sO hsO mO mG)
        fun _ => iprop(Held d L aT aI aO fT fI q g ∗ scopedBufs (V d (cV L) (jV L)) ∗ scopedSems0 (V d (cV L) (jV L)) ∗ ∃ W', ⌜∀ p ∈ W', p ∈ W ∨ p.2 = none⌝ ∗ owes (V d (cV L) (jV L)) O W') := by
  obtain ⟨R, hR⟩ := ho
  have hr := rest_of d L sI sO mI mO mG hsI hsO hn (F := F)
  iintro ⟨#Hlv, -, Hh, Hb, Hs, HO⟩
  ihave Hmw := (show levAts (K (F := F)).L (K (F := F)).lev ⊢ Transfers.MayWaits (V d (cV L) (jV L)) (default : HIx nCalls) O from
    (K (F := F)).mayWaits_none hO) $$ Hlv
  ihave H := hR.1 $$ [Hb Hs]
  · isplitl [Hb]; (· iexact Hb); iexact Hs
  icases H with ⟨Ha, Hb, Hc, HR⟩
  ihave Hrest := hr.1 $$ [Ha Hb Hc]
  · isplitl [Ha]; (· iexact Ha)
    isplitl [Hb]; (· iexact Hb)
    iexact Hc
  iapply (wp_wand frame (wpE (defs₀ (F := F)) 𝒱₀ (V d (cV L) (jV L)) none) Set.univ) $$ [Hmw Hh Hrest HO]
  · iapply (body d sI sO mI mO mG f0 q O W hs harg2 harg3 harg4 hsI hsO)
    isplitl [Hmw]; (· iexact Hmw)
    isplitl [Hh]; (· iexact Hh)
    isplitl [Hrest]; (· iexact Hrest)
    iexact HO
  iintro %_ ⟨Hh, Hrest, HO⟩
  isplitl [Hh]; (· iexact Hh)
  ihave H := hr.2 $$ Hrest
  icases H with ⟨Ha, Hb, Hc⟩
  ihave H := hR.2 $$ [Ha Hb Hc HR]
  · isplitl [Ha]; (· iexact Ha)
    isplitl [Hb]; (· iexact Hb)
    isplitl [Hc]; (· iexact Hc)
    iexact HR
  icases H with ⟨Ha, Hb⟩
  isplitl [Ha]; (· iexact Ha)
  isplitl [Hb]; (· iexact Hb)
  iexact HO

end Tile

end Cert.Proof.GatherIdeal

end
-- ==== Proof.HostOpsI.lean ====
/-
  The host operations of @main, stretch by stretch between its calls.
-/
module

public import proofs.«01_k».proof.Proof.ScTileI
public import Idealize.ShloMosaic.Lib.Pipeline.RegionArraysS

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

def ops0 : List (HloOp τ sig (Elt F)) :=
  [StableHlo.nullary main_c (fun i => lit0 (S325.rowMajor i)),
   StableHlo.nullary main_v0 (iotaInDim S26 32 0),
   StableHlo.nullary main_c_0 (constantI S_ 32 12544#32),
   StableHlo.unary main_c_0 main_v1 (broadcastInDim S26 ![] bcast_S_S26 : (⟨S_, .i32⟩ : BufTy).Contents (Elt F) → (⟨S26, .i32⟩ : BufTy).Contents (Elt F)),
   StableHlo.binary main_v0 main_v1 main_v2 (muli : (⟨S26, .i32⟩ : BufTy).Contents (Elt F) → (⟨S26, .i32⟩ : BufTy).Contents (Elt F) → (⟨S26, .i32⟩ : BufTy).Contents (Elt F)),
   StableHlo.nullary main_c_1 (constantI S_ 32 12544#32),
   StableHlo.TRef.unary (.of main_c_1 : StableHlo.TRef sig ⟨S_, .i32⟩) main_call0.v0 id,
   StableHlo.TRef.nullary main_call0.c (constantI S_ 32 0#32),
   StableHlo.TRef.binary main_call0.v0 main_call0.c main_call0.v1 (cmpi .eq),
   StableHlo.TRef.nullary main_call0.c_0 (constantI S_ 32 1#32),
   StableHlo.TRef.ternary main_call0.v1 main_call0.c_0 main_call0.v0 main_call0.call0.v0 select,
   StableHlo.TRef.unary main_call0.call0.v0 main_call0.v3 (broadcastInDim S16384x26 ![] bcast_S_S16384x26),
   StableHlo.TRef.binary (.of main_arg0 : StableHlo.TRef sig ⟨S16384x26, .i32⟩) main_call0.v3 main_call0.v4 Host.remsi,
   StableHlo.TRef.nullary main_call0.c_1 (constantI S_ 32 0#32),
   StableHlo.TRef.unary main_call0.c_1 main_call0.v5 (broadcastInDim S16384x26 ![] bcast_S_S16384x26),
   StableHlo.TRef.binary main_call0.v4 main_call0.v5 main_call0.v6 (cmpi .ne),
   StableHlo.TRef.nullary main_call0.c_2 (constantI S_ 32 0#32),
   StableHlo.TRef.unary main_call0.c_2 main_call0.v7 (broadcastInDim S16384x26 ![] bcast_S_S16384x26),
   StableHlo.TRef.binary main_call0.v4 main_call0.v7 main_call0.v8 (cmpi .slt),
   StableHlo.TRef.nullary main_call0.c_3 (constantI S_ 32 0#32),
   StableHlo.TRef.binary main_call0.call0.v0 main_call0.c_3 main_call0.v9 (cmpi .slt),
   StableHlo.TRef.unary main_call0.v9 main_call0.v10 (broadcastInDim S16384x26 ![] bcast_S_S16384x26),
   StableHlo.TRef.binary main_call0.v8 main_call0.v10 main_call0.v11 (cmpi .ne),
   StableHlo.TRef.binary main_call0.v11 main_call0.v6 main_call0.v12 andi,
   StableHlo.TRef.unary main_call0.call0.v0 main_call0.v13 (broadcastInDim S16384x26 ![] bcast_S_S16384x26),
   StableHlo.TRef.binary main_call0.v4 main_call0.v13 main_call0.v14 addi,
   StableHlo.TRef.ternary main_call0.v12 main_call0.v14 main_call0.v4 main_call0.v15 select,
   StableHlo.unary main_v2 main_v4 (broadcastInDim S1x26 ![1] bcast_S26_S1x26_1 : (⟨S26, .i32⟩ : BufTy).Contents (Elt F) → (⟨S1x26, .i32⟩ : BufTy).Contents (Elt F)),
   StableHlo.unary main_v4 main_v5 (broadcastInDim S16384x26 ![0, 1] bcast_S1x26_S16384x26_0_1 : (⟨S1x26, .i32⟩ : BufTy).Contents (Elt F) → (⟨S16384x26, .i32⟩ : BufTy).Contents (Elt F)),
   StableHlo.binary main_v5 main_v3 main_v6 (addi : (⟨S16384x26, .i32⟩ : BufTy).Contents (Elt F) → (⟨S16384x26, .i32⟩ : BufTy).Contents (Elt F) → (⟨S16384x26, .i32⟩ : BufTy).Contents (Elt F)),
   StableHlo.nullary main_c_2 (constantI S_ 32 8#32),
   StableHlo.unary main_c_2 main_v7 (broadcastInDim S16384x26 ![] bcast_S_S16384x26 : (⟨S_, .i32⟩ : BufTy).Contents (Elt F) → (⟨S16384x26, .i32⟩ : BufTy).Contents (Elt F)),
   StableHlo.binary main_v6 main_v7 main_v8 (muli : (⟨S16384x26, .i32⟩ : BufTy).Contents (Elt F) → (⟨S16384x26, .i32⟩ : BufTy).Contents (Elt F) → (⟨S16384x26, .i32⟩ : BufTy).Contents (Elt F)),
   StableHlo.nullary main_c_3 (constantI S_ 32 12544#32),
   StableHlo.TRef.unary (.of main_c_3 : StableHlo.TRef sig ⟨S_, .i32⟩) main_call1.v0 id,
   StableHlo.TRef.unary main_call1.v0 main_call1.v1 (broadcastInDim S16384x26 ![] bcast_S_S16384x26),
   StableHlo.TRef.binary (.of main_arg0 : StableHlo.TRef sig ⟨S16384x26, .i32⟩) main_call1.v1 main_call1.v2 Host.divsi,
   StableHlo.TRef.unary (.of main_arg0 : StableHlo.TRef sig ⟨S16384x26, .i32⟩) main_call1.v3 signi,
   StableHlo.TRef.unary main_call1.v0 main_call1.v4 signi,
   StableHlo.TRef.unary main_call1.v4 main_call1.v5 (broadcastInDim S16384x26 ![] bcast_S_S16384x26),
   StableHlo.TRef.binary main_call1.v3 main_call1.v5 main_call1.v6 (cmpi .ne),
   StableHlo.TRef.unary main_call1.v0 main_call1.v7 (broadcastInDim S16384x26 ![] bcast_S_S16384x26),
   StableHlo.TRef.binary (.of main_arg0 : StableHlo.TRef sig ⟨S16384x26, .i32⟩) main_call1.v7 main_call1.v8 Host.remsi,
   StableHlo.TRef.nullary main_call1.c (constantI S_ 32 0#32),
   StableHlo.TRef.unary main_call1.c main_call1.v9 (broadcastInDim S16384x26 ![] bcast_S_S16384x26),
   StableHlo.TRef.binary main_call1.v8 main_call1.v9 main_call1.v10 (cmpi .ne),
   StableHlo.TRef.binary main_call1.v6 main_call1.v10 main_call1.v11 andi,
   StableHlo.TRef.nullary main_call1.c_0 (constantI S_ 32 1#32),
   StableHlo.TRef.unary main_call1.c_0 main_call1.v12 (broadcastInDim S16384x26 ![] bcast_S_S16384x26),
   StableHlo.TRef.binary main_call1.v2 main_call1.v12 main_call1.v13 subi,
   StableHlo.TRef.ternary main_call1.v11 main_call1.v13 main_call1.v2 main_call1.call0.v0 select,
   StableHlo.binary main_v8 main_v9 main_v10 (addi : (⟨S16384x26, .i32⟩ : BufTy).Contents (Elt F) → (⟨S16384x26, .i32⟩ : BufTy).Contents (Elt F) → (⟨S16384x26, .i32⟩ : BufTy).Contents (Elt F)),
   StableHlo.unary main_v10 main_v11 ((extractStridedSlice S16384x1 ![0, 0] · slices_S16384x26_S16384x1_0_0) : (⟨S16384x26, .i32⟩ : BufTy).Contents (Elt F) → (⟨S16384x1, .i32⟩ : BufTy).Contents (Elt F)),
   StableHlo.unary main_v11 main_v12 (broadcastInDim S16384x6 ![0, 1] bcast_S16384x1_S16384x6_0_1 : (⟨S16384x1, .i32⟩ : BufTy).Contents (Elt F) → (⟨S16384x6, .i32⟩ : BufTy).Contents (Elt F)),
   StableHlo.binary main_v10 main_v12 main_v13 ((fun a b => concatenate S16384x32 1 [⟨S16384x26, a⟩, ⟨S16384x6, b⟩] concatenates_S16384x26_S16384x6_S16384x32_d1) : (⟨S16384x26, .i32⟩ : BufTy).Contents (Elt F) → (⟨S16384x6, .i32⟩ : BufTy).Contents (Elt F) → (⟨S16384x32, .i32⟩ : BufTy).Contents (Elt F)),
   StableHlo.reshape main_v13 main_v14 (rfl : (.i32 : EltTy) = .i32) shapeCasts_S16384x32_S1x524288,
   StableHlo.unary main_arg1 main_v15 ((transpose S26x16x100000 [0, 2, 1] · transposes_S26x100000x16_S26x16x100000_0_2_1) : (⟨S26x100000x16, .f32⟩ : BufTy).Contents (Elt F) → (⟨S26x16x100000, .f32⟩ : BufTy).Contents (Elt F))]

def ops1 : List (HloOp τ sig (Elt F)) :=
  [StableHlo.reshape main_v16 main_v17 (rfl : (.f32 : EltTy) = .f32) shapeCasts_S26x12544x128_S2609152x16,
   StableHlo.unary main_arg2 main_v18 ((extractStridedSlice S416x512 ![0, 0] · slices_S741x512_S416x512_0_0) : (⟨S741x512, .f32⟩ : BufTy).Contents (Elt F) → (⟨S416x512, .f32⟩ : BufTy).Contents (Elt F)),
   StableHlo.unary main_arg2 main_v19 ((extractStridedSlice S325x512 ![416, 0] · slices_S741x512_S325x512_416_0) : (⟨S741x512, .f32⟩ : BufTy).Contents (Elt F) → (⟨S325x512, .f32⟩ : BufTy).Contents (Elt F)),
   StableHlo.nullary main_c_4 (constantI S_ 32 0#32),
   StableHlo.unary main_c_4 main_v20 (broadcastInDim S325 ![] bcast_S_S325 : (⟨S_, .i32⟩ : BufTy).Contents (Elt F) → (⟨S325, .i32⟩ : BufTy).Contents (Elt F)),
   StableHlo.binary main_c main_v20 main_v21 (cmpi .slt : (⟨S325, .i32⟩ : BufTy).Contents (Elt F) → (⟨S325, .i32⟩ : BufTy).Contents (Elt F) → (⟨S325, .i1⟩ : BufTy).Contents (Elt F)),
   StableHlo.nullary main_c_5 (constantI S_ 32 325#32),
   StableHlo.unary main_c_5 main_v22 (broadcastInDim S325 ![] bcast_S_S325 : (⟨S_, .i32⟩ : BufTy).Contents (Elt F) → (⟨S325, .i32⟩ : BufTy).Contents (Elt F)),
   StableHlo.binary main_c main_v22 main_v23 (addi : (⟨S325, .i32⟩ : BufTy).Contents (Elt F) → (⟨S325, .i32⟩ : BufTy).Contents (Elt F) → (⟨S325, .i32⟩ : BufTy).Contents (Elt F)),
   StableHlo.ternary main_v21 main_v23 main_c main_v24 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
   StableHlo.unary main_v24 main_v25 (broadcastInDim S325x1 ![0] bcast_S325_S325x1_0 : (⟨S325, .i32⟩ : BufTy).Contents (Elt F) → (⟨S325x1, .i32⟩ : BufTy).Contents (Elt F)),
   StableHlo.binary main_v19 main_v25 main_v26 ((fun x i => Host.gather gather_S325x512_S325x1_S325x512_1_0_n_n_0_1_1512 x i) : (⟨S325x512, .f32⟩ : BufTy).Contents (Elt F) → (⟨S325x1, .i32⟩ : BufTy).Contents (Elt F) → (⟨S325x512, .f32⟩ : BufTy).Contents (Elt F)),
   StableHlo.reshape main_arg3 main_v27 (rfl : (.f32 : EltTy) = .f32) shapeCasts_S512_S1x512,
   StableHlo.reshape main_arg5 main_v28 (rfl : (.f32 : EltTy) = .f32) shapeCasts_S256_S1x256,
   StableHlo.reshape main_arg7 main_v29 (rfl : (.f32 : EltTy) = .f32) shapeCasts_S1_S1x1,
   StableHlo.unary main_v14 main_v30 ((extractStridedSlice S1x131072 ![0, 0] · slices_S1x524288_S1x131072_0_0) : (⟨S1x524288, .i32⟩ : BufTy).Contents (Elt F) → (⟨S1x131072, .i32⟩ : BufTy).Contents (Elt F))]

def ops2 : List (HloOp τ sig (Elt F)) :=
  [StableHlo.reshape main_v31 main_v32 (rfl : (.f32 : EltTy) = .f32) shapeCasts_S131072x16_S4096x512]

def ops3 : List (HloOp τ sig (Elt F)) :=
  [StableHlo.unary main_v14 main_v34 ((extractStridedSlice S1x131072 ![0, 131072] · slices_S1x524288_S1x131072_0_131072) : (⟨S1x524288, .i32⟩ : BufTy).Contents (Elt F) → (⟨S1x131072, .i32⟩ : BufTy).Contents (Elt F))]

def ops4 : List (HloOp τ sig (Elt F)) :=
  [StableHlo.reshape main_v35 main_v36 (rfl : (.f32 : EltTy) = .f32) shapeCasts_S131072x16_S4096x512]

def ops5 : List (HloOp τ sig (Elt F)) :=
  [StableHlo.unary main_v14 main_v38 ((extractStridedSlice S1x131072 ![0, 262144] · slices_S1x524288_S1x131072_0_262144) : (⟨S1x524288, .i32⟩ : BufTy).Contents (Elt F) → (⟨S1x131072, .i32⟩ : BufTy).Contents (Elt F))]

def ops6 : List (HloOp τ sig (Elt F)) :=
  [StableHlo.reshape main_v39 main_v40 (rfl : (.f32 : EltTy) = .f32) shapeCasts_S131072x16_S4096x512]

def ops7 : List (HloOp τ sig (Elt F)) :=
  [StableHlo.unary main_v14 main_v42 ((extractStridedSlice S1x131072 ![0, 393216] · slices_S1x524288_S1x131072_0_393216) : (⟨S1x524288, .i32⟩ : BufTy).Contents (Elt F) → (⟨S1x131072, .i32⟩ : BufTy).Contents (Elt F))]

def ops8 : List (HloOp τ sig (Elt F)) :=
  [StableHlo.reshape main_v43 main_v44 (rfl : (.f32 : EltTy) = .f32) shapeCasts_S131072x16_S4096x512]

def ops9 : List (HloOp τ sig (Elt F)) :=
  [StableHlo.nary ![main_v33, main_v37, main_v41, main_v45] main_v46 (fun u => (concatenate S16384x1 0 [⟨S4096x1, (u 0 : (⟨S4096x1, .f32⟩ : BufTy).Contents (Elt F))⟩, ⟨S4096x1, (u 1 : (⟨S4096x1, .f32⟩ : BufTy).Contents (Elt F))⟩, ⟨S4096x1, (u 2 : (⟨S4096x1, .f32⟩ : BufTy).Contents (Elt F))⟩, ⟨S4096x1, (u 3 : (⟨S4096x1, .f32⟩ : BufTy).Contents (Elt F))⟩] concatenates_S4096x1_S4096x1_S4096x1_S4096x1_S16384x1_d0 : (⟨S16384x1, .f32⟩ : BufTy).Contents (Elt F))),
   StableHlo.reshape main_v46 main_v47 (rfl : (.f32 : EltTy) = .f32) shapeCasts_S16384x1_S16384]

set_option maxHeartbeats 4000000 in
theorem main_eq (d : Dev nD) : main (F := F) d = (StableHlo.seq ops0 >>= fun _ => (Prog.lift (.customCall (SparseCore.inner (Pipeline.entry 0)) ())) >>= fun _ => StableHlo.seq ops1 >>= fun _ => (sc.run d 0) >>= fun _ => StableHlo.seq ops2 >>= fun _ => (Prog.lift (.customCall (SparseCore.inner (Pipeline.entry 1)) ())) >>= fun _ => StableHlo.seq ops3 >>= fun _ => (sc.run d 1) >>= fun _ => StableHlo.seq ops4 >>= fun _ => (Prog.lift (.customCall (SparseCore.inner (Pipeline.entry 2)) ())) >>= fun _ => StableHlo.seq ops5 >>= fun _ => (sc.run d 2) >>= fun _ => StableHlo.seq ops6 >>= fun _ => (Prog.lift (.customCall (SparseCore.inner (Pipeline.entry 3)) ())) >>= fun _ => StableHlo.seq ops7 >>= fun _ => (sc.run d 3) >>= fun _ => StableHlo.seq ops8 >>= fun _ => (Prog.lift (.customCall (SparseCore.inner (Pipeline.entry 4)) ())) >>= fun _ => StableHlo.seq ops9 >>= fun _ => pure ⟨⟩) := by
  rfl

theorem ops0_sub : ∀ op ∈ (ops0 : List (HloOp τ sig (Elt F))), op.bufs ⊆ Pipeline.ucRefs τ sig :=
  fun op h => Pipeline.sub_ucRefs op (List.forall_iff_forall_mem.mp (by simp [ops0] : (ops0 : List (HloOp τ sig (Elt F))).Forall fun op => op.bufs ⊆ StableHlo.tcRefs τ sig) op h)
theorem ops0_fresh : ∀ op ∈ (ops0 : List (HloOp τ sig (Elt F))), op.fresh = ∅ := by
  unfold ops0; intro _ h; (repeat (cases h with | head => rfl | tail _ h => ?_)); exact nomatch h

theorem ops1_sub : ∀ op ∈ (ops1 : List (HloOp τ sig (Elt F))), op.bufs ⊆ Pipeline.ucRefs τ sig :=
  fun op h => Pipeline.sub_ucRefs op (List.forall_iff_forall_mem.mp (by simp [ops1] : (ops1 : List (HloOp τ sig (Elt F))).Forall fun op => op.bufs ⊆ StableHlo.tcRefs τ sig) op h)
theorem ops1_fresh : ∀ op ∈ (ops1 : List (HloOp τ sig (Elt F))), op.fresh = ∅ := by
  unfold ops1; intro _ h; (repeat (cases h with | head => rfl | tail _ h => ?_)); exact nomatch h

theorem ops2_sub : ∀ op ∈ (ops2 : List (HloOp τ sig (Elt F))), op.bufs ⊆ Pipeline.ucRefs τ sig :=
  fun op h => Pipeline.sub_ucRefs op (List.forall_iff_forall_mem.mp (by simp [ops2] : (ops2 : List (HloOp τ sig (Elt F))).Forall fun op => op.bufs ⊆ StableHlo.tcRefs τ sig) op h)
theorem ops2_fresh : ∀ op ∈ (ops2 : List (HloOp τ sig (Elt F))), op.fresh = ∅ := by
  unfold ops2; intro _ h; (repeat (cases h with | head => rfl | tail _ h => ?_)); exact nomatch h

theorem ops3_sub : ∀ op ∈ (ops3 : List (HloOp τ sig (Elt F))), op.bufs ⊆ Pipeline.ucRefs τ sig :=
  fun op h => Pipeline.sub_ucRefs op (List.forall_iff_forall_mem.mp (by simp [ops3] : (ops3 : List (HloOp τ sig (Elt F))).Forall fun op => op.bufs ⊆ StableHlo.tcRefs τ sig) op h)
theorem ops3_fresh : ∀ op ∈ (ops3 : List (HloOp τ sig (Elt F))), op.fresh = ∅ := by
  unfold ops3; intro _ h; (repeat (cases h with | head => rfl | tail _ h => ?_)); exact nomatch h

theorem ops4_sub : ∀ op ∈ (ops4 : List (HloOp τ sig (Elt F))), op.bufs ⊆ Pipeline.ucRefs τ sig :=
  fun op h => Pipeline.sub_ucRefs op (List.forall_iff_forall_mem.mp (by simp [ops4] : (ops4 : List (HloOp τ sig (Elt F))).Forall fun op => op.bufs ⊆ StableHlo.tcRefs τ sig) op h)
theorem ops4_fresh : ∀ op ∈ (ops4 : List (HloOp τ sig (Elt F))), op.fresh = ∅ := by
  unfold ops4; intro _ h; (repeat (cases h with | head => rfl | tail _ h => ?_)); exact nomatch h

theorem ops5_sub : ∀ op ∈ (ops5 : List (HloOp τ sig (Elt F))), op.bufs ⊆ Pipeline.ucRefs τ sig :=
  fun op h => Pipeline.sub_ucRefs op (List.forall_iff_forall_mem.mp (by simp [ops5] : (ops5 : List (HloOp τ sig (Elt F))).Forall fun op => op.bufs ⊆ StableHlo.tcRefs τ sig) op h)
theorem ops5_fresh : ∀ op ∈ (ops5 : List (HloOp τ sig (Elt F))), op.fresh = ∅ := by
  unfold ops5; intro _ h; (repeat (cases h with | head => rfl | tail _ h => ?_)); exact nomatch h

theorem ops6_sub : ∀ op ∈ (ops6 : List (HloOp τ sig (Elt F))), op.bufs ⊆ Pipeline.ucRefs τ sig :=
  fun op h => Pipeline.sub_ucRefs op (List.forall_iff_forall_mem.mp (by simp [ops6] : (ops6 : List (HloOp τ sig (Elt F))).Forall fun op => op.bufs ⊆ StableHlo.tcRefs τ sig) op h)
theorem ops6_fresh : ∀ op ∈ (ops6 : List (HloOp τ sig (Elt F))), op.fresh = ∅ := by
  unfold ops6; intro _ h; (repeat (cases h with | head => rfl | tail _ h => ?_)); exact nomatch h

theorem ops7_sub : ∀ op ∈ (ops7 : List (HloOp τ sig (Elt F))), op.bufs ⊆ Pipeline.ucRefs τ sig :=
  fun op h => Pipeline.sub_ucRefs op (List.forall_iff_forall_mem.mp (by simp [ops7] : (ops7 : List (HloOp τ sig (Elt F))).Forall fun op => op.bufs ⊆ StableHlo.tcRefs τ sig) op h)
theorem ops7_fresh : ∀ op ∈ (ops7 : List (HloOp τ sig (Elt F))), op.fresh = ∅ := by
  unfold ops7; intro _ h; (repeat (cases h with | head => rfl | tail _ h => ?_)); exact nomatch h

theorem ops8_sub : ∀ op ∈ (ops8 : List (HloOp τ sig (Elt F))), op.bufs ⊆ Pipeline.ucRefs τ sig :=
  fun op h => Pipeline.sub_ucRefs op (List.forall_iff_forall_mem.mp (by simp [ops8] : (ops8 : List (HloOp τ sig (Elt F))).Forall fun op => op.bufs ⊆ StableHlo.tcRefs τ sig) op h)
theorem ops8_fresh : ∀ op ∈ (ops8 : List (HloOp τ sig (Elt F))), op.fresh = ∅ := by
  unfold ops8; intro _ h; (repeat (cases h with | head => rfl | tail _ h => ?_)); exact nomatch h

theorem ops9_sub : ∀ op ∈ (ops9 : List (HloOp τ sig (Elt F))), op.bufs ⊆ Pipeline.ucRefs τ sig :=
  fun op h => Pipeline.sub_ucRefs op (List.forall_iff_forall_mem.mp (by simp [ops9] : (ops9 : List (HloOp τ sig (Elt F))).Forall fun op => op.bufs ⊆ StableHlo.tcRefs τ sig) op h)
theorem ops9_fresh : ∀ op ∈ (ops9 : List (HloOp τ sig (Elt F))), op.fresh = ∅ := by
  unfold ops9; intro _ h; (repeat (cases h with | head => rfl | tail _ h => ?_)); exact nomatch h

end Cert.Proof.GatherIdeal

end
-- ==== Proof.RegBodyI.lean ====
/-
  The two TensorCore bodies on their staging buffers: what each leaves in its output.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Tactic
public import proofs.«01_k».proof.Proof.ScStepI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

abbrev tr0 : Rect S1x16x100000 := Rect.unit (s := S1x16x100000) ![0, 0, 0] S1x16x12544.size inb_S1x16x100000_S1x16x12544_0_0_0
abbrev tr1 : Rect S1x16x100000 := Rect.unit (s := S1x16x100000) ![0, 0, 12544] S1x16x12544.size inb_S1x16x100000_S1x16x12544_0_0_12544
abbrev tr2 : Rect S1x16x100000 := Rect.unit (s := S1x16x100000) ![0, 0, 25088] S1x16x12544.size inb_S1x16x100000_S1x16x12544_0_0_25088
abbrev tr3 : Rect S1x16x100000 := Rect.unit (s := S1x16x100000) ![0, 0, 37632] S1x16x12544.size inb_S1x16x100000_S1x16x12544_0_0_37632
abbrev tr4 : Rect S1x16x100000 := Rect.unit (s := S1x16x100000) ![0, 0, 50176] S1x16x12544.size inb_S1x16x100000_S1x16x12544_0_0_50176
abbrev tr5 : Rect S1x16x100000 := Rect.unit (s := S1x16x100000) ![0, 0, 62720] S1x16x12544.size inb_S1x16x100000_S1x16x12544_0_0_62720
abbrev tr6 : Rect S1x16x100000 := Rect.unit (s := S1x16x100000) ![0, 0, 75264] S1x16x12544.size inb_S1x16x100000_S1x16x12544_0_0_75264
abbrev tr7 : Rect S1x16x100000 := Rect.unit (s := S1x16x100000) ![0, 0, 87808] S1x16x12192.size inb_S1x16x100000_S1x16x12192_0_0_87808
abbrev tr8 : Rect S1x12544x128 := Rect.unit (s := S1x12544x128) ![0, 0, 0] S1x12544x128.size inb_S1x12544x128_S1x12544x128_0_0_0

/-! ## What the body leaves in each output window's buffer -/

/-- Window 1's staging buffer after the body, from the input windows' blocks: its 1 store as pieces, LAST
    FIRST (Lib/Pipeline/FrameBody.lean `View.canon`; the payloads are the skeleton's). -/
def tpOut (x0 : Vec F S1x16x100000 .f32) : Vec F S1x12544x128 .f32 :=
  View.canon [⟨tr8, k0_pay1 (View.ld x0 tr0) (View.ld x0 tr1) (View.ld x0 tr2) (View.ld x0 tr3) (View.ld x0 tr4) (View.ld x0 tr5) (View.ld x0 tr6) (View.ld x0 tr7)⟩]

/-- Its stores tile the buffer (checked by evaluation), so they cover it. -/
theorem tpCover (p0 : Vec F S1x12544x128 .f32) (y : S1x12544x128.Idx) :
    ∃ pc ∈ ([⟨tr8, p0⟩] : List (View.Piece (Elt F) S1x12544x128 .f32)), y ∈ pc.1.set :=
  View.cover_of_tiled [⟨tr8, p0⟩] S1x12544x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_tp (c : Dev nD) (E : Set ℕ) (i : grid0.Coords) (arg1 : Memref sig .tc .vmem S1x16x100000 .f32) (harg1 : arg1.IsWhole) (arg2 : Memref sig .tc .vmem S1x12544x128 .f32) (harg2 : arg2.IsWhole)
    (x0 : Vec F S1x16x100000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (tpOut x0)) -∗ K ⟨⟩))
      ⊢ wp frame (wpE (defs₀ (F := F)) 𝒱₀ c none) E (cc0__tp_body i arg1 harg1 arg2 harg2) K := by
  simp only [cc0__tp_body_eq_skeleton]; unfold cc0__tp_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (tpCover _)

abbrev Sh (a b : ℕ) : Shape := ⟨2, ![a, b]⟩

/-- The selector of a gap: row `k` of `K`, column `k / 16` of `n`, is one; the rest zero. -/
def gapSel (K n : ℕ) (h0 : (Sh K n).Iotas .tc 32 [0]) (h1 : (Sh K n).Iotas .tc 32 [1]) : FVec F (Sh K n) .bf16 :=
  have v8 : IVec (Sh K n) 32 := iota .tc (Sh K n) 32 [0] h0
  have v9 : IVec (Sh K n) 32 := broadcast (Sh K n) 16#32
  have v10 : IVec (Sh K n) 32 := divsi v8 v9
  have v11 : IVec (Sh K n) 32 := broadcast (Sh K n) 0#32
  have v12 : IVec (Sh K n) 1 := cmpi .sgt v8 v11
  have v13 : IVec (Sh K n) 32 := extui 32 v12 natLt_1_32
  have v14 : IVec (Sh K n) 32 := broadcast (Sh K n) 0#32
  have v15 : IVec (Sh K n) 1 := cmpi .slt v8 v14
  have v16 : IVec (Sh K n) 32 := extui 32 v15 natLt_1_32
  have v17 : IVec (Sh K n) 32 := subi v13 v16
  let v18 : BitVec 1 := Scalar.cmpi .sgt 16#32 0#32
  let v19 : BitVec 32 := Scalar.extui v18
  let v20 : BitVec 1 := Scalar.cmpi .slt 16#32 0#32
  let v21 : BitVec 32 := Scalar.extui v20
  let v22 : BitVec 32 := Scalar.subi v19 v21
  have v23 : IVec (Sh K n) 32 := broadcast (Sh K n) v22
  have v24 : IVec (Sh K n) 1 := cmpi .ne v17 v23
  have v25 : IVec (Sh K n) 32 := broadcast (Sh K n) 16#32
  have v26 : IVec (Sh K n) 32 := remsi v8 v25
  have v27 : IVec (Sh K n) 32 := broadcast (Sh K n) 0#32
  have v28 : IVec (Sh K n) 1 := cmpi .ne v26 v27
  have v29 : IVec (Sh K n) 1 := andi v24 v28
  have v30 : IVec (Sh K n) 32 := broadcast (Sh K n) 1#32
  have v31 : IVec (Sh K n) 32 := subi v10 v30
  have v32 : IVec (Sh K n) 32 := select v29 v31 v10
  have v33 : IVec (Sh K n) 32 := iota .tc (Sh K n) 32 [1] h1
  have v34 : IVec (Sh K n) 1 := cmpi .eq v32 v33
  have v35 : IVec (Sh K n) 32 := extui 32 v34 natLt_1_32
  have v36 : FVec F (Sh K n) .f32 := sitofp .f32 v35
  have v37 : FVec F (Sh K n) .bf16 := truncf .bf16 v36 bitsLt_bf16_f32
  v37

/-- The inner products of the fields `o / 16` apart: the products of the two slices, summed 16 at a time by the selector. -/
def gapDot (K n o : ℕ) (x : FVec F S1024x416 .f32) (hs0 : S1024x416.Slices ![0, 0] (Sh 1024 K)) (hs1 : S1024x416.Slices ![0, o] (Sh 1024 K))
    (h0 : (Sh K n).Iotas .tc 32 [0]) (h1 : (Sh K n).Iotas .tc 32 [1]) : FVec F (Sh 1024 n) .f32 :=
  matmul (DotDims.plain 1024 K n) none
    (truncf .bf16 (mulf (extractStridedSlice (Sh 1024 K) ![0, 0] x hs0) (extractStridedSlice (Sh 1024 K) ![0, o] x hs1)) bitsLt_bf16_f32)
    (gapSel K n h0 h1) (constant (Sh 1024 n) .f32 0x00000000#32)

/-- The inner products of all the pairs of fields, gap after gap. -/
def mlpIp (x : FVec F S1024x416 .f32) : FVec F S1024x325 .f32 :=
  concatenate S1024x325 1 [
    ⟨S1024x25, gapDot 400 25 16 x slices_S1024x416_o0_0_S1024x400 slices_S1024x416_o0_16_S1024x400 iota_S400x25_d0_w32 iota_S400x25_d1_w32⟩,
    ⟨S1024x24, gapDot 384 24 32 x slices_S1024x416_o0_0_S1024x384 slices_S1024x416_o0_32_S1024x384 iota_S384x24_d0_w32 iota_S384x24_d1_w32⟩,
    ⟨S1024x23, gapDot 368 23 48 x slices_S1024x416_o0_0_S1024x368 slices_S1024x416_o0_48_S1024x368 iota_S368x23_d0_w32 iota_S368x23_d1_w32⟩,
    ⟨S1024x22, gapDot 352 22 64 x slices_S1024x416_o0_0_S1024x352 slices_S1024x416_o0_64_S1024x352 iota_S352x22_d0_w32 iota_S352x22_d1_w32⟩,
    ⟨S1024x21, gapDot 336 21 80 x slices_S1024x416_o0_0_S1024x336 slices_S1024x416_o0_80_S1024x336 iota_S336x21_d0_w32 iota_S336x21_d1_w32⟩,
    ⟨S1024x20, gapDot 320 20 96 x slices_S1024x416_o0_0_S1024x320 slices_S1024x416_o0_96_S1024x320 iota_S320x20_d0_w32 iota_S320x20_d1_w32⟩,
    ⟨S1024x19, gapDot 304 19 112 x slices_S1024x416_o0_0_S1024x304 slices_S1024x416_o0_112_S1024x304 iota_S304x19_d0_w32 iota_S304x19_d1_w32⟩,
    ⟨S1024x18, gapDot 288 18 128 x slices_S1024x416_o0_0_S1024x288 slices_S1024x416_o0_128_S1024x288 iota_S288x18_d0_w32 iota_S288x18_d1_w32⟩,
    ⟨S1024x17, gapDot 272 17 144 x slices_S1024x416_o0_0_S1024x272 slices_S1024x416_o0_144_S1024x272 iota_S272x17_d0_w32 iota_S272x17_d1_w32⟩,
    ⟨S1024x16, gapDot 256 16 160 x slices_S1024x416_o0_0_S1024x256 slices_S1024x416_o0_160_S1024x256 iota_S256x16_d0_w32 iota_S256x16_d1_w32⟩,
    ⟨S1024x15, gapDot 240 15 176 x slices_S1024x416_o0_0_S1024x240 slices_S1024x416_o0_176_S1024x240 iota_S240x15_d0_w32 iota_S240x15_d1_w32⟩,
    ⟨S1024x14, gapDot 224 14 192 x slices_S1024x416_o0_0_S1024x224 slices_S1024x416_o0_192_S1024x224 iota_S224x14_d0_w32 iota_S224x14_d1_w32⟩,
    ⟨S1024x13, gapDot 208 13 208 x slices_S1024x416_o0_0_S1024x208 slices_S1024x416_o0_208_S1024x208 iota_S208x13_d0_w32 iota_S208x13_d1_w32⟩,
    ⟨S1024x12, gapDot 192 12 224 x slices_S1024x416_o0_0_S1024x192 slices_S1024x416_o0_224_S1024x192 iota_S192x12_d0_w32 iota_S192x12_d1_w32⟩,
    ⟨S1024x11, gapDot 176 11 240 x slices_S1024x416_o0_0_S1024x176 slices_S1024x416_o0_240_S1024x176 iota_S176x11_d0_w32 iota_S176x11_d1_w32⟩,
    ⟨S1024x10, gapDot 160 10 256 x slices_S1024x416_o0_0_S1024x160 slices_S1024x416_o0_256_S1024x160 iota_S160x10_d0_w32 iota_S160x10_d1_w32⟩,
    ⟨S1024x9, gapDot 144 9 272 x slices_S1024x416_o0_0_S1024x144 slices_S1024x416_o0_272_S1024x144 iota_S144x9_d0_w32 iota_S144x9_d1_w32⟩,
    ⟨S1024x8, gapDot 128 8 288 x slices_S1024x416_o0_0_S1024x128 slices_S1024x416_o0_288_S1024x128 iota_S128x8_d0_w32 iota_S128x8_d1_w32⟩,
    ⟨S1024x7, gapDot 112 7 304 x slices_S1024x416_o0_0_S1024x112 slices_S1024x416_o0_304_S1024x112 iota_S112x7_d0_w32 iota_S112x7_d1_w32⟩,
    ⟨S1024x6, gapDot 96 6 320 x slices_S1024x416_o0_0_S1024x96 slices_S1024x416_o0_320_S1024x96 iota_S96x6_d0_w32 iota_S96x6_d1_w32⟩,
    ⟨S1024x5, gapDot 80 5 336 x slices_S1024x416_o0_0_S1024x80 slices_S1024x416_o0_336_S1024x80 iota_S80x5_d0_w32 iota_S80x5_d1_w32⟩,
    ⟨S1024x4, gapDot 64 4 352 x slices_S1024x416_o0_0_S1024x64 slices_S1024x416_o0_352_S1024x64 iota_S64x4_d0_w32 iota_S64x4_d1_w32⟩,
    ⟨S1024x3, gapDot 48 3 368 x slices_S1024x416_o0_0_S1024x48 slices_S1024x416_o0_368_S1024x48 iota_S48x3_d0_w32 iota_S48x3_d1_w32⟩,
    ⟨S1024x2, gapDot 32 2 384 x slices_S1024x416_o0_0_S1024x32 slices_S1024x416_o0_384_S1024x32 iota_S32x2_d0_w32 iota_S32x2_d1_w32⟩,
    ⟨S1024x1, gapDot 16 1 400 x slices_S1024x416_o0_0_S1024x16 slices_S1024x416_o0_400_S1024x16 iota_S16x1_d0_w32 iota_S16x1_d1_w32⟩] concatenates_S1024x25_S1024x24_S1024x23_S1024x22_S1024x21_S1024x20_S1024x19_S1024x18_S1024x17_S1024x16_S1024x15_S1024x14_S1024x13_S1024x12_S1024x11_S1024x10_S1024x9_S1024x8_S1024x7_S1024x6_S1024x5_S1024x4_S1024x3_S1024x2_S1024x1_S1024x325_d1

/-- What the body computes of its blocks. -/
def mlpVal (v0 : Vec F S1024x512 .f32) (v881 : Vec F S416x512 .f32) (v885 : Vec F S325x512 .f32) (v897 : Vec F S512x256 .f32) (v907 : Vec F S256x1 .f32)
    (v890 : Vec F S1x512 .f32) (v900 : Vec F S1x256 .f32) (v910 : Vec F S1x1 .f32) : FVec F S1024x1 .f32 :=
  have v1 : FVec F S1024x512 .f32 := shapeCast S1024x512 v0 shapeCasts_S1024x512_S1024x512
  have v2 : FVec F S1024x416 .f32 := extractStridedSlice S1024x416 ![0, 0] v1 slices_S1024x512_o0_0_S1024x416
  have v3 : FVec F S1024x416 .bf16 := truncf .bf16 v2 bitsLt_bf16_f32
  have v880 : FVec F S1024x325 .bf16 := truncf .bf16 (mlpIp v2) bitsLt_bf16_f32
  have v882 : FVec F S416x512 .f32 := shapeCast S416x512 v881 shapeCasts_S416x512_S416x512
  have v883 : FVec F S416x512 .bf16 := truncf .bf16 v882 bitsLt_bf16_f32
  have cst_199 : FVec F S1024x512 .f32 := constant S1024x512 .f32 0x00000000#32
  have v884 : FVec F S1024x512 .f32 := matmul dot_S1024x416_S416x512_S1024x512_1_0_0_1_n_n none v3 v883 cst_199
  have v886 : FVec F S325x512 .f32 := shapeCast S325x512 v885 shapeCasts_S325x512_S325x512
  have v887 : FVec F S325x512 .bf16 := truncf .bf16 v886 bitsLt_bf16_f32
  have cst_202 : FVec F S1024x512 .f32 := constant S1024x512 .f32 0x00000000#32
  have v888 : FVec F S1024x512 .f32 := matmul dot_S1024x325_S325x512_S1024x512_1_0_0_1_n_n none v880 v887 cst_202
  have v889 : FVec F S1024x512 .f32 := addf v884 v888
  have v891 : FVec F S1x512 .f32 := shapeCast S1x512 v890 shapeCasts_S1x512_S1x512
  have v892 : FVec F S1024x512 .f32 := broadcastTo S1024x512 v891 broadcasts_S1x512_S1024x512
  have v893 : FVec F S1024x512 .f32 := addf v889 v892
  have cst_205 : F .f32 := Scalar.ofBits .f32 0x00000000#32
  have v894 : FVec F S1024x512 .f32 := broadcast S1024x512 cst_205
  have v895 : FVec F S1024x512 .f32 := maximumf v893 v894
  have v896 : FVec F S1024x512 .bf16 := truncf .bf16 v895 bitsLt_bf16_f32
  have v898 : FVec F S512x256 .bf16 := truncf .bf16 v897 bitsLt_bf16_f32
  have cst_208 : FVec F S1024x256 .f32 := constant S1024x256 .f32 0x00000000#32
  have v899 : FVec F S1024x256 .f32 := matmul dot_S1024x512_S512x256_S1024x256_1_0_0_1_n_n none v896 v898 cst_208
  have v901 : FVec F S1x256 .f32 := shapeCast S1x256 v900 shapeCasts_S1x256_S1x256
  have v902 : FVec F S1024x256 .f32 := broadcastTo S1024x256 v901 broadcasts_S1x256_S1024x256
  have v903 : FVec F S1024x256 .f32 := addf v899 v902
  have cst_211 : F .f32 := Scalar.ofBits .f32 0x00000000#32
  have v904 : FVec F S1024x256 .f32 := broadcast S1024x256 cst_211
  have v905 : FVec F S1024x256 .f32 := maximumf v903 v904
  have v906 : FVec F S1024x256 .bf16 := truncf .bf16 v905 bitsLt_bf16_f32
  have v908 : FVec F S256x1 .bf16 := truncf .bf16 v907 bitsLt_bf16_f32
  have cst_214 : FVec F S1024x1 .f32 := constant S1024x1 .f32 0x00000000#32
  have v909 : FVec F S1024x1 .f32 := matmul dot_S1024x256_S256x1_S1024x1_1_0_0_1_n_n none v906 v908 cst_214
  have v911 : FVec F S1x1 .f32 := shapeCast S1x1 v910 shapeCasts_S1x1_S1x1
  have v912 : FVec F S1024x1 .f32 := broadcastTo S1024x1 v911 broadcasts_S1x1_S1024x1
  have v913 : FVec F S1024x1 .f32 := addf v909 v912
  have v914 : FVec F S1024x1 .f32 := logistic v913
  v914

abbrev mr0 : Rect S1024x512 := Rect.unit (s := S1024x512) ![0, 0] S1024x512.size inb_S1024x512_S1024x512_0_0
abbrev mr1 : Rect S416x512 := Rect.unit (s := S416x512) ![0, 0] S416x512.size inb_S416x512_S416x512_0_0
abbrev mr2 : Rect S325x512 := Rect.unit (s := S325x512) ![0, 0] S325x512.size inb_S325x512_S325x512_0_0
abbrev mr3 : Rect S1x512 := Rect.unit (s := S1x512) ![0, 0] S1x512.size inb_S1x512_S1x512_0_0
abbrev mr4 : Rect S512x256 := Rect.unit (s := S512x256) ![0, 0] S512x256.size inb_S512x256_S512x256_0_0
abbrev mr5 : Rect S1x256 := Rect.unit (s := S1x256) ![0, 0] S1x256.size inb_S1x256_S1x256_0_0
abbrev mr6 : Rect S256x1 := Rect.unit (s := S256x1) ![0, 0] S256x1.size inb_S256x1_S256x1_0_0
abbrev mr7 : Rect S1x1 := Rect.unit (s := S1x1) ![0, 0] S1x1.size inb_S1x1_S1x1_0_0
abbrev mr8 : Rect S1024x1 := Rect.unit (s := S1024x1) ![0, 0] S1024x1.size inb_S1024x1_S1024x1_0_0

/-! ## What the body leaves in each output window's buffer -/

/-- Its output's staging buffer after the body. -/
def mlpOut (x0 : Vec F S1024x512 .f32) (x1 : Vec F S416x512 .f32) (x2 : Vec F S325x512 .f32) (x3 : Vec F S512x256 .f32) (x4 : Vec F S256x1 .f32) (x5 : Vec F S1x512 .f32) (x6 : Vec F S1x256 .f32) (x7 : Vec F S1x1 .f32) : Vec F S1024x1 .f32 :=
  View.canon [⟨mr8, mlpVal (View.ld x0 mr0) (View.ld x1 mr1) (View.ld x2 mr2) (View.ld x3 mr4) (View.ld x4 mr6) (View.ld x5 mr3) (View.ld x6 mr5) (View.ld x7 mr7)⟩]

/-- Its stores tile the buffer (checked by evaluation), so they cover it. -/
theorem mlpCover (p0 : Vec F S1024x1 .f32) (y : S1024x1.Idx) :
    ∃ pc ∈ ([⟨mr8, p0⟩] : List (View.Piece (Elt F) S1024x1 .f32)), y ∈ pc.1.set :=
  View.cover_of_tiled [⟨mr8, p0⟩] S1024x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_mlp (c : Dev nD) (E : Set ℕ) (i : grid2.Coords) (arg1 : Memref sig .tc .vmem S1024x512 .f32) (harg1 : arg1.IsWhole) (arg2 : Memref sig .tc .vmem S416x512 .f32) (harg2 : arg2.IsWhole) (arg3 : Memref sig .tc .vmem S325x512 .f32) (harg3 : arg3.IsWhole) (arg4 : Memref sig .tc .vmem S512x256 .f32) (harg4 : arg4.IsWhole) (arg5 : Memref sig .tc .vmem S256x1 .f32) (harg5 : arg5.IsWhole) (arg6 : Memref sig .tc .vmem S1x512 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole)
    (x0 : Vec F S1024x512 .f32) (x1 : Vec F S416x512 .f32) (x2 : Vec F S325x512 .f32) (x3 : Vec F S512x256 .f32) (x4 : Vec F S256x1 .f32) (x5 : Vec F S1x512 .f32) (x6 : Vec F S1x256 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (mlpOut x0 x1 x2 x3 x4 x5 x6 x7)) -∗ K ⟨⟩))
      ⊢ wp frame (wpE (defs₀ (F := F)) 𝒱₀ c none) E (cc2__mlp_body i arg1 harg1 arg2 harg2 arg3 harg3 arg4 harg4 arg5 harg5 arg6 harg6 arg7 harg7 arg8 harg8 arg9 harg9) K := by
  simp only [cc2__mlp_body_eq_skeleton]; unfold cc2__mlp_body_skel
  simp only [k2_part19_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (mlpCover _)).trans ?_
  rfl

end Cert.Proof.GatherIdeal

end
-- ==== Proof.RegSegI.lean ====
/-
  A TensorCore pallas_call of @main as a step: from all the unscoped buffers held at a valuation, to the same held with the call's
  arrays at what its proof data say.
-/
module

public import proofs.«01_k».proof.Proof.RegBodyI
public import proofs.«01_k».proof.Proof.ScTileI
public import Idealize.ShloMosaic.Lib.Pipeline.RegionArraysS

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx nCalls) (Elt F) ℕ UU ℕ

abbrev EP : Emb (URounds (GSem nD τ sig) Unit) (MT nD τ sig (HIx nCalls) (Elt F) ℕ UU ℕ) :=
  (Emb.inl : Emb (URounds (GSem nD τ sig) Unit) (URounds (GSem nD τ sig) Unit × Counters)).trans (embR : Emb (URounds (GSem nD τ sig) Unit × Counters) (MT nD τ sig (HIx nCalls) (Elt F) ℕ (UH × (URounds (GSem nD τ sig) Unit × Counters)) ℕ))

abbrev adm : (p : Fin 5) → (pcfgs (F := F) p).Adm := fun p => (cfgs p).toPCfg_adm

theorem pin_inj : Function.Injective (Pipeline.cellOf (nD := nD) (τ := τ) (Pipeline.pin (pcfgs (F := F)) adm)) := cellOf_inj

/-- The bound on what the TensorCore's waits have recorded before call `n`. -/
def below (d : Dev nD) (n : ℕ) : Set (SemLoc sig × HIx nCalls) := {p | (K (F := F)).lev (T d, p.1) p.2 ≤ 8 * n}

/-- What the TensorCore owes before call `n`, its recorded pairs bounded. -/
abbrev tcOwes (d : Dev nD) (n : ℕ) : sProp 𝕄 :=
  iprop(∃ W, ⌜(K (F := F)).WBelow (T d) W (8 * n)⌝ ∗ owes (T d) ((K (F := F)).Otc d n) W)

section Region

variable (pdats : (p : Fin 5) → (c : Dev nD) → Dat τ (Elt F) (HIx nCalls) ℕ UU ℕ (Pipeline.pin (pcfgs (F := F)) adm p) c) (p : Fin 5) (n : ℕ)
  (U : Dev nD → Valuation τ sig (Elt F))

/-- What the proof data of a call say: nothing of its own, the arrays as the valuation has them, full shares, what is owed unchanged. -/
structure PlainDat : Prop where
  body : ∀ c, BodyObligation (pdats p c) (defs₀ (F := F)) 𝒱₀ none Set.univ
  owed : ∀ c t, (pdats p c).owed t = (K (F := F)).Otc c n
  recorded : ∀ c t, (pdats p c).recorded t = below (F := F) c n
  inv : ∀ c t, (pdats p c).Φ t = Pipeline.scopedRest (Pipeline.pin (pcfgs (F := F)) adm p).spec c
  share : ∀ c w, (pdats p c).share w = fullShare
  entry : ∀ c w, (pdats p c).A w = U c (Proc.devRef .tc (Pipeline.arrRef (Pipeline.pin (pcfgs (F := F)) adm p).spec w))

variable {pdats p n U}

def regSeg (kit : Pipeline.PLaunchFacts (nD := nD) (τ := τ) (pcfgs (F := F)) p) (h : PlainDat pdats p n U) :
    Pipeline.RegionSeg (pcfgs (F := F)) adm pdats none (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody c := (h.body c).loose
  hwaits c := Pipeline.cellsWaits_of_cut (Pipeline.pin (pcfgs (F := F)) adm) pdats none p c 0 ((K (F := F)).Otc c n) (h.owed c)
    (fun _ _ => Finset.mem_univ _) (fun _ _ => le_refl _)
    (fun g i hg => ⟨Finset.mem_univ _, lt_of_lt_of_le (Nat.succ_pos _) ((K (F := F)).lev_of_Otc_pos hg)⟩)
  pre c := iprop(StableHlo.held (c.tc : Thread nD τ) (Pipeline.ucRefs τ sig) (U c) ∗ tcOwes c n)
  post c := iprop(StableHlo.held (c.tc : Thread nD τ) (Pipeline.ucRefs τ sig) (Pipeline.afterRegion (pdats p c) (U c)) ∗ tcOwes c n)
  X _ := iprop(emp)
  Y _ := iprop(emp)
  Z c := StableHlo.held (c.tc : Thread nD τ) (Pipeline.ucRefs τ sig \ Pipeline.arrRefs (pcfgs (F := F) p).spec) (U c)
  hentry c := by
    rw [Pipeline.ownSems0_none, Pipeline.prefHeld_of_none _ rfl,
      StableHlo.held_sub_split (c.tc : Thread nD τ) (Pipeline.arrRefs_sub_ucRefs (pcfgs (F := F) p).spec kit.win.arr_unscoped) (U c),
      Pipeline.arrays_held (pcfgs (F := F)) adm pdats p kit c (h.share c) (fun x => (pdats p c).arrAt x 0) (U c) (fun w => h.entry c w)]
    iintro ⟨⟨⟨Ha, Hz⟩, HO⟩, -, -⟩
    imodintro
    isplitl [Ha]; · iexact Ha
    isplitr; · iempintro
    isplitl [HO]
    · unfold Dat.owesAt Pipeline.owesWithin Dat.bound
      rw [h.owed c 0, h.recorded c 0]
      icases HO with ⟨%W, %hW, HO⟩; iexists W; isplitr; · ipureintro; exact fun p hp => Or.inl (hW p hp)
      iexact HO
    isplitr; · iempintro
    iexact Hz
  hin c := by
    rw [h.inv c 0]
    iintro ⟨-, -, Hr⟩
    iexact Hr
  hout c := by
    rw [h.inv c, Pipeline.ownSems0_none]
    iintro Hr
    isplitr; · iempintro
    isplitr; · iempintro
    iexact Hr
  hexit c := by
    rw [Pipeline.arrays_held (pcfgs (F := F)) adm pdats p kit c (h.share c) _ (Pipeline.afterRegion (pdats p c) (U c))
      (fun w => (Pipeline.afterRegion_arr (pdats p c) (U c) kit.win.arr_inj w).symm),
      StableHlo.held_sub_split (c.tc : Thread nD τ) (Pipeline.arrRefs_sub_ucRefs (pcfgs (F := F) p).spec kit.win.arr_unscoped) (Pipeline.afterRegion (pdats p c) (U c)),
      StableHlo.held_congr (c.tc : Thread nD τ) (Pipeline.afterRegion_off (pdats p c) (U c) (Pipeline.ucRefs τ sig))]
    iintro ⟨Ha, HO, -, Hz⟩
    imodintro
    isplitl [Ha Hz]
    · isplitl [Ha]; · iexact Ha
      iexact Hz
    unfold Dat.owesAt Pipeline.owesWithin Dat.bound
    rw [h.owed c, h.recorded c]
    icases HO with ⟨%W, %hW, HO⟩; iexists W; isplitr
    · ipureintro; intro p hp
      rcases hW hp with hw | ⟨w, s, rfl⟩
      · exact hw
      · exact Nat.zero_le _
    iexact HO

set_option backward.isDefEq.respectTransparency.types false in
/-- The call's step. -/
theorem region_step (kit : Pipeline.PLaunchFacts (nD := nD) (τ := τ) (pcfgs (F := F)) p) (h : PlainDat pdats p n U) (d : Dev nD) (Φ : PUnit → sProp 𝕄) :
    iprop(boundary (T d) ∗ StableHlo.held (T d) (Pipeline.ucRefs τ sig) (U d) ∗ tcOwes d n ∗ levAts (K (F := F)).L (K (F := F)).lev
        ∗ (Pipeline.cellsGhost (Pipeline.pin (pcfgs (F := F)) adm) EP p d ∗ Pipeline.toksInit (Pipeline.pin (pcfgs (F := F)) adm) EP p d)
        ∗ (iprop(boundary (T d) ∗ StableHlo.held (T d) (Pipeline.ucRefs τ sig) (Pipeline.afterRegion (pdats p d) (U d)) ∗ tcOwes d n) -∗ Φ ⟨⟩))
      ⊢ wp frame (wpE ((K (F := F)).defs (D (F := F))) 𝒱 (T d) none) Set.univ
          (Prog.lift (.customCall (SparseCore.inner (Pipeline.entry p)) ())) Φ := by
  have key := Pipeline.RegionSeg.wp (pcfgs (F := F)) adm pdats none pin_inj EP (defs₀ (F := F)) 𝒱₀ (K (F := F)).L (K (F := F)).lev
    (regSeg kit h) d none (fun _ hu => nomatch hu) (fun _ => .ret ⟨⟩) Φ
  rw [show (regSeg kit h).pre d = iprop(StableHlo.held (d.tc : Thread nD τ) (Pipeline.ucRefs τ sig) (U d) ∗ tcOwes d n) from rfl,
    show (regSeg kit h).post d = iprop(StableHlo.held (d.tc : Thread nD τ) (Pipeline.ucRefs τ sig) (Pipeline.afterRegion (pdats p d) (U d)) ∗ tcOwes d n)
      from rfl] at key
  have lifted := (K (F := F)).wp_liftProg (D (F := F)) 𝒱 (T d) Set.univ none (Prog.op (.customCall (Pipeline.entry p) ()) fun _ => Prog.ret PUnit.unit) Φ
  iintro ⟨Hb, Hh, HO, Hl, ⟨Hg, Ht⟩, Hk⟩
  iapply lifted
  iapply key
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Region

end Cert.Proof.GatherIdeal

end
-- ==== Proof.ScCallsI.lean ====
/-
  The four gather calls' launch: what each subcore is handed and brings back, each call's step, and the launch's ghost state.
-/
module

public import proofs.«01_k».proof.Proof.HostOpsI
public import proofs.«01_k».proof.Proof.RegSegI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

abbrev EH : Emb UH (MT nD τ sig (HIx nCalls) (Elt F) ℕ UU ℕ) := embL

abbrev aT : Memref sig .scVector .hbm S2609152x16 .f32 := Memref.whole main_v17_scv

/-- What the valuation has as the table. -/
abbrev tabOf (V : Valuation τ sig (Elt F)) : S2609152x16.Idx → Elt F .f32 := V (Proc.devRef .tc main_v17)

section Tasks

variable (d : Dev nD) (aI : Memref sig .scVector .hbm S1x131072 .i32) (aO : Memref sig .scVector .hbm S131072x16 .f32)
  (fT : S2609152x16.Idx → Elt F .f32) (fI : aI.view.ty.Contents (Elt F)) (f : aO.view.ty.Contents (Elt F))

/-- What the subcore `(c, i)` holds in a gather call. -/
abbrev task (c : Fin 2) (i : Fin 16) : sProp 𝕄 := Held (F := F) d (coordsV c i) aT aI aO fT fI (tileShare c i) f

instance task_storable (c : Fin 2) (i : Fin 16) : BI.Storable (upEmb : UEmb _ 𝕄) (task d aI aO fT fI f c i) := by
  unfold task Held tabP idxP outP; infer_instance

theorem tasks_storable (c : Fin 2) : BI.Storable (upEmb : UEmb _ 𝕄) (bigSep Finset.univ fun i : Fin 16 => task d aI aO fT fI f c i) := inferInstance

end Tasks

/-- Three arrays held whole are the subcores' shares and windows of them. -/
theorem nest_three {ℓT ℓI ℓO : Loc nD τ sig} {fT : Buf (Elt F) ℓT} {fI : Buf (Elt F) ℓI} {f : Buf (Elt F) ℓO}
    (WT : Fin 2 → Fin 16 → Finset (Idx ℓT)) (WI : Fin 2 → Fin 16 → ℕ → Finset (Idx ℓI)) (WO : Fin 2 → Fin 16 → ℕ → Finset (Idx ℓO))
    (nI : Idx ℓI → ℕ) (nO : Idx ℓO → ℕ) (hT : ∀ c s, WT c s = Finset.univ)
    (hI : ∀ c s w i, w < 32 → (i ∈ WI c s w ↔ nI i / 128 = 512 * c.val + 32 * s.val + w)) (bI : ∀ i, nI i < 131072)
    (hO : ∀ c s w i, w < 32 → (i ∈ WO c s w ↔ nO i / 128 = 512 * c.val + 32 * s.val + w)) (bO : ∀ i, nO i < 131072) :
    (iprop((ℓT ↦{fullShare} fT) ∗ (ℓI ↦{fullShare} fI) ∗ ℓO ↦{fullShare} f) : sProp 𝕄)
      = bigSep Finset.univ fun c : Fin 2 => bigSep Finset.univ fun s : Fin 16 =>
          iprop((ℓT ↦[WT c s]{tileShare c s} fT) ∗ (bigSep (Finset.range 32) fun w => ℓI ↦[WI c s w]{fullShare} fI)
            ∗ bigSep (Finset.range 32) fun w => ℓO ↦[WO c s w]{fullShare} f) := by
  rw [nest_share (ℓ := ℓT), nest (ℓ := ℓI) WI nI hI bI, nest (ℓ := ℓO) WO nO hO bO, ← bigSep_sep', ← bigSep_sep']
  refine bigSep_congr fun c _ => ?_
  rw [← bigSep_sep', ← bigSep_sep']
  exact bigSep_congr fun s _ => by rw [hT]

theorem tab_whole : (tabWin aT).view.set = Finset.univ := by
  refine (View.set_slice_whole _ _).trans ?_
  ext i
  simp only [Finset.mem_univ, iff_true]
  refine Rect.mem_set_unit.mpr ?_
  have b0 : (i 0).val < 2609152 := (i 0).isLt
  have b1 : (i 1).val < 16 := (i 1).isLt
  intro a; match a with
  | 0 => show 0 ≤ (i 0).val ∧ (i 0).val < 0 + 2609152; omega
  | 1 => show 0 ≤ (i 1).val ∧ (i 1).val < 0 + 16; omega

theorem mem_idx' {A : Finset S1x131072.Idx} (c : Fin 2) (s : Fin 16) (w : ℕ) (i : S1x131072.Idx) (h : w < 32)
    (hA : A = (Rect.unit (s := S1x131072) ![0, row0 (coordsV c s) w] S1x128.size (inb_idx (coordsV c s) w)).set) :
    i ∈ A ↔ (i 1).val / 128 = 512 * c.val + 32 * s.val + w := by rw [hA]; exact mem_idx c s w i h

theorem mem_rows' {A : Finset S131072x16.Idx} (c : Fin 2) (s : Fin 16) (w : ℕ) (i : S131072x16.Idx) (h : w < 32)
    (hA : A = (Rect.unit (s := S131072x16) ![row0 (coordsV c s) w, 0] S128x16.size (inb_rows (coordsV c s) w)).set) :
    i ∈ A ↔ (i 0).val / 128 = 512 * c.val + 32 * s.val + w := by rw [hA]; exact mem_rows c s w i h

theorem obl_post {thr : Thread nD τ} {A B C : sProp 𝕄} {O : CellTallies nD τ sig (HIx nCalls)} {W : Waits sig (HIx nCalls)} {q : Fin nCalls} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0: the rows that `main_v30` names, into `main_v31` -/

abbrev aI1 : Memref sig .scVector .hbm S1x131072 .i32 := Memref.whole main_v30_scv
abbrev aO1 : Memref sig .scVector .hbm S131072x16 .f32 := Memref.whole main_v31_scv
abbrev sI1 : Memref sig .scVector .vmem S2x1x128 .i32 := Memref.whole cc1_scoped0
abbrev sO1 : Memref sig .scVector .vmem S2x128x16 .f32 := Memref.whole cc1_scoped2
abbrev idx1 (V : Valuation τ sig (Elt F)) : S1x131072.Idx → Elt F .i32 := V (Proc.devRef .tc main_v30)
abbrev res1 (V : Valuation τ sig (Elt F)) : S131072x16.Idx → Elt F .f32 := V (Proc.devRef .tc main_v31)
abbrev new1 (V : Valuation τ sig (Elt F)) : S131072x16.Idx → Elt F .f32 := gathered (tabOf V) (idx1 V)
/-- The call as an operation on the arrays. -/
def gop1 : HloOp τ sig (Elt F) := StableHlo.binary main_v17 main_v30 main_v31 (gathered : (⟨S2609152x16, .f32⟩ : BufTy).Contents (Elt F) → (⟨S1x131072, .i32⟩ : BufTy).Contents (Elt F) → (⟨S131072x16, .f32⟩ : BufTy).Contents (Elt F))

theorem distinct1 : Five cc1_scoped1 cc1_scoped3 cc1_scoped4 := by decide +kernel
theorem scoped1 : ∀ s ∈ five cc1_scoped1 cc1_scoped3 cc1_scoped4, (SemLoc.dma s : SemLoc sig).isScoped .scVector = true := by decide +kernel
theorem owns1 (d : Dev nD) (L : grid1.Coords) : Owns (F := F) d L sI1 sO1 cc1_scoped1 cc1_scoped3 cc1_scoped4 :=
  owns_of d L sI1 sO1 cc1_scoped1 cc1_scoped3 cc1_scoped4 cc1_scoped0 cc1_scoped2 rfl rfl (by decide) rfl rfl scoped1

theorem vector1 (c : Fin τ.nSC) (s : Fin τ.nSub) :
    defs₀ (F := F) (.scVector c s) 1 ()
      = SparseCore.onTile hcore1 hsub1 (fun c s => cc1_k (coordsV c s) aT (Memref.isWhole_whole _) aI1 (Memref.isWhole_whole _) aO1 (Memref.isWhole_whole _)
          sI1 (Memref.isWhole_whole _) cc1_scoped1 sO1 (Memref.isWhole_whole _) cc1_scoped3 cc1_scoped4) ⟨⟩ c s := rfl

theorem tasks1 (d : Dev nD) (V : Valuation τ sig (Elt F)) (f : S131072x16.Idx → Elt F .f32) :
    (iprop(((SparseCore.T d).loc main_v17 ↦{fullShare} tabOf V) ∗ ((SparseCore.T d).loc main_v30 ↦{fullShare} idx1 V) ∗ (SparseCore.T d).loc main_v31 ↦{fullShare} f) : sProp 𝕄)
      = bigSep Finset.univ fun c : Fin 2 => bigSep Finset.univ fun i : Fin 16 => task d aI1 aO1 (tabOf V) (idx1 V) f c i :=
  nest_three (ℓT := (SparseCore.T d).loc main_v17) (ℓI := (SparseCore.T d).loc main_v30) (ℓO := (SparseCore.T d).loc main_v31) (fun _ _ => (tabWin aT).view.set)
    (fun c s w => (idxWin aI1 (coordsV c s) w).view.set) (fun c s w => (outWin aO1 (coordsV c s) w).view.set)
    (fun i : S1x131072.Idx => (i 1).val) (fun i : S131072x16.Idx => (i 0).val) (fun _ _ => tab_whole)
    (fun c s w i h => mem_idx' c s w i h (View.set_slice_whole _ _)) (fun i => (show (i 1).val < 131072 from (i 1).isLt))
    (fun c s w i h => mem_rows' c s w i h (View.set_slice_whole _ _)) (fun i => (show (i 0).val < 131072 from (i 0).isLt))

theorem held1 (d : Dev nD) (V : Valuation τ sig (Elt F)) :
    (StableHlo.held (SparseCore.T d) (gop1 (F := F)).bufs V : sProp 𝕄)
      = iprop(((SparseCore.T d).loc main_v17 ↦{fullShare} tabOf V) ∗ ((SparseCore.T d).loc main_v30 ↦{fullShare} idx1 V) ∗ (SparseCore.T d).loc main_v31 ↦{fullShare} res1 V) := by
  unfold StableHlo.held
  rw [show (gop1 (F := F)).bufs = {Proc.devRef .tc main_v17, Proc.devRef .tc main_v30, Proc.devRef .tc main_v31} from rfl,
    SparseCore.bigSep_insert' (by decide), SparseCore.bigSep_insert' (by decide), bigSep_singleton]

/-! ## Call 1: the rows that `main_v34` names, into `main_v35` -/

abbrev aI3 : Memref sig .scVector .hbm S1x131072 .i32 := Memref.whole main_v34_scv
abbrev aO3 : Memref sig .scVector .hbm S131072x16 .f32 := Memref.whole main_v35_scv
abbrev sI3 : Memref sig .scVector .vmem S2x1x128 .i32 := Memref.whole cc3_scoped0
abbrev sO3 : Memref sig .scVector .vmem S2x128x16 .f32 := Memref.whole cc3_scoped2
abbrev idx3 (V : Valuation τ sig (Elt F)) : S1x131072.Idx → Elt F .i32 := V (Proc.devRef .tc main_v34)
abbrev res3 (V : Valuation τ sig (Elt F)) : S131072x16.Idx → Elt F .f32 := V (Proc.devRef .tc main_v35)
abbrev new3 (V : Valuation τ sig (Elt F)) : S131072x16.Idx → Elt F .f32 := gathered (tabOf V) (idx3 V)
/-- The call as an operation on the arrays. -/
def gop3 : HloOp τ sig (Elt F) := StableHlo.binary main_v17 main_v34 main_v35 (gathered : (⟨S2609152x16, .f32⟩ : BufTy).Contents (Elt F) → (⟨S1x131072, .i32⟩ : BufTy).Contents (Elt F) → (⟨S131072x16, .f32⟩ : BufTy).Contents (Elt F))

theorem distinct3 : Five cc3_scoped1 cc3_scoped3 cc3_scoped4 := by decide +kernel
theorem scoped3 : ∀ s ∈ five cc3_scoped1 cc3_scoped3 cc3_scoped4, (SemLoc.dma s : SemLoc sig).isScoped .scVector = true := by decide +kernel
theorem owns3 (d : Dev nD) (L : grid1.Coords) : Owns (F := F) d L sI3 sO3 cc3_scoped1 cc3_scoped3 cc3_scoped4 :=
  owns_of d L sI3 sO3 cc3_scoped1 cc3_scoped3 cc3_scoped4 cc3_scoped0 cc3_scoped2 rfl rfl (by decide) rfl rfl scoped3

theorem vector3 (c : Fin τ.nSC) (s : Fin τ.nSub) :
    defs₀ (F := F) (.scVector c s) 3 ()
      = SparseCore.onTile hcore1 hsub1 (fun c s => cc1_k (coordsV c s) aT (Memref.isWhole_whole _) aI3 (Memref.isWhole_whole _) aO3 (Memref.isWhole_whole _)
          sI3 (Memref.isWhole_whole _) cc3_scoped1 sO3 (Memref.isWhole_whole _) cc3_scoped3 cc3_scoped4) ⟨⟩ c s := rfl

theorem tasks3 (d : Dev nD) (V : Valuation τ sig (Elt F)) (f : S131072x16.Idx → Elt F .f32) :
    (iprop(((SparseCore.T d).loc main_v17 ↦{fullShare} tabOf V) ∗ ((SparseCore.T d).loc main_v34 ↦{fullShare} idx3 V) ∗ (SparseCore.T d).loc main_v35 ↦{fullShare} f) : sProp 𝕄)
      = bigSep Finset.univ fun c : Fin 2 => bigSep Finset.univ fun i : Fin 16 => task d aI3 aO3 (tabOf V) (idx3 V) f c i :=
  nest_three (ℓT := (SparseCore.T d).loc main_v17) (ℓI := (SparseCore.T d).loc main_v34) (ℓO := (SparseCore.T d).loc main_v35) (fun _ _ => (tabWin aT).view.set)
    (fun c s w => (idxWin aI3 (coordsV c s) w).view.set) (fun c s w => (outWin aO3 (coordsV c s) w).view.set)
    (fun i : S1x131072.Idx => (i 1).val) (fun i : S131072x16.Idx => (i 0).val) (fun _ _ => tab_whole)
    (fun c s w i h => mem_idx' c s w i h (View.set_slice_whole _ _)) (fun i => (show (i 1).val < 131072 from (i 1).isLt))
    (fun c s w i h => mem_rows' c s w i h (View.set_slice_whole _ _)) (fun i => (show (i 0).val < 131072 from (i 0).isLt))

theorem held3 (d : Dev nD) (V : Valuation τ sig (Elt F)) :
    (StableHlo.held (SparseCore.T d) (gop3 (F := F)).bufs V : sProp 𝕄)
      = iprop(((SparseCore.T d).loc main_v17 ↦{fullShare} tabOf V) ∗ ((SparseCore.T d).loc main_v34 ↦{fullShare} idx3 V) ∗ (SparseCore.T d).loc main_v35 ↦{fullShare} res3 V) := by
  unfold StableHlo.held
  rw [show (gop3 (F := F)).bufs = {Proc.devRef .tc main_v17, Proc.devRef .tc main_v34, Proc.devRef .tc main_v35} from rfl,
    SparseCore.bigSep_insert' (by decide), SparseCore.bigSep_insert' (by decide), bigSep_singleton]

/-! ## Call 2: the rows that `main_v38` names, into `main_v39` -/

abbrev aI5 : Memref sig .scVector .hbm S1x131072 .i32 := Memref.whole main_v38_scv
abbrev aO5 : Memref sig .scVector .hbm S131072x16 .f32 := Memref.whole main_v39_scv
abbrev sI5 : Memref sig .scVector .vmem S2x1x128 .i32 := Memref.whole cc5_scoped0
abbrev sO5 : Memref sig .scVector .vmem S2x128x16 .f32 := Memref.whole cc5_scoped2
abbrev idx5 (V : Valuation τ sig (Elt F)) : S1x131072.Idx → Elt F .i32 := V (Proc.devRef .tc main_v38)
abbrev res5 (V : Valuation τ sig (Elt F)) : S131072x16.Idx → Elt F .f32 := V (Proc.devRef .tc main_v39)
abbrev new5 (V : Valuation τ sig (Elt F)) : S131072x16.Idx → Elt F .f32 := gathered (tabOf V) (idx5 V)
/-- The call as an operation on the arrays. -/
def gop5 : HloOp τ sig (Elt F) := StableHlo.binary main_v17 main_v38 main_v39 (gathered : (⟨S2609152x16, .f32⟩ : BufTy).Contents (Elt F) → (⟨S1x131072, .i32⟩ : BufTy).Contents (Elt F) → (⟨S131072x16, .f32⟩ : BufTy).Contents (Elt F))

theorem distinct5 : Five cc5_scoped1 cc5_scoped3 cc5_scoped4 := by decide +kernel
theorem scoped5 : ∀ s ∈ five cc5_scoped1 cc5_scoped3 cc5_scoped4, (SemLoc.dma s : SemLoc sig).isScoped .scVector = true := by decide +kernel
theorem owns5 (d : Dev nD) (L : grid1.Coords) : Owns (F := F) d L sI5 sO5 cc5_scoped1 cc5_scoped3 cc5_scoped4 :=
  owns_of d L sI5 sO5 cc5_scoped1 cc5_scoped3 cc5_scoped4 cc5_scoped0 cc5_scoped2 rfl rfl (by decide) rfl rfl scoped5

theorem vector5 (c : Fin τ.nSC) (s : Fin τ.nSub) :
    defs₀ (F := F) (.scVector c s) 5 ()
      = SparseCore.onTile hcore1 hsub1 (fun c s => cc1_k (coordsV c s) aT (Memref.isWhole_whole _) aI5 (Memref.isWhole_whole _) aO5 (Memref.isWhole_whole _)
          sI5 (Memref.isWhole_whole _) cc5_scoped1 sO5 (Memref.isWhole_whole _) cc5_scoped3 cc5_scoped4) ⟨⟩ c s := rfl

theorem tasks5 (d : Dev nD) (V : Valuation τ sig (Elt F)) (f : S131072x16.Idx → Elt F .f32) :
    (iprop(((SparseCore.T d).loc main_v17 ↦{fullShare} tabOf V) ∗ ((SparseCore.T d).loc main_v38 ↦{fullShare} idx5 V) ∗ (SparseCore.T d).loc main_v39 ↦{fullShare} f) : sProp 𝕄)
      = bigSep Finset.univ fun c : Fin 2 => bigSep Finset.univ fun i : Fin 16 => task d aI5 aO5 (tabOf V) (idx5 V) f c i :=
  nest_three (ℓT := (SparseCore.T d).loc main_v17) (ℓI := (SparseCore.T d).loc main_v38) (ℓO := (SparseCore.T d).loc main_v39) (fun _ _ => (tabWin aT).view.set)
    (fun c s w => (idxWin aI5 (coordsV c s) w).view.set) (fun c s w => (outWin aO5 (coordsV c s) w).view.set)
    (fun i : S1x131072.Idx => (i 1).val) (fun i : S131072x16.Idx => (i 0).val) (fun _ _ => tab_whole)
    (fun c s w i h => mem_idx' c s w i h (View.set_slice_whole _ _)) (fun i => (show (i 1).val < 131072 from (i 1).isLt))
    (fun c s w i h => mem_rows' c s w i h (View.set_slice_whole _ _)) (fun i => (show (i 0).val < 131072 from (i 0).isLt))

theorem held5 (d : Dev nD) (V : Valuation τ sig (Elt F)) :
    (StableHlo.held (SparseCore.T d) (gop5 (F := F)).bufs V : sProp 𝕄)
      = iprop(((SparseCore.T d).loc main_v17 ↦{fullShare} tabOf V) ∗ ((SparseCore.T d).loc main_v38 ↦{fullShare} idx5 V) ∗ (SparseCore.T d).loc main_v39 ↦{fullShare} res5 V) := by
  unfold StableHlo.held
  rw [show (gop5 (F := F)).bufs = {Proc.devRef .tc main_v17, Proc.devRef .tc main_v38, Proc.devRef .tc main_v39} from rfl,
    SparseCore.bigSep_insert' (by decide), SparseCore.bigSep_insert' (by decide), bigSep_singleton]

/-! ## Call 3: the rows that `main_v42` names, into `main_v43` -/

abbrev aI7 : Memref sig .scVector .hbm S1x131072 .i32 := Memref.whole main_v42_scv
abbrev aO7 : Memref sig .scVector .hbm S131072x16 .f32 := Memref.whole main_v43_scv
abbrev sI7 : Memref sig .scVector .vmem S2x1x128 .i32 := Memref.whole cc7_scoped0
abbrev sO7 : Memref sig .scVector .vmem S2x128x16 .f32 := Memref.whole cc7_scoped2
abbrev idx7 (V : Valuation τ sig (Elt F)) : S1x131072.Idx → Elt F .i32 := V (Proc.devRef .tc main_v42)
abbrev res7 (V : Valuation τ sig (Elt F)) : S131072x16.Idx → Elt F .f32 := V (Proc.devRef .tc main_v43)
abbrev new7 (V : Valuation τ sig (Elt F)) : S131072x16.Idx → Elt F .f32 := gathered (tabOf V) (idx7 V)
/-- The call as an operation on the arrays. -/
def gop7 : HloOp τ sig (Elt F) := StableHlo.binary main_v17 main_v42 main_v43 (gathered : (⟨S2609152x16, .f32⟩ : BufTy).Contents (Elt F) → (⟨S1x131072, .i32⟩ : BufTy).Contents (Elt F) → (⟨S131072x16, .f32⟩ : BufTy).Contents (Elt F))

theorem distinct7 : Five cc7_scoped1 cc7_scoped3 cc7_scoped4 := by decide +kernel
theorem scoped7 : ∀ s ∈ five cc7_scoped1 cc7_scoped3 cc7_scoped4, (SemLoc.dma s : SemLoc sig).isScoped .scVector = true := by decide +kernel
theorem owns7 (d : Dev nD) (L : grid1.Coords) : Owns (F := F) d L sI7 sO7 cc7_scoped1 cc7_scoped3 cc7_scoped4 :=
  owns_of d L sI7 sO7 cc7_scoped1 cc7_scoped3 cc7_scoped4 cc7_scoped0 cc7_scoped2 rfl rfl (by decide) rfl rfl scoped7

theorem vector7 (c : Fin τ.nSC) (s : Fin τ.nSub) :
    defs₀ (F := F) (.scVector c s) 7 ()
      = SparseCore.onTile hcore1 hsub1 (fun c s => cc1_k (coordsV c s) aT (Memref.isWhole_whole _) aI7 (Memref.isWhole_whole _) aO7 (Memref.isWhole_whole _)
          sI7 (Memref.isWhole_whole _) cc7_scoped1 sO7 (Memref.isWhole_whole _) cc7_scoped3 cc7_scoped4) ⟨⟩ c s := rfl

theorem tasks7 (d : Dev nD) (V : Valuation τ sig (Elt F)) (f : S131072x16.Idx → Elt F .f32) :
    (iprop(((SparseCore.T d).loc main_v17 ↦{fullShare} tabOf V) ∗ ((SparseCore.T d).loc main_v42 ↦{fullShare} idx7 V) ∗ (SparseCore.T d).loc main_v43 ↦{fullShare} f) : sProp 𝕄)
      = bigSep Finset.univ fun c : Fin 2 => bigSep Finset.univ fun i : Fin 16 => task d aI7 aO7 (tabOf V) (idx7 V) f c i :=
  nest_three (ℓT := (SparseCore.T d).loc main_v17) (ℓI := (SparseCore.T d).loc main_v42) (ℓO := (SparseCore.T d).loc main_v43) (fun _ _ => (tabWin aT).view.set)
    (fun c s w => (idxWin aI7 (coordsV c s) w).view.set) (fun c s w => (outWin aO7 (coordsV c s) w).view.set)
    (fun i : S1x131072.Idx => (i 1).val) (fun i : S131072x16.Idx => (i 0).val) (fun _ _ => tab_whole)
    (fun c s w i h => mem_idx' c s w i h (View.set_slice_whole _ _)) (fun i => (show (i 1).val < 131072 from (i 1).isLt))
    (fun c s w i h => mem_rows' c s w i h (View.set_slice_whole _ _)) (fun i => (show (i 0).val < 131072 from (i 0).isLt))

theorem held7 (d : Dev nD) (V : Valuation τ sig (Elt F)) :
    (StableHlo.held (SparseCore.T d) (gop7 (F := F)).bufs V : sProp 𝕄)
      = iprop(((SparseCore.T d).loc main_v17 ↦{fullShare} tabOf V) ∗ ((SparseCore.T d).loc main_v42 ↦{fullShare} idx7 V) ∗ (SparseCore.T d).loc main_v43 ↦{fullShare} res7 V) := by
  unfold StableHlo.held
  rw [show (gop7 (F := F)).bufs = {Proc.devRef .tc main_v17, Proc.devRef .tc main_v42, Proc.devRef .tc main_v43} from rfl,
    SparseCore.bigSep_insert' (by decide), SparseCore.bigSep_insert' (by decide), bigSep_singleton]

end Cert.Proof.GatherIdeal

end
-- ==== Proof.ScLaunchI.lean ====
/-
  The four gather calls' launch: what each subcore is handed and brings back.
-/
module

public import proofs.«01_k».proof.Proof.ScCallsI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

section Launch

variable (Vs : Fin 4 → Dev nD → Valuation τ sig (Elt F))

/-- Every index of every call names a row of the table. -/
def PreOK : Prop := ∀ (d : Dev nD) (j : S1x131072.Idx),
  (idx1 (Vs 0 d) j).toNat < 2609152 ∧ (idx3 (Vs 1 d) j).toNat < 2609152 ∧ (idx5 (Vs 2 d) j).toNat < 2609152 ∧ (idx7 (Vs 3 d) j).toNat < 2609152

/-- What the subcore `(c, i)` is handed in call `q`. -/
def goAt (q : Fin 4) (d : Dev nD) (c : Fin 2) (i : Fin 16) : sProp 𝕄 :=
  match q with
    | 0 => task d aI1 aO1 (tabOf (Vs 0 d)) (idx1 (Vs 0 d)) (res1 (Vs 0 d)) c i
    | 1 => task d aI3 aO3 (tabOf (Vs 1 d)) (idx3 (Vs 1 d)) (res3 (Vs 1 d)) c i
    | 2 => task d aI5 aO5 (tabOf (Vs 2 d)) (idx5 (Vs 2 d)) (res5 (Vs 2 d)) c i
    | 3 => task d aI7 aO7 (tabOf (Vs 3 d)) (idx7 (Vs 3 d)) (res7 (Vs 3 d)) c i

/-- What it brings back. -/
def tdAt (q : Fin 4) (d : Dev nD) (c : Fin 2) (i : Fin 16) : sProp 𝕄 :=
  match q with
    | 0 => task d aI1 aO1 (tabOf (Vs 0 d)) (idx1 (Vs 0 d)) (new1 (Vs 0 d)) c i
    | 1 => task d aI3 aO3 (tabOf (Vs 1 d)) (idx3 (Vs 1 d)) (new3 (Vs 1 d)) c i
    | 2 => task d aI5 aO5 (tabOf (Vs 2 d)) (idx5 (Vs 2 d)) (new5 (Vs 2 d)) c i
    | 3 => task d aI7 aO7 (tabOf (Vs 3 d)) (idx7 (Vs 3 d)) (new7 (Vs 3 d)) c i

instance goAt_storable (q : Fin 4) (d : Dev nD) (c : Fin 2) (i : Fin 16) : BI.Storable (upEmb : UEmb _ 𝕄) (goAt Vs q d c i) :=
  match q with
    | 0 => task_storable d aI1 aO1 (tabOf (Vs 0 d)) (idx1 (Vs 0 d)) (res1 (Vs 0 d)) c i
    | 1 => task_storable d aI3 aO3 (tabOf (Vs 1 d)) (idx3 (Vs 1 d)) (res3 (Vs 1 d)) c i
    | 2 => task_storable d aI5 aO5 (tabOf (Vs 2 d)) (idx5 (Vs 2 d)) (res5 (Vs 2 d)) c i
    | 3 => task_storable d aI7 aO7 (tabOf (Vs 3 d)) (idx7 (Vs 3 d)) (res7 (Vs 3 d)) c i

instance tdAt_storable (q : Fin 4) (d : Dev nD) (c : Fin 2) (i : Fin 16) : BI.Storable (upEmb : UEmb _ 𝕄) (tdAt Vs q d c i) :=
  match q with
    | 0 => task_storable d aI1 aO1 (tabOf (Vs 0 d)) (idx1 (Vs 0 d)) (new1 (Vs 0 d)) c i
    | 1 => task_storable d aI3 aO3 (tabOf (Vs 1 d)) (idx3 (Vs 1 d)) (new3 (Vs 1 d)) c i
    | 2 => task_storable d aI5 aO5 (tabOf (Vs 2 d)) (idx5 (Vs 2 d)) (new5 (Vs 2 d)) c i
    | 3 => task_storable d aI7 aO7 (tabOf (Vs 3 d)) (idx7 (Vs 3 d)) (new7 (Vs 3 d)) c i

theorem nCore_eq (q : Fin 4) : (K (F := F)).nCore q = 2 := by match q with | 0 => rfl | 1 => rfl | 2 => rfl | 3 => rfl
theorem nSub_eq (q : Fin 4) : (K (F := F)).nSub q = 16 := by match q with | 0 => rfl | 1 => rfl | 2 => rfl | 3 => rfl

theorem bigSep_cast {n m : ℕ} (h : n = m) (f : Fin m → sProp 𝕄) :
    (bigSep Finset.univ fun i : Fin n => f (i.cast h)) = bigSep Finset.univ f := by subst h; rfl

def P : (K (F := F)).Pay (nD := nD) (Val := Elt F) (Name := ℕ) (U := UU) where
  st := fun q d c => bigSep Finset.univ fun i : Fin 16 => goAt Vs q d (c.cast (nCore_eq q)) i
  dn := fun q d c => bigSep Finset.univ fun i : Fin 16 => tdAt Vs q d (c.cast (nCore_eq q)) i
  go := fun q d c i => goAt Vs q d (c.cast (nCore_eq q)) (i.cast (nSub_eq q))
  td := fun q d c i => tdAt Vs q d (c.cast (nCore_eq q)) (i.cast (nSub_eq q))
  x := fun _ _ => iprop(emp)

instance P_storable : (P (F := F) Vs).IsStorable where
  st q d c := (inferInstance : BI.Storable (upEmb : UEmb _ 𝕄) (bigSep Finset.univ fun i : Fin 16 => goAt Vs q d (c.cast (nCore_eq q)) i))
  dn q d c := (inferInstance : BI.Storable (upEmb : UEmb _ 𝕄) (bigSep Finset.univ fun i : Fin 16 => tdAt Vs q d (c.cast (nCore_eq q)) i))
  go q d c i := goAt_storable Vs q d (c.cast (nCore_eq q)) (i.cast (nSub_eq q))
  td q d c i := tdAt_storable Vs q d (c.cast (nCore_eq q)) (i.cast (nSub_eq q))

theorem obl1 (h : PreOK Vs) : (K (F := F)).TileObl (D (F := F)) 𝒱 (P Vs) v₀ 0 := by
  intro d c i O W hO _ _
  simp only [show (P Vs).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [vector1]; simp only [SparseCore.onTile, hci, and_self, ↓reduceDIte]
  exact (tile (F := F) d (coordsV ⟨_, hci.1⟩ ⟨_, hci.2⟩) sI1 sO1 cc1_scoped1 cc1_scoped3 cc1_scoped4 (aT := aT) (aI := aI1) (aO := aO1)
    (f0 := res1 (Vs 0 d)) (g := new1 (Vs 0 d)) O W (owns1 d _) distinct1 hO
    (fun w _ => spec_of (F := F) (aT := aT) (aI := aI1) (aO := aO1) (fT := tabOf (Vs 0 d)) (fI := idx1 (Vs 0 d)) (g := new1 (Vs 0 d))
      (fun j => (h d j).1) (fun i => rfl) w) _ _ _ _ _).trans (wp_mono frame _ _ fun _ => obl_post)

theorem obl3 (h : PreOK Vs) : (K (F := F)).TileObl (D (F := F)) 𝒱 (P Vs) v₀ 1 := by
  intro d c i O W hO _ _
  simp only [show (P Vs).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [vector3]; simp only [SparseCore.onTile, hci, and_self, ↓reduceDIte]
  exact (tile (F := F) d (coordsV ⟨_, hci.1⟩ ⟨_, hci.2⟩) sI3 sO3 cc3_scoped1 cc3_scoped3 cc3_scoped4 (aT := aT) (aI := aI3) (aO := aO3)
    (f0 := res3 (Vs 1 d)) (g := new3 (Vs 1 d)) O W (owns3 d _) distinct3 hO
    (fun w _ => spec_of (F := F) (aT := aT) (aI := aI3) (aO := aO3) (fT := tabOf (Vs 1 d)) (fI := idx3 (Vs 1 d)) (g := new3 (Vs 1 d))
      (fun j => (h d j).2.1) (fun i => rfl) w) _ _ _ _ _).trans (wp_mono frame _ _ fun _ => obl_post)

theorem obl5 (h : PreOK Vs) : (K (F := F)).TileObl (D (F := F)) 𝒱 (P Vs) v₀ 2 := by
  intro d c i O W hO _ _
  simp only [show (P Vs).ox = fun _ _ => 0 from rfl, add_zero]
  have hci : ((K (F := F)).core 2 c).val < grid1.bound 0 ∧ ((K (F := F)).sub 2 i).val < grid1.bound 1 := ⟨c.isLt, i.isLt⟩
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [vector5]; simp only [SparseCore.onTile, hci, and_self, ↓reduceDIte]
  exact (tile (F := F) d (coordsV ⟨_, hci.1⟩ ⟨_, hci.2⟩) sI5 sO5 cc5_scoped1 cc5_scoped3 cc5_scoped4 (aT := aT) (aI := aI5) (aO := aO5)
    (f0 := res5 (Vs 2 d)) (g := new5 (Vs 2 d)) O W (owns5 d _) distinct5 hO
    (fun w _ => spec_of (F := F) (aT := aT) (aI := aI5) (aO := aO5) (fT := tabOf (Vs 2 d)) (fI := idx5 (Vs 2 d)) (g := new5 (Vs 2 d))
      (fun j => (h d j).2.2.1) (fun i => rfl) w) _ _ _ _ _).trans (wp_mono frame _ _ fun _ => obl_post)

theorem obl7 (h : PreOK Vs) : (K (F := F)).TileObl (D (F := F)) 𝒱 (P Vs) v₀ 3 := by
  intro d c i O W hO _ _
  simp only [show (P Vs).ox = fun _ _ => 0 from rfl, add_zero]
  have hci : ((K (F := F)).core 3 c).val < grid1.bound 0 ∧ ((K (F := F)).sub 3 i).val < grid1.bound 1 := ⟨c.isLt, i.isLt⟩
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  rw [vector7]; simp only [SparseCore.onTile, hci, and_self, ↓reduceDIte]
  exact (tile (F := F) d (coordsV ⟨_, hci.1⟩ ⟨_, hci.2⟩) sI7 sO7 cc7_scoped1 cc7_scoped3 cc7_scoped4 (aT := aT) (aI := aI7) (aO := aO7)
    (f0 := res7 (Vs 3 d)) (g := new7 (Vs 3 d)) O W (owns7 d _) distinct7 hO
    (fun w _ => spec_of (F := F) (aT := aT) (aI := aI7) (aO := aO7) (fT := tabOf (Vs 3 d)) (fI := idx7 (Vs 3 d)) (g := new7 (Vs 3 d))
      (fun j => (h d j).2.2.2) (fun i => rfl) w) _ _ _ _ _).trans (wp_mono frame _ _ fun _ => obl_post)

theorem tileObl (h : PreOK Vs) : ∀ q, (K (F := F)).TileObl (D (F := F)) 𝒱 (P Vs) v₀ q
  | 0 => obl1 Vs h
  | 1 => obl3 Vs h
  | 2 => obl5 Vs h
  | 3 => obl7 Vs h

theorem split_self {A B : sProp 𝕄} : A ⊢ |={Set.univ}=> iprop(A ∗ (B -∗ B)) := by
  iintro H; imodintro
  isplitl [H]; · iexact H
  iintro H; iexact H

theorem vecSplit (q : Fin 4) : (K (F := F)).VecSplit' (P Vs) q := by
  intro d c
  unfold P
  dsimp only
  rw [bigSep_cast (nSub_eq q) (goAt Vs q d (c.cast (nCore_eq q))), bigSep_cast (nSub_eq q) (tdAt Vs q d (c.cast (nCore_eq q)))]
  exact split_self

end Launch

end Cert.Proof.GatherIdeal

end
-- ==== Proof.RegDatI.lean ====
/-
  The proof data of the five TensorCore pallas_calls: the detranspose and the four quarters of the multilayer perceptron.
-/
module

public import proofs.«01_k».proof.Proof.RegSegI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx nCalls) (Elt F) ℕ UU ℕ

/-- One grid point of the perceptron, what it does not touch passed through. -/
theorem mlp_step (c : Dev nD) (i : grid2.Coords) (arg1 : Memref sig .tc .vmem S1024x512 .f32) (harg1 : arg1.IsWhole) (arg2 : Memref sig .tc .vmem S416x512 .f32) (harg2 : arg2.IsWhole) (arg3 : Memref sig .tc .vmem S325x512 .f32) (harg3 : arg3.IsWhole) (arg4 : Memref sig .tc .vmem S512x256 .f32) (harg4 : arg4.IsWhole) (arg5 : Memref sig .tc .vmem S256x1 .f32) (harg5 : arg5.IsWhole) (arg6 : Memref sig .tc .vmem S1x512 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (Φ O : sProp 𝕄)
    (x0 : Vec F S1024x512 .f32) (x1 : Vec F S416x512 .f32) (x2 : Vec F S325x512 .f32) (x3 : Vec F S512x256 .f32) (x4 : Vec F S256x1 .f32) (x5 : Vec F S1x512 .f32) (x6 : Vec F S1x256 .f32) (x7 : Vec F S1x1 .f32) {D0 D1 D2 D3 D4 D5 D6 D7 D8 : Type} (b0 : D0 → Vec F S1024x512 .f32) (b1 : D1 → Vec F S416x512 .f32) (b2 : D2 → Vec F S325x512 .f32) (b3 : D3 → Vec F S512x256 .f32) (b4 : D4 → Vec F S256x1 .f32) (b5 : D5 → Vec F S1x512 .f32) (b6 : D6 → Vec F S1x256 .f32) (b7 : D7 → Vec F S1x1 .f32) (b8 : D8 → Vec F S1024x1 .f32)
    (h0 : ∀ d, b0 d = x0) (h1 : ∀ d, b1 d = x1) (h2 : ∀ d, b2 d = x2) (h3 : ∀ d, b3 d = x3) (h4 : ∀ d, b4 d = x4) (h5 : ∀ d, b5 d = x5) (h6 : ∀ d, b6 d = x6) (h7 : ∀ d, b7 d = x7) :
    iprop(Φ ∗ O ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)) ∗ (∃ d, owns (c : Thread nD τ) arg6 fullShare (b5 d)) ∗ (∃ d, owns (c : Thread nD τ) arg7 fullShare (b6 d)) ∗ (∃ d, owns (c : Thread nD τ) arg8 fullShare (b7 d)) ∗ (∃ d, owns (c : Thread nD τ) arg9 fullShare (b8 d)))
      ⊢ wp frame (wpE (defs₀ (F := F)) 𝒱₀ c none) Set.univ (cc2__mlp_body i arg1 harg1 arg2 harg2 arg3 harg3 arg4 harg4 arg5 harg5 arg6 harg6 arg7 harg7 arg8 harg8 arg9 harg9)
        fun _ => iprop(Φ ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (mlpOut x0 x1 x2 x3 x4 x5 x6 x7)) := by
  simp only [h0, h1, h2, h3, h4, h5, h6, h7]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_mlp c Set.univ i _ _ _ _ _ _ _ _ _ _ _ _ _ _ _ _ _ _ x0 x1 x2 x3 x4 x5 x6 x7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- One grid point of the detranspose, what it does not touch passed through. -/
theorem tp_step (c : Dev nD) (i : grid0.Coords) (arg1 : Memref sig .tc .vmem S1x16x100000 .f32) (harg1 : arg1.IsWhole) (arg2 : Memref sig .tc .vmem S1x12544x128 .f32) (harg2 : arg2.IsWhole) (Φ O : sProp 𝕄)
    (x0 : Vec F S1x16x100000 .f32) {D0 D1 : Type} (b0 : D0 → Vec F S1x16x100000 .f32) (b1 : D1 → Vec F S1x12544x128 .f32) (h0 : ∀ d, b0 d = x0) :
    iprop(Φ ∗ O ∗ (∃ d, owns (c : Thread nD τ) arg1 fullShare (b0 d)) ∗ (∃ d, owns (c : Thread nD τ) arg2 fullShare (b1 d)))
      ⊢ wp frame (wpE (defs₀ (F := F)) 𝒱₀ c none) Set.univ (cc0__tp_body i arg1 harg1 arg2 harg2)
        fun _ => iprop(Φ ∗ O ∗ owns (c : Thread nD τ) arg1 fullShare x0 ∗ owns (c : Thread nD τ) arg2 fullShare (tpOut x0)) := by
  simp only [h0]
  iintro ⟨HΦ, HO, ⟨%d0, H0⟩, ⟨%d1, H1⟩⟩
  iapply (sound_tp c Set.univ i _ _ _ _ x0 _)
  isplitl [H0]; · iexact H0
  isplitl [H1]; · iexists _; iexact H1
  iintro ⟨H0, H1⟩
  isplitl [HΦ]; · iexact HΦ
  isplitl [HO]; · iexact HO
  isplitl [H0]; · iexact H0
  iexact H1

theorem cc4_mlp : @cc4__mlp_body F _ = @cc2__mlp_body F _ := rfl
theorem cc6_mlp : @cc6__mlp_body F _ = @cc2__mlp_body F _ := rfl
theorem cc8_mlp : @cc8__mlp_body F _ = @cc2__mlp_body F _ := rfl

/-! ## The data -/

/-- The block of a window's array at a grid point, as the valuation has the array. -/
def blkOf (cfg : Pipeline.Cfg sig Λ₀) (V : Valuation τ sig (Elt F)) (w : Fin cfg.W) (t : Fin cfg.N) :
    ((cfg.win w).xblock (cfg.grid.coords t)).Idx → Elt F (cfg.win w).elt :=
  ((cfg.win w).blk t).view.read (Elt F) (V (Proc.devRef .tc (Pipeline.arrRef cfg.spec w)))

/-- Nothing of the call's own; the arrays as the valuation has them; what the TensorCore owes before call `n` owed throughout. -/
def mkDat (cfg : Pipeline.Cfg sig Λ₀) (c : Dev nD) (n : ℕ) (V : Valuation τ sig (Elt F))
    (after : (w : Fin cfg.W) → Fin cfg.N → (cfg.win w).block.Idx → Elt F (cfg.win w).elt) : Dat τ (Elt F) (HIx nCalls) ℕ UU ℕ cfg c where
  A w := V (Proc.devRef .tc (Pipeline.arrRef cfg.spec w))
  after := after
  Φ _ := Pipeline.scopedRest cfg.spec c
  q _ := fullShare
  owed _ := (K (F := F)).Otc c n
  recorded _ := below (F := F) c n

/-- An input window whose block the body leaves in place holds that block at every point. -/
theorem found {cfg : Pipeline.Cfg sig Λ₀} {c : Dev nD} (dat : Dat τ (Elt F) (HIx nCalls) ℕ UU ℕ cfg c) (w : Fin cfg.W) (hw : (cfg.win w).isOut = false)
    (hlive : ∀ i, cfg.idle w i = false)
    (hclip : ∀ t t' : Fin cfg.N, (cfg.win w).index t = (cfg.win w).index t' → (cfg.win w).clip (cfg.grid.coords t) = (cfg.win w).clip (cfg.grid.coords t'))
    (hkeep : ∀ t, (cfg.win w).cut (cfg.grid.coords t) (dat.after w t) = dat.blockOf w t)
    (hf : ∀ t d, dat.fetched w t d = dat.after w t) (t : Fin cfg.N) (d) : dat.before w t d = dat.after w t :=
  (dat.before_in_eq_fetched w hw hlive hclip hkeep t d).trans (hf t d)

section Dats

variable (U : Dev nD → Valuation τ sig (Elt F)) (n : ℕ)

def after0 (V : Valuation τ sig (Elt F)) (w : Fin cfg0.W) (t : Fin cfg0.N) : (cfg0.win w).block.Idx → Elt F (cfg0.win w).elt :=
  match w with
  | ⟨0,_⟩ => blkOf cfg0 V 0 t
  | ⟨1,_⟩ => tpOut (blkOf cfg0 V 0 t)

def after2 (V : Valuation τ sig (Elt F)) (w : Fin cfg2.W) (t : Fin cfg2.N) : (cfg2.win w).block.Idx → Elt F (cfg2.win w).elt :=
  match w with
  | ⟨0,_⟩ => blkOf cfg2 V 0 t
  | ⟨1,_⟩ => blkOf cfg2 V 1 t
  | ⟨2,_⟩ => blkOf cfg2 V 2 t
  | ⟨3,_⟩ => blkOf cfg2 V 3 t
  | ⟨4,_⟩ => blkOf cfg2 V 4 t
  | ⟨5,_⟩ => blkOf cfg2 V 5 t
  | ⟨6,_⟩ => blkOf cfg2 V 6 t
  | ⟨7,_⟩ => blkOf cfg2 V 7 t
  | ⟨8,_⟩ => mlpOut (blkOf cfg2 V 0 t) (blkOf cfg2 V 1 t) (blkOf cfg2 V 2 t) (blkOf cfg2 V 3 t) (blkOf cfg2 V 4 t) (blkOf cfg2 V 5 t) (blkOf cfg2 V 6 t) (blkOf cfg2 V 7 t)

def after4 (V : Valuation τ sig (Elt F)) (w : Fin cfg4.W) (t : Fin cfg4.N) : (cfg4.win w).block.Idx → Elt F (cfg4.win w).elt :=
  match w with
  | ⟨0,_⟩ => blkOf cfg4 V 0 t
  | ⟨1,_⟩ => blkOf cfg4 V 1 t
  | ⟨2,_⟩ => blkOf cfg4 V 2 t
  | ⟨3,_⟩ => blkOf cfg4 V 3 t
  | ⟨4,_⟩ => blkOf cfg4 V 4 t
  | ⟨5,_⟩ => blkOf cfg4 V 5 t
  | ⟨6,_⟩ => blkOf cfg4 V 6 t
  | ⟨7,_⟩ => blkOf cfg4 V 7 t
  | ⟨8,_⟩ => mlpOut (blkOf cfg4 V 0 t) (blkOf cfg4 V 1 t) (blkOf cfg4 V 2 t) (blkOf cfg4 V 3 t) (blkOf cfg4 V 4 t) (blkOf cfg4 V 5 t) (blkOf cfg4 V 6 t) (blkOf cfg4 V 7 t)

def after6 (V : Valuation τ sig (Elt F)) (w : Fin cfg6.W) (t : Fin cfg6.N) : (cfg6.win w).block.Idx → Elt F (cfg6.win w).elt :=
  match w with
  | ⟨0,_⟩ => blkOf cfg6 V 0 t
  | ⟨1,_⟩ => blkOf cfg6 V 1 t
  | ⟨2,_⟩ => blkOf cfg6 V 2 t
  | ⟨3,_⟩ => blkOf cfg6 V 3 t
  | ⟨4,_⟩ => blkOf cfg6 V 4 t
  | ⟨5,_⟩ => blkOf cfg6 V 5 t
  | ⟨6,_⟩ => blkOf cfg6 V 6 t
  | ⟨7,_⟩ => blkOf cfg6 V 7 t
  | ⟨8,_⟩ => mlpOut (blkOf cfg6 V 0 t) (blkOf cfg6 V 1 t) (blkOf cfg6 V 2 t) (blkOf cfg6 V 3 t) (blkOf cfg6 V 4 t) (blkOf cfg6 V 5 t) (blkOf cfg6 V 6 t) (blkOf cfg6 V 7 t)

def after8 (V : Valuation τ sig (Elt F)) (w : Fin cfg8.W) (t : Fin cfg8.N) : (cfg8.win w).block.Idx → Elt F (cfg8.win w).elt :=
  match w with
  | ⟨0,_⟩ => blkOf cfg8 V 0 t
  | ⟨1,_⟩ => blkOf cfg8 V 1 t
  | ⟨2,_⟩ => blkOf cfg8 V 2 t
  | ⟨3,_⟩ => blkOf cfg8 V 3 t
  | ⟨4,_⟩ => blkOf cfg8 V 4 t
  | ⟨5,_⟩ => blkOf cfg8 V 5 t
  | ⟨6,_⟩ => blkOf cfg8 V 6 t
  | ⟨7,_⟩ => blkOf cfg8 V 7 t
  | ⟨8,_⟩ => mlpOut (blkOf cfg8 V 0 t) (blkOf cfg8 V 1 t) (blkOf cfg8 V 2 t) (blkOf cfg8 V 3 t) (blkOf cfg8 V 4 t) (blkOf cfg8 V 5 t) (blkOf cfg8 V 6 t) (blkOf cfg8 V 7 t)

/-- The proof data of the five calls, all at one valuation. -/
def pdats (p : Fin 5) (c : Dev nD) : Dat τ (Elt F) (HIx nCalls) ℕ UU ℕ (Pipeline.pin (pcfgs (F := F)) adm p) c :=
  match p with
  | 0 => mkDat cfg0 c n (U c) (after0 (U c))
  | 1 => mkDat cfg2 c n (U c) (after2 (U c))
  | 2 => mkDat cfg4 c n (U c) (after4 (U c))
  | 3 => mkDat cfg6 c n (U c) (after6 (U c))
  | 4 => mkDat cfg8 c n (U c) (after8 (U c))

theorem mkDat_owes (cfg : Pipeline.Cfg sig Λ₀) (c : Dev nD) (n : ℕ) (V : Valuation τ sig (Elt F)) (after) (t t' : Fin (cfg.N + 1)) :
    (mkDat cfg c n V after).owesAt none t = (mkDat cfg c n V after).owesAt none t' := rfl

attribute [local irreducible] mlpOut tpOut

set_option maxHeartbeats 4000000 in
theorem obl0 (c : Dev nD) : BodyObligation (mkDat cfg0 c n (U c) (after0 (U c))) (defs₀ (F := F)) 𝒱₀ none Set.univ := fun t => by
  rw [bigSep_W0, bigSep_W0, show defs₀ (F := F) .tc cfg0.body (cfg0.bodyArgs t (cfg0.slots t)) = bodyAt0 t from rfl,
    mkDat_owes cfg0 c n (U c) (after0 (U c)) t.succ t.castSucc]
  have key := found (mkDat cfg0 c n (U c) (after0 (U c)))
  exact triple_restated (tp_step c (grid0.coords t) _ (hstage0_0 ((cfg0.slots t 0).cast nbuf0_0)) _ (hstage0_1 ((cfg0.slots t 1).cast nbuf0_1))
    (Pipeline.scopedRest cfg0.spec c) ((mkDat cfg0 c n (U c) (after0 (U c))).owesAt none t.castSucc)
    (x0 := blkOf cfg0 (U c) 0 t) (b1 := fun d : (S1x12544x128.Idx → Elt F .f32) => (mkDat cfg0 c n (U c) (after0 (U c))).before 1 t d)
    (h0 := fun d : (S1x16x100000.Idx → Elt F .f32) => key 0 rfl (fun _ => rfl) (fun _ _ _ => rfl) (fun _ => rfl) (fun _ _ => rfl) t d)) rfl .rfl fun _ => .rfl

set_option maxHeartbeats 4000000 in
theorem obl2 (c : Dev nD) : BodyObligation (mkDat cfg2 c n (U c) (after2 (U c))) (defs₀ (F := F)) 𝒱₀ none Set.univ := fun t => by
  rw [bigSep_W2, bigSep_W2, show defs₀ (F := F) .tc cfg2.body (cfg2.bodyArgs t (cfg2.slots t)) = bodyAt2 t from rfl,
    mkDat_owes cfg2 c n (U c) (after2 (U c)) t.succ t.castSucc]
  have key := found (mkDat cfg2 c n (U c) (after2 (U c)))
  exact triple_restated (mlp_step c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8))
    (Pipeline.scopedRest cfg2.spec c) ((mkDat cfg2 c n (U c) (after2 (U c))).owesAt none t.castSucc)
    (x0 := blkOf cfg2 (U c) 0 t) (x1 := blkOf cfg2 (U c) 1 t) (x2 := blkOf cfg2 (U c) 2 t) (x3 := blkOf cfg2 (U c) 3 t) (x4 := blkOf cfg2 (U c) 4 t) (x5 := blkOf cfg2 (U c) 5 t) (x6 := blkOf cfg2 (U c) 6 t) (x7 := blkOf cfg2 (U c) 7 t) (b8 := fun d : (S1024x1.Idx → Elt F .f32) => (mkDat cfg2 c n (U c) (after2 (U c))).before 8 t d)
    (h0 := fun d : (S1024x512.Idx → Elt F .f32) => key 0 rfl (fun _ => rfl) (fun _ _ _ => rfl) (fun _ => rfl) (fun _ _ => rfl) t d)
    (h1 := fun d : (S416x512.Idx → Elt F .f32) => key 1 rfl (fun _ => rfl) (fun _ _ _ => rfl) (fun _ => rfl) (fun _ _ => rfl) t d)
    (h2 := fun d : (S325x512.Idx → Elt F .f32) => key 2 rfl (fun _ => rfl) (fun _ _ _ => rfl) (fun _ => rfl) (fun _ _ => rfl) t d)
    (h3 := fun d : (S512x256.Idx → Elt F .f32) => key 3 rfl (fun _ => rfl) (fun _ _ _ => rfl) (fun _ => rfl) (fun _ _ => rfl) t d)
    (h4 := fun d : (S256x1.Idx → Elt F .f32) => key 4 rfl (fun _ => rfl) (fun _ _ _ => rfl) (fun _ => rfl) (fun _ _ => rfl) t d)
    (h5 := fun d : (S1x512.Idx → Elt F .f32) => key 5 rfl (fun _ => rfl) (fun _ _ _ => rfl) (fun _ => rfl) (fun _ _ => rfl) t d)
    (h6 := fun d : (S1x256.Idx → Elt F .f32) => key 6 rfl (fun _ => rfl) (fun _ _ _ => rfl) (fun _ => rfl) (fun _ _ => rfl) t d)
    (h7 := fun d : (S1x1.Idx → Elt F .f32) => key 7 rfl (fun _ => rfl) (fun _ _ _ => rfl) (fun _ => rfl) (fun _ _ => rfl) t d)) rfl .rfl fun _ => .rfl

set_option maxHeartbeats 4000000 in
theorem obl4 (c : Dev nD) : BodyObligation (mkDat cfg4 c n (U c) (after4 (U c))) (defs₀ (F := F)) 𝒱₀ none Set.univ := fun t => by
  rw [bigSep_W4, bigSep_W4, show defs₀ (F := F) .tc cfg4.body (cfg4.bodyArgs t (cfg4.slots t)) = bodyAt4 t from rfl,
    mkDat_owes cfg4 c n (U c) (after4 (U c)) t.succ t.castSucc]
  have key := found (mkDat cfg4 c n (U c) (after4 (U c)))
  exact triple_restated (mlp_step c (grid4.coords t) _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ (hstage4_4 ((cfg4.slots t 4).cast nbuf4_4)) _ (hstage4_5 ((cfg4.slots t 5).cast nbuf4_5)) _ (hstage4_6 ((cfg4.slots t 6).cast nbuf4_6)) _ (hstage4_7 ((cfg4.slots t 7).cast nbuf4_7)) _ (hstage4_8 ((cfg4.slots t 8).cast nbuf4_8))
    (Pipeline.scopedRest cfg4.spec c) ((mkDat cfg4 c n (U c) (after4 (U c))).owesAt none t.castSucc)
    (x0 := blkOf cfg4 (U c) 0 t) (x1 := blkOf cfg4 (U c) 1 t) (x2 := blkOf cfg4 (U c) 2 t) (x3 := blkOf cfg4 (U c) 3 t) (x4 := blkOf cfg4 (U c) 4 t) (x5 := blkOf cfg4 (U c) 5 t) (x6 := blkOf cfg4 (U c) 6 t) (x7 := blkOf cfg4 (U c) 7 t) (b8 := fun d : (S1024x1.Idx → Elt F .f32) => (mkDat cfg4 c n (U c) (after4 (U c))).before 8 t d)
    (h0 := fun d : (S1024x512.Idx → Elt F .f32) => key 0 rfl (fun _ => rfl) (fun _ _ _ => rfl) (fun _ => rfl) (fun _ _ => rfl) t d)
    (h1 := fun d : (S416x512.Idx → Elt F .f32) => key 1 rfl (fun _ => rfl) (fun _ _ _ => rfl) (fun _ => rfl) (fun _ _ => rfl) t d)
    (h2 := fun d : (S325x512.Idx → Elt F .f32) => key 2 rfl (fun _ => rfl) (fun _ _ _ => rfl) (fun _ => rfl) (fun _ _ => rfl) t d)
    (h3 := fun d : (S512x256.Idx → Elt F .f32) => key 3 rfl (fun _ => rfl) (fun _ _ _ => rfl) (fun _ => rfl) (fun _ _ => rfl) t d)
    (h4 := fun d : (S256x1.Idx → Elt F .f32) => key 4 rfl (fun _ => rfl) (fun _ _ _ => rfl) (fun _ => rfl) (fun _ _ => rfl) t d)
    (h5 := fun d : (S1x512.Idx → Elt F .f32) => key 5 rfl (fun _ => rfl) (fun _ _ _ => rfl) (fun _ => rfl) (fun _ _ => rfl) t d)
    (h6 := fun d : (S1x256.Idx → Elt F .f32) => key 6 rfl (fun _ => rfl) (fun _ _ _ => rfl) (fun _ => rfl) (fun _ _ => rfl) t d)
    (h7 := fun d : (S1x1.Idx → Elt F .f32) => key 7 rfl (fun _ => rfl) (fun _ _ _ => rfl) (fun _ => rfl) (fun _ _ => rfl) t d)) rfl .rfl fun _ => .rfl

set_option maxHeartbeats 4000000 in
theorem obl6 (c : Dev nD) : BodyObligation (mkDat cfg6 c n (U c) (after6 (U c))) (defs₀ (F := F)) 𝒱₀ none Set.univ := fun t => by
  rw [bigSep_W6, bigSep_W6, show defs₀ (F := F) .tc cfg6.body (cfg6.bodyArgs t (cfg6.slots t)) = bodyAt6 t from rfl,
    mkDat_owes cfg6 c n (U c) (after6 (U c)) t.succ t.castSucc]
  have key := found (mkDat cfg6 c n (U c) (after6 (U c)))
  exact triple_restated (mlp_step c (grid6.coords t) _ (hstage6_0 ((cfg6.slots t 0).cast nbuf6_0)) _ (hstage6_1 ((cfg6.slots t 1).cast nbuf6_1)) _ (hstage6_2 ((cfg6.slots t 2).cast nbuf6_2)) _ (hstage6_3 ((cfg6.slots t 3).cast nbuf6_3)) _ (hstage6_4 ((cfg6.slots t 4).cast nbuf6_4)) _ (hstage6_5 ((cfg6.slots t 5).cast nbuf6_5)) _ (hstage6_6 ((cfg6.slots t 6).cast nbuf6_6)) _ (hstage6_7 ((cfg6.slots t 7).cast nbuf6_7)) _ (hstage6_8 ((cfg6.slots t 8).cast nbuf6_8))
    (Pipeline.scopedRest cfg6.spec c) ((mkDat cfg6 c n (U c) (after6 (U c))).owesAt none t.castSucc)
    (x0 := blkOf cfg6 (U c) 0 t) (x1 := blkOf cfg6 (U c) 1 t) (x2 := blkOf cfg6 (U c) 2 t) (x3 := blkOf cfg6 (U c) 3 t) (x4 := blkOf cfg6 (U c) 4 t) (x5 := blkOf cfg6 (U c) 5 t) (x6 := blkOf cfg6 (U c) 6 t) (x7 := blkOf cfg6 (U c) 7 t) (b8 := fun d : (S1024x1.Idx → Elt F .f32) => (mkDat cfg6 c n (U c) (after6 (U c))).before 8 t d)
    (h0 := fun d : (S1024x512.Idx → Elt F .f32) => key 0 rfl (fun _ => rfl) (fun _ _ _ => rfl) (fun _ => rfl) (fun _ _ => rfl) t d)
    (h1 := fun d : (S416x512.Idx → Elt F .f32) => key 1 rfl (fun _ => rfl) (fun _ _ _ => rfl) (fun _ => rfl) (fun _ _ => rfl) t d)
    (h2 := fun d : (S325x512.Idx → Elt F .f32) => key 2 rfl (fun _ => rfl) (fun _ _ _ => rfl) (fun _ => rfl) (fun _ _ => rfl) t d)
    (h3 := fun d : (S512x256.Idx → Elt F .f32) => key 3 rfl (fun _ => rfl) (fun _ _ _ => rfl) (fun _ => rfl) (fun _ _ => rfl) t d)
    (h4 := fun d : (S256x1.Idx → Elt F .f32) => key 4 rfl (fun _ => rfl) (fun _ _ _ => rfl) (fun _ => rfl) (fun _ _ => rfl) t d)
    (h5 := fun d : (S1x512.Idx → Elt F .f32) => key 5 rfl (fun _ => rfl) (fun _ _ _ => rfl) (fun _ => rfl) (fun _ _ => rfl) t d)
    (h6 := fun d : (S1x256.Idx → Elt F .f32) => key 6 rfl (fun _ => rfl) (fun _ _ _ => rfl) (fun _ => rfl) (fun _ _ => rfl) t d)
    (h7 := fun d : (S1x1.Idx → Elt F .f32) => key 7 rfl (fun _ => rfl) (fun _ _ _ => rfl) (fun _ => rfl) (fun _ _ => rfl) t d)) rfl .rfl fun _ => .rfl

set_option maxHeartbeats 4000000 in
theorem obl8 (c : Dev nD) : BodyObligation (mkDat cfg8 c n (U c) (after8 (U c))) (defs₀ (F := F)) 𝒱₀ none Set.univ := fun t => by
  rw [bigSep_W8, bigSep_W8, show defs₀ (F := F) .tc cfg8.body (cfg8.bodyArgs t (cfg8.slots t)) = bodyAt8 t from rfl,
    mkDat_owes cfg8 c n (U c) (after8 (U c)) t.succ t.castSucc]
  have key := found (mkDat cfg8 c n (U c) (after8 (U c)))
  exact triple_restated (mlp_step c (grid8.coords t) _ (hstage8_0 ((cfg8.slots t 0).cast nbuf8_0)) _ (hstage8_1 ((cfg8.slots t 1).cast nbuf8_1)) _ (hstage8_2 ((cfg8.slots t 2).cast nbuf8_2)) _ (hstage8_3 ((cfg8.slots t 3).cast nbuf8_3)) _ (hstage8_4 ((cfg8.slots t 4).cast nbuf8_4)) _ (hstage8_5 ((cfg8.slots t 5).cast nbuf8_5)) _ (hstage8_6 ((cfg8.slots t 6).cast nbuf8_6)) _ (hstage8_7 ((cfg8.slots t 7).cast nbuf8_7)) _ (hstage8_8 ((cfg8.slots t 8).cast nbuf8_8))
    (Pipeline.scopedRest cfg8.spec c) ((mkDat cfg8 c n (U c) (after8 (U c))).owesAt none t.castSucc)
    (x0 := blkOf cfg8 (U c) 0 t) (x1 := blkOf cfg8 (U c) 1 t) (x2 := blkOf cfg8 (U c) 2 t) (x3 := blkOf cfg8 (U c) 3 t) (x4 := blkOf cfg8 (U c) 4 t) (x5 := blkOf cfg8 (U c) 5 t) (x6 := blkOf cfg8 (U c) 6 t) (x7 := blkOf cfg8 (U c) 7 t) (b8 := fun d : (S1024x1.Idx → Elt F .f32) => (mkDat cfg8 c n (U c) (after8 (U c))).before 8 t d)
    (h0 := fun d : (S1024x512.Idx → Elt F .f32) => key 0 rfl (fun _ => rfl) (fun _ _ _ => rfl) (fun _ => rfl) (fun _ _ => rfl) t d)
    (h1 := fun d : (S416x512.Idx → Elt F .f32) => key 1 rfl (fun _ => rfl) (fun _ _ _ => rfl) (fun _ => rfl) (fun _ _ => rfl) t d)
    (h2 := fun d : (S325x512.Idx → Elt F .f32) => key 2 rfl (fun _ => rfl) (fun _ _ _ => rfl) (fun _ => rfl) (fun _ _ => rfl) t d)
    (h3 := fun d : (S512x256.Idx → Elt F .f32) => key 3 rfl (fun _ => rfl) (fun _ _ _ => rfl) (fun _ => rfl) (fun _ _ => rfl) t d)
    (h4 := fun d : (S256x1.Idx → Elt F .f32) => key 4 rfl (fun _ => rfl) (fun _ _ _ => rfl) (fun _ => rfl) (fun _ _ => rfl) t d)
    (h5 := fun d : (S1x512.Idx → Elt F .f32) => key 5 rfl (fun _ => rfl) (fun _ _ _ => rfl) (fun _ => rfl) (fun _ _ => rfl) t d)
    (h6 := fun d : (S1x256.Idx → Elt F .f32) => key 6 rfl (fun _ => rfl) (fun _ _ _ => rfl) (fun _ => rfl) (fun _ _ => rfl) t d)
    (h7 := fun d : (S1x1.Idx → Elt F .f32) => key 7 rfl (fun _ => rfl) (fun _ _ _ => rfl) (fun _ => rfl) (fun _ _ => rfl) t d)) rfl .rfl fun _ => .rfl

theorem plain_of {p : Fin 5} {aft : (c : Dev nD) → (w : Fin (Pipeline.pin (pcfgs (F := F)) adm p).W) → Fin (Pipeline.pin (pcfgs (F := F)) adm p).N → ((Pipeline.pin (pcfgs (F := F)) adm p).win w).block.Idx → Elt F ((Pipeline.pin (pcfgs (F := F)) adm p).win w).elt}
    (h : ∀ c, pdats U n p c = mkDat (Pipeline.pin (pcfgs (F := F)) adm p) c n (U c) (aft c))
    (hb : ∀ c, BodyObligation (mkDat (Pipeline.pin (pcfgs (F := F)) adm p) c n (U c) (aft c)) (defs₀ (F := F)) 𝒱₀ none Set.univ) : PlainDat (pdats U n) p n U where
  body c := by rw [h]; exact hb c
  owed c t := by rw [h]; rfl
  recorded c t := by rw [h]; rfl
  inv c t := by rw [h]; rfl
  share c := by rw [h]; exact (mkDat _ c n (U c) (aft c)).share_full fun _ => rfl
  entry c w := by rw [h]; rfl

theorem plain0 : PlainDat (pdats U n) 0 n U :=
  plain_of U n (p := 0) (aft := fun c => after0 (U c)) (fun _ => rfl) (obl0 U n)

theorem plain2 : PlainDat (pdats U n) 1 n U :=
  plain_of U n (p := 1) (aft := fun c => after2 (U c)) (fun _ => rfl) (obl2 U n)

theorem plain4 : PlainDat (pdats U n) 2 n U :=
  plain_of U n (p := 2) (aft := fun c => after4 (U c)) (fun _ => rfl) (obl4 U n)

theorem plain6 : PlainDat (pdats U n) 3 n U :=
  plain_of U n (p := 3) (aft := fun c => after6 (U c)) (fun _ => rfl) (obl6 U n)

theorem plain8 : PlainDat (pdats U n) 4 n U :=
  plain_of U n (p := 4) (aft := fun c => after8 (U c)) (fun _ => rfl) (obl8 U n)

end Dats

end Cert.Proof.GatherIdeal

end
-- ==== Proof.ChainI.lean ====
/-
  The contents of the arrays, step by step through @main.
-/
module

public import proofs.«01_k».proof.Proof.ScLaunchI
public import proofs.«01_k».proof.Proof.RegDatI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

/-- The contents after a stretch of host operations. -/
def stepH (ops : List (HloOp τ sig (Elt F))) (U : Dev nD → Valuation τ sig (Elt F)) : Dev nD → Valuation τ sig (Elt F) :=
  fun d => StableHlo.after ops (U d)

/-- The contents after the pipelined call `p`, `n` gather calls done. -/
def stepR (p : Fin 5) (n : ℕ) (U : Dev nD → Valuation τ sig (Elt F)) : Dev nD → Valuation τ sig (Elt F) :=
  fun d => Pipeline.afterRegion (pdats U n p d) (U d)

section Chain

variable (m : (ℓ : Loc nD τ sig) → Buf (Elt F) ℓ)

def W0 : Dev nD → Valuation τ sig (Elt F) := fun d => StableHlo.launchContents m d
def W1 : Dev nD → Valuation τ sig (Elt F) := stepH ops0 (W0 m)
def W2 : Dev nD → Valuation τ sig (Elt F) := stepR 0 0 (W1 m)
def W3 : Dev nD → Valuation τ sig (Elt F) := stepH ops1 (W2 m)
def W4 : Dev nD → Valuation τ sig (Elt F) := stepH [gop1] (W3 m)
def W5 : Dev nD → Valuation τ sig (Elt F) := stepH ops2 (W4 m)
def W6 : Dev nD → Valuation τ sig (Elt F) := stepR 1 1 (W5 m)
def W7 : Dev nD → Valuation τ sig (Elt F) := stepH ops3 (W6 m)
def W8 : Dev nD → Valuation τ sig (Elt F) := stepH [gop3] (W7 m)
def W9 : Dev nD → Valuation τ sig (Elt F) := stepH ops4 (W8 m)
def W10 : Dev nD → Valuation τ sig (Elt F) := stepR 2 2 (W9 m)
def W11 : Dev nD → Valuation τ sig (Elt F) := stepH ops5 (W10 m)
def W12 : Dev nD → Valuation τ sig (Elt F) := stepH [gop5] (W11 m)
def W13 : Dev nD → Valuation τ sig (Elt F) := stepH ops6 (W12 m)
def W14 : Dev nD → Valuation τ sig (Elt F) := stepR 3 3 (W13 m)
def W15 : Dev nD → Valuation τ sig (Elt F) := stepH ops7 (W14 m)
def W16 : Dev nD → Valuation τ sig (Elt F) := stepH [gop7] (W15 m)
def W17 : Dev nD → Valuation τ sig (Elt F) := stepH ops8 (W16 m)
def W18 : Dev nD → Valuation τ sig (Elt F) := stepR 4 4 (W17 m)
def W19 : Dev nD → Valuation τ sig (Elt F) := stepH ops9 (W18 m)

/-- The contents when each gather call starts. -/
def Vs : Fin 4 → Dev nD → Valuation τ sig (Elt F)
  | 0 => W3 m
  | 1 => W7 m
  | 2 => W11 m
  | 3 => W15 m

end Chain

end Cert.Proof.GatherIdeal

end
-- ==== Proof.WStepI.lean ====
/-
  The program on the TensorCore, and the program's run.
-/
module

public import proofs.«01_k».proof.Proof.ChainI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

section Calls

variable (Vs : Fin 4 → Dev nD → Valuation τ sig (Elt F))

theorem pre1 (d : Dev nD) : (StableHlo.held (SparseCore.T d) (gop1 (F := F)).bufs (Vs 0 d) : sProp 𝕄)
    = bigSep Finset.univ fun c : Fin 2 => bigSep Finset.univ fun i : Fin 16 => goAt Vs 0 d c i :=
  (held1 d (Vs 0 d)).trans (tasks1 d (Vs 0 d) (res1 (Vs 0 d)))
theorem post1 (d : Dev nD) : (StableHlo.held (SparseCore.T d) (gop1 (F := F)).bufs ((gop1 (F := F)).result (Vs 0 d)) : sProp 𝕄)
    = bigSep Finset.univ fun c : Fin 2 => bigSep Finset.univ fun i : Fin 16 => tdAt Vs 0 d c i := by
  refine (held1 d _).trans (Eq.trans ?_ (tasks1 d (Vs 0 d) (new1 (Vs 0 d))))
  rw [show tabOf ((gop1 (F := F)).result (Vs 0 d)) = tabOf (Vs 0 d) from StableHlo.binary_result_ne _ _ _ _ _ _ _ _ (by decide),
    show idx1 ((gop1 (F := F)).result (Vs 0 d)) = idx1 (Vs 0 d) from StableHlo.binary_result_ne _ _ _ _ _ _ _ _ (by decide),
    show res1 ((gop1 (F := F)).result (Vs 0 d)) = new1 (Vs 0 d) from StableHlo.binary_result _ _ _ _ _ _ _ _]
theorem sub1 : (gop1 (F := F)).bufs ⊆ Pipeline.ucRefs τ sig :=
  show ({Proc.devRef .tc main_v17, Proc.devRef .tc main_v30, Proc.devRef .tc main_v31} : Finset (DevRef τ sig)) ⊆ _ from by decide
theorem pre3 (d : Dev nD) : (StableHlo.held (SparseCore.T d) (gop3 (F := F)).bufs (Vs 1 d) : sProp 𝕄)
    = bigSep Finset.univ fun c : Fin 2 => bigSep Finset.univ fun i : Fin 16 => goAt Vs 1 d c i :=
  (held3 d (Vs 1 d)).trans (tasks3 d (Vs 1 d) (res3 (Vs 1 d)))
theorem post3 (d : Dev nD) : (StableHlo.held (SparseCore.T d) (gop3 (F := F)).bufs ((gop3 (F := F)).result (Vs 1 d)) : sProp 𝕄)
    = bigSep Finset.univ fun c : Fin 2 => bigSep Finset.univ fun i : Fin 16 => tdAt Vs 1 d c i := by
  refine (held3 d _).trans (Eq.trans ?_ (tasks3 d (Vs 1 d) (new3 (Vs 1 d))))
  rw [show tabOf ((gop3 (F := F)).result (Vs 1 d)) = tabOf (Vs 1 d) from StableHlo.binary_result_ne _ _ _ _ _ _ _ _ (by decide),
    show idx3 ((gop3 (F := F)).result (Vs 1 d)) = idx3 (Vs 1 d) from StableHlo.binary_result_ne _ _ _ _ _ _ _ _ (by decide),
    show res3 ((gop3 (F := F)).result (Vs 1 d)) = new3 (Vs 1 d) from StableHlo.binary_result _ _ _ _ _ _ _ _]
theorem sub3 : (gop3 (F := F)).bufs ⊆ Pipeline.ucRefs τ sig :=
  show ({Proc.devRef .tc main_v17, Proc.devRef .tc main_v34, Proc.devRef .tc main_v35} : Finset (DevRef τ sig)) ⊆ _ from by decide
theorem pre5 (d : Dev nD) : (StableHlo.held (SparseCore.T d) (gop5 (F := F)).bufs (Vs 2 d) : sProp 𝕄)
    = bigSep Finset.univ fun c : Fin 2 => bigSep Finset.univ fun i : Fin 16 => goAt Vs 2 d c i :=
  (held5 d (Vs 2 d)).trans (tasks5 d (Vs 2 d) (res5 (Vs 2 d)))
theorem post5 (d : Dev nD) : (StableHlo.held (SparseCore.T d) (gop5 (F := F)).bufs ((gop5 (F := F)).result (Vs 2 d)) : sProp 𝕄)
    = bigSep Finset.univ fun c : Fin 2 => bigSep Finset.univ fun i : Fin 16 => tdAt Vs 2 d c i := by
  refine (held5 d _).trans (Eq.trans ?_ (tasks5 d (Vs 2 d) (new5 (Vs 2 d))))
  rw [show tabOf ((gop5 (F := F)).result (Vs 2 d)) = tabOf (Vs 2 d) from StableHlo.binary_result_ne _ _ _ _ _ _ _ _ (by decide),
    show idx5 ((gop5 (F := F)).result (Vs 2 d)) = idx5 (Vs 2 d) from StableHlo.binary_result_ne _ _ _ _ _ _ _ _ (by decide),
    show res5 ((gop5 (F := F)).result (Vs 2 d)) = new5 (Vs 2 d) from StableHlo.binary_result _ _ _ _ _ _ _ _]
theorem sub5 : (gop5 (F := F)).bufs ⊆ Pipeline.ucRefs τ sig :=
  show ({Proc.devRef .tc main_v17, Proc.devRef .tc main_v38, Proc.devRef .tc main_v39} : Finset (DevRef τ sig)) ⊆ _ from by decide
theorem pre7 (d : Dev nD) : (StableHlo.held (SparseCore.T d) (gop7 (F := F)).bufs (Vs 3 d) : sProp 𝕄)
    = bigSep Finset.univ fun c : Fin 2 => bigSep Finset.univ fun i : Fin 16 => goAt Vs 3 d c i :=
  (held7 d (Vs 3 d)).trans (tasks7 d (Vs 3 d) (res7 (Vs 3 d)))
theorem post7 (d : Dev nD) : (StableHlo.held (SparseCore.T d) (gop7 (F := F)).bufs ((gop7 (F := F)).result (Vs 3 d)) : sProp 𝕄)
    = bigSep Finset.univ fun c : Fin 2 => bigSep Finset.univ fun i : Fin 16 => tdAt Vs 3 d c i := by
  refine (held7 d _).trans (Eq.trans ?_ (tasks7 d (Vs 3 d) (new7 (Vs 3 d))))
  rw [show tabOf ((gop7 (F := F)).result (Vs 3 d)) = tabOf (Vs 3 d) from StableHlo.binary_result_ne _ _ _ _ _ _ _ _ (by decide),
    show idx7 ((gop7 (F := F)).result (Vs 3 d)) = idx7 (Vs 3 d) from StableHlo.binary_result_ne _ _ _ _ _ _ _ _ (by decide),
    show res7 ((gop7 (F := F)).result (Vs 3 d)) = new7 (Vs 3 d) from StableHlo.binary_result _ _ _ _ _ _ _ _]
theorem sub7 : (gop7 (F := F)).bufs ⊆ Pipeline.ucRefs τ sig :=
  show ({Proc.devRef .tc main_v17, Proc.devRef .tc main_v42, Proc.devRef .tc main_v43} : Finset (DevRef τ sig)) ⊆ _ from by decide

/-- A gather call's step. -/
theorem call_step (q : Fin 4) (op : HloOp τ sig (Elt F)) (κ : GSem nD τ sig → ℕ) (d : Dev nD) (hsub : op.bufs ⊆ Pipeline.ucRefs τ sig)
    (hst : (StableHlo.held (SparseCore.T d) op.bufs (Vs q d) : sProp 𝕄) = bigSep Finset.univ fun c : Fin 2 => bigSep Finset.univ fun i : Fin 16 => goAt Vs q d c i)
    (hdn : (StableHlo.held (SparseCore.T d) op.bufs (op.result (Vs q d)) : sProp 𝕄) = bigSep Finset.univ fun c : Fin 2 => bigSep Finset.univ fun i : Fin 16 => tdAt Vs q d c i)
    {α : Type} (k : PUnit → Prog (TpuEff nD τ sig (Elt F) (SparseCore.Sig (ΛP (F := F)) nCalls) .tc) α) (Φ : α → sProp 𝕄) :
    iprop((K (F := F)).ctx EH (P Vs) κ ∗ (K (F := F)).tcSt EH d q.val ∗ StableHlo.held (SparseCore.T d) (Pipeline.ucRefs τ sig) (Vs q d)
        ∗ (iprop((K (F := F)).tcSt EH d (q.val + 1) ∗ StableHlo.held (SparseCore.T d) (Pipeline.ucRefs τ sig) (stepH [op] (Vs q) d))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d q >>= k) Φ := by
  rw [wp_bind]
  iintro ⟨#Hctx, Hst, Hh, Hk⟩
  ihave H := (Entails.of_eq (StableHlo.held_split (SparseCore.T d) hsub (Vs q d))) $$ Hh
  icases H with ⟨Hop, Hrest⟩
  iapply ((K (F := F)).wp_run (D (F := F)) 𝒱 (EH := EH) (P := P Vs) κ d q)
  isplitr; · iexact Hctx
  isplitl [Hst]; · iexact Hst
  isplitl [Hop]
  · iapply (Entails.of_eq (hst.trans (bigSep_cast (nCore_eq q) (fun c => bigSep Finset.univ fun i : Fin 16 => goAt Vs q d c i)).symm))
    iexact Hop
  iintro ⟨Hst, Hdn⟩
  ihave Hdn := (Entails.of_eq ((show (bigSep Finset.univ fun c : Fin ((K (F := F)).nCore q) => (P Vs).dn q d c) = _ from bigSep_cast (nCore_eq q) (fun c => bigSep Finset.univ fun i : Fin 16 => tdAt Vs q d c i)).trans hdn.symm)) $$ Hdn
  ihave Hrest := (Entails.of_eq (StableHlo.held_sdiff_result (SparseCore.T d) op (Pipeline.ucRefs τ sig) (Vs q d)).symm) $$ Hrest
  iapply Hk
  isplitl [Hst]; · iexact Hst
  iapply (Entails.of_eq (StableHlo.held_split (SparseCore.T d) hsub (op.result (Vs q d))).symm)
  isplitl [Hdn]; · iexact Hdn
  iexact Hrest

/-- What the launch gives a device for pipeline `p`'s transfers. -/
abbrev ghost (p : Fin 5) (d : Dev nD) : sProp 𝕄 :=
  iprop(Pipeline.cellsGhost (Pipeline.pin (pcfgs (F := F)) adm) EP p d ∗ Pipeline.toksInit (Pipeline.pin (pcfgs (F := F)) adm) EP p d)

/-- A pipelined call's step. -/
theorem pipe_step {p : Fin 5} {n : ℕ} {U : Dev nD → Valuation τ sig (Elt F)}
    (kit : Pipeline.PLaunchFacts (nD := nD) (τ := τ) (pcfgs (F := F)) p) (h : PlainDat (pdats U n) p n U) (κ : GSem nD τ sig → ℕ) (d : Dev nD)
    {α : Type} (k : PUnit → Prog (TpuEff nD τ sig (Elt F) (SparseCore.Sig (ΛP (F := F)) nCalls) .tc) α) (Φ : α → sProp 𝕄) :
    iprop((K (F := F)).ctx EH (P Vs) κ ∗ (K (F := F)).tcSt EH d n ∗ boundary (SparseCore.T d) ∗ StableHlo.held (SparseCore.T d) (Pipeline.ucRefs τ sig) (U d) ∗ ghost p d
        ∗ (iprop((K (F := F)).tcSt EH d n ∗ boundary (SparseCore.T d) ∗ StableHlo.held (SparseCore.T d) (Pipeline.ucRefs τ sig) (stepR p n U d))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          ((Prog.lift (.customCall (SparseCore.inner (Pipeline.entry p)) ())) >>= k) Φ := by
  rw [wp_bind]
  unfold SparseCore.Cfg.tcSt
  iintro ⟨#Hctx, ⟨HO, Hst⟩, Hb, Hh, Hg, Hk⟩
  ihave Hl := (SparseCore.Cfg.ctx_levAts κ) $$ Hctx
  iapply (region_step kit h d)
  isplitl [Hb]; · iexact Hb
  isplitl [Hh]; · iexact Hh
  isplitl [HO]; · iexact HO
  isplitl [Hl]; · iexact Hl
  isplitl [Hg]; · iexact Hg
  iintro ⟨Hb, Hh, HO⟩
  iapply Hk
  isplitl [HO Hst]
  · isplitl [HO]; · iexact HO
    iexact Hst
  isplitl [Hb]; · iexact Hb
  iexact Hh

/-- A stretch of host operations. -/
theorem host_step {ops : List (HloOp τ sig (Elt F))} (hS : ∀ op ∈ ops, op.bufs ⊆ Pipeline.ucRefs τ sig) (hf : ∀ op ∈ ops, op.fresh = ∅)
    (U : Dev nD → Valuation τ sig (Elt F)) (d : Dev nD)
    {α : Type} (k : PUnit → Prog (TpuEff nD τ sig (Elt F) (SparseCore.Sig (ΛP (F := F)) nCalls) .tc) α) (Φ : α → sProp 𝕄) :
    iprop(boundary (SparseCore.T d) ∗ StableHlo.held (SparseCore.T d) (Pipeline.ucRefs τ sig) (U d)
        ∗ (iprop(boundary (SparseCore.T d) ∗ StableHlo.held (SparseCore.T d) (Pipeline.ucRefs τ sig) (stepH ops U d))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  iintro ⟨Hb, Hh, Hk⟩
  iapply (StableHlo.wp_seq 𝒱 none Set.univ d (Pipeline.ucRefs τ sig) k ops hS hf (U d)) $$ [Hb Hh]
  · isplitl [Hb]; · iexact Hb
    iexact Hh
  iexact Hk

theorem wp_done (d : Dev nD) (Φ : PUnit → sProp 𝕄) :
    Φ ⟨⟩ ⊢ wp frame (wpE ((K (F := F)).defs (D (F := F))) 𝒱 (SparseCore.T d) none) Set.univ (pure ⟨⟩) Φ := by
  rw [wp_pure]
  iintro H; imodintro; iexact H

end Calls

end Cert.Proof.GatherIdeal

end
-- ==== Proof.WMainI.lean ====
/-
  The program on the TensorCore from start to end, and the program's run.
-/
module

public import proofs.«01_k».proof.Proof.WStepI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

variable (m : (ℓ : Loc nD τ sig) → Buf (Elt F) ℓ) (ρ : Dev nD → PrngReg)

abbrev FIN (d : Dev nD) : sProp 𝕄 := StableHlo.held (SparseCore.T d) (Pipeline.ucRefs τ sig) (W19 m d)

theorem ghost_five (d : Dev nD) : (bigSep Finset.univ fun p : Fin 5 => ghost (F := F) p d)
    = iprop(ghost 0 d ∗ ghost 1 d ∗ ghost 2 d ∗ ghost 3 d ∗ ghost 4 d) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

set_option maxHeartbeats 4000000 in
theorem hmain (κ : GSem nD τ sig → ℕ) (d : Dev nD) :
    iprop((K (F := F)).ctx EH (P (Vs m)) κ ∗ (K (F := F)).tcSt EH d 0 ∗ (K (F := F)).tcRes m ρ d ∗ bigSep Finset.univ fun p : Fin 5 => ghost (F := F) p d)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd
  rw [ghost_five, show (unscopedBufs d (fun b => m ((SparseCore.T d).loc b)) : sProp 𝕄) = StableHlo.held (SparseCore.T d) (Pipeline.ucRefs τ sig) (W0 m d) from
    Pipeline.unscopedBufs_held d (StableHlo.launchContents m d), main_eq]
  iintro ⟨#Hctx, Hst, ⟨Hb, Hh, Hts, -⟩, Hg0, Hg1, Hg2, Hg3, Hg4⟩
  iapply (host_step ops0_sub ops0_fresh (W0 m) d)
  isplitl [Hb]; · iexact Hb
  isplitl [Hh]; · iexact Hh
  iintro ⟨Hb, Hh⟩
  iapply (pipe_step (Vs m) (launch0).toP (plain0 (W1 m) 0) κ d)
  isplitr; · iexact Hctx
  isplitl [Hst]; · iexact Hst
  isplitl [Hb]; · iexact Hb
  isplitl [Hh]; · iexact Hh
  isplitl [Hg0]; · iexact Hg0
  iintro ⟨Hst, Hb, Hh⟩
  iapply (host_step ops1_sub ops1_fresh (W2 m) d)
  isplitl [Hb]; · iexact Hb
  isplitl [Hh]; · iexact Hh
  iintro ⟨Hb, Hh⟩
  iapply (call_step (Vs m) 0 gop1 κ d sub1 (pre1 (Vs m) d) (post1 (Vs m) d))
  isplitr; · iexact Hctx
  isplitl [Hst]; · iexact Hst
  isplitl [Hh]; · iexact Hh
  iintro ⟨Hst, Hh⟩
  iapply (host_step ops2_sub ops2_fresh (W4 m) d)
  isplitl [Hb]; · iexact Hb
  isplitl [Hh]; · iexact Hh
  iintro ⟨Hb, Hh⟩
  iapply (pipe_step (Vs m) (launch2).toP (plain2 (W5 m) 1) κ d)
  isplitr; · iexact Hctx
  isplitl [Hst]; · iexact Hst
  isplitl [Hb]; · iexact Hb
  isplitl [Hh]; · iexact Hh
  isplitl [Hg1]; · iexact Hg1
  iintro ⟨Hst, Hb, Hh⟩
  iapply (host_step ops3_sub ops3_fresh (W6 m) d)
  isplitl [Hb]; · iexact Hb
  isplitl [Hh]; · iexact Hh
  iintro ⟨Hb, Hh⟩
  iapply (call_step (Vs m) 1 gop3 κ d sub3 (pre3 (Vs m) d) (post3 (Vs m) d))
  isplitr; · iexact Hctx
  isplitl [Hst]; · iexact Hst
  isplitl [Hh]; · iexact Hh
  iintro ⟨Hst, Hh⟩
  iapply (host_step ops4_sub ops4_fresh (W8 m) d)
  isplitl [Hb]; · iexact Hb
  isplitl [Hh]; · iexact Hh
  iintro ⟨Hb, Hh⟩
  iapply (pipe_step (Vs m) (launch4).toP (plain4 (W9 m) 2) κ d)
  isplitr; · iexact Hctx
  isplitl [Hst]; · iexact Hst
  isplitl [Hb]; · iexact Hb
  isplitl [Hh]; · iexact Hh
  isplitl [Hg2]; · iexact Hg2
  iintro ⟨Hst, Hb, Hh⟩
  iapply (host_step ops5_sub ops5_fresh (W10 m) d)
  isplitl [Hb]; · iexact Hb
  isplitl [Hh]; · iexact Hh
  iintro ⟨Hb, Hh⟩
  iapply (call_step (Vs m) 2 gop5 κ d sub5 (pre5 (Vs m) d) (post5 (Vs m) d))
  isplitr; · iexact Hctx
  isplitl [Hst]; · iexact Hst
  isplitl [Hh]; · iexact Hh
  iintro ⟨Hst, Hh⟩
  iapply (host_step ops6_sub ops6_fresh (W12 m) d)
  isplitl [Hb]; · iexact Hb
  isplitl [Hh]; · iexact Hh
  iintro ⟨Hb, Hh⟩
  iapply (pipe_step (Vs m) (launch6).toP (plain6 (W13 m) 3) κ d)
  isplitr; · iexact Hctx
  isplitl [Hst]; · iexact Hst
  isplitl [Hb]; · iexact Hb
  isplitl [Hh]; · iexact Hh
  isplitl [Hg3]; · iexact Hg3
  iintro ⟨Hst, Hb, Hh⟩
  iapply (host_step ops7_sub ops7_fresh (W14 m) d)
  isplitl [Hb]; · iexact Hb
  isplitl [Hh]; · iexact Hh
  iintro ⟨Hb, Hh⟩
  iapply (call_step (Vs m) 3 gop7 κ d sub7 (pre7 (Vs m) d) (post7 (Vs m) d))
  isplitr; · iexact Hctx
  isplitl [Hst]; · iexact Hst
  isplitl [Hh]; · iexact Hh
  iintro ⟨Hst, Hh⟩
  iapply (host_step ops8_sub ops8_fresh (W16 m) d)
  isplitl [Hb]; · iexact Hb
  isplitl [Hh]; · iexact Hh
  iintro ⟨Hb, Hh⟩
  iapply (pipe_step (Vs m) (launch8).toP (plain8 (W17 m) 4) κ d)
  isplitr; · iexact Hctx
  isplitl [Hst]; · iexact Hst
  isplitl [Hb]; · iexact Hb
  isplitl [Hh]; · iexact Hh
  isplitl [Hg4]; · iexact Hg4
  iintro ⟨Hst, Hb, Hh⟩
  iapply (host_step ops9_sub ops9_fresh (W18 m) d)
  isplitl [Hb]; · iexact Hb
  isplitl [Hh]; · iexact Hh
  iintro ⟨Hb, Hh⟩
  iapply (wp_done d)
  isplitl [Hst]; · iexact Hst
  isplitl [Hh]; · iexact Hh
  isplitl [Hb] <;> iassumption

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => bigSep Finset.univ fun p : Fin 5 => ghost (F := F) p d)
        ∗ bigSep Finset.univ fun thr : Thread nD τ => bigSep Finset.univ fun q : Fin nCalls => (P (Vs m)).x q thr) := by
  unfold u₀
  iintro Hu
  ihave H := (ownU_pair _ _) $$ Hu
  icases H with ⟨HH, HR⟩
  ihave HR := (own_pair_emb embR _ _) $$ HR
  icases HR with ⟨HP, -⟩
  imod (Pipeline.fund_ghost (Pipeline.pin (pcfgs (F := F)) adm) EP pin_inj) $$ HP with ⟨Hg, Ht⟩
  imodintro
  isplitl [HH]; · iexact HH
  isplitl [Hg Ht]
  · rw [show (bigSep Finset.univ fun d : Dev nD => bigSep Finset.univ fun p : Fin 5 => ghost (F := F) p d) = iprop((bigSep Finset.univ fun d : Dev nD => bigSep Finset.univ fun p : Fin 5 => Pipeline.cellsGhost (Pipeline.pin (pcfgs (F := F)) adm) EP p d)
      ∗ bigSep Finset.univ fun d : Dev nD => bigSep Finset.univ fun p : Fin 5 => Pipeline.toksInit (Pipeline.pin (pcfgs (F := F)) adm) EP p d) from by
        rw [← bigSep_sep']; exact bigSep_congr fun d _ => bigSep_sep' _ _ _]
    isplitl [Hg] <;> iassumption
  rw [show (bigSep Finset.univ fun thr : Thread nD τ => bigSep Finset.univ fun q : Fin nCalls => (P (F := F) (Vs m)).x q thr) = bigSep Finset.univ fun _ => iprop(emp) from
    bigSep_congr fun _ _ => bigSep_emp' _, bigSep_emp']
  iempintro

def fq (d : Dev nD) (s' : Phys nD τ sig (Elt F)) : Prop := ∀ b ∈ Pipeline.ucRefs τ sig, s'.mem.mem (d, b) = W19 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

def QC : PUnit × MemSt nD τ sig (Elt F) → Prop := fun r =>
  (∀ d : Dev nD, ∀ b ∈ Pipeline.ucRefs τ sig, r.2.mem (d, b) = W19 m d b) ∧ r.2.sem = fun _ => 0

theorem run_main [∀ e, Nonempty (Elt F e)] (hpre : PreOK (Vs m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Vs m)) (A := ∅) facts v₀
    (fun q hq => match q with | 0 => nomatch hq | 1 => nomatch hq | 2 => nomatch hq | 3 => nomatch hq)
    (fun q _ => tileObl (Vs m) hpre q)
    (fun q _ => SparseCore.Cfg.VecSplit.of_plain (vecSplit (Vs m) q))
    m ρ main (fun d => bigSep Finset.univ fun p : Fin 5 => ghost (F := F) p d) (FIN m) (u₀ (F := F)) (sep_elim_left.trans (hu₀ m)) (hmain m ρ) (fq m) (hfin m) (QC m) (fun _ h hz => ⟨h, hz⟩)

end Cert.Proof.GatherIdeal

end
-- ==== Proof.WIdxI.lean ====
/-
  The index words the gathers read, from the categories the caller passes.
-/
module

public import proofs.«01_k».proof.Proof.ChainI
public import proofs.«01_k».proof.Proof.All
public import Idealize.ShloMosaic.Lib.StableHlo.ReadAt
public import Idealize.ShloMosaic.Lib.Routing.Words

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

/-- The row of the re-laid table that category `n` of field `f` lies in. -/
def flatRow (f n : ℕ) : ℕ := (f * 12544 + n % 12544) * 8 + n / 12544

theorem flatRow_lt {f n : ℕ} (hf : f < 26) (hn : n < 100000) : flatRow f n < 2609152 := by unfold flatRow; omega

theorem remsi_c (n : ℕ) (hn : n < 100000) : IntOp.remsi ArithUnit.host (BitVec.ofNat 32 n) 12544#32 = BitVec.ofNat 32 (n % 12544) :=
  Routing.remsi_word _ (by omega) (by omega) (by omega)

theorem divsi_c (n : ℕ) (hn : n < 100000) : IntOp.divsi ArithUnit.host (BitVec.ofNat 32 n) 12544#32 = BitVec.ofNat 32 (n / 12544) :=
  Routing.divsi_word _ (by omega) (by omega) (by omega)

theorem slt_zero (n : ℕ) (hn : n < 100000) : IntOp.cmpi .slt (BitVec.ofNat 32 n) 0#32 = 0#1 := by
  simp only [IntOp.cmpi, BitVec.slt_eq_decide, BitVec.toInt_eq_toNat_cond, BitVec.toNat_ofNat]
  rw [Nat.mod_eq_of_lt (show n < 2 ^ 32 by omega), if_pos (by omega), decide_eq_false (by simp)]
  rfl

/-- The remainder as the host spells it, sign by sign. -/
def remW (c x : BitVec 32) : BitVec 32 :=
  Scalar.select
    (IntOp.andi (IntOp.cmpi .ne (IntOp.cmpi .slt (IntOp.remsi ArithUnit.host x (Scalar.select (IntOp.cmpi .eq c 0#32) 1#32 c)) 0#32) (IntOp.cmpi .slt (Scalar.select (IntOp.cmpi .eq c 0#32) 1#32 c) 0#32))
      (IntOp.cmpi .ne (IntOp.remsi ArithUnit.host x (Scalar.select (IntOp.cmpi .eq c 0#32) 1#32 c)) 0#32))
    (IntOp.addi (IntOp.remsi ArithUnit.host x (Scalar.select (IntOp.cmpi .eq c 0#32) 1#32 c)) (Scalar.select (IntOp.cmpi .eq c 0#32) 1#32 c))
    (IntOp.remsi ArithUnit.host x (Scalar.select (IntOp.cmpi .eq c 0#32) 1#32 c))

/-- The floor of the quotient as the host spells it. -/
def divW (c x : BitVec 32) : BitVec 32 :=
  Scalar.select
    (IntOp.andi (IntOp.cmpi .ne (if x = 0 then 0 else if x.msb = true then -1 else 1 : BitVec 32) (if c = 0 then 0 else if c.msb = true then -1 else 1 : BitVec 32))
      (IntOp.cmpi .ne (IntOp.remsi ArithUnit.host x c) 0#32))
    (IntOp.subi (IntOp.divsi ArithUnit.host x c) 1#32) (IntOp.divsi ArithUnit.host x c)

theorem remW_eq (n : ℕ) (hn : n < 100000) : remW 12544#32 (BitVec.ofNat 32 n) = BitVec.ofNat 32 (n % 12544) := by
  have ha : ∀ b, IntOp.andi 0#1 b = 0#1 := by decide
  unfold remW
  rw [show Scalar.select (IntOp.cmpi CmpIPredicate.eq 12544#32 0#32) (1#32) 12544#32 = 12544#32 from rfl, remsi_c n hn, slt_zero (n % 12544) (by omega), show IntOp.cmpi CmpIPredicate.slt 12544#32 0#32 = 0#1 from rfl,
    show IntOp.cmpi CmpIPredicate.ne 0#1 0#1 = 0#1 from rfl, ha]
  rfl

theorem divW_eq (n : ℕ) (hn : n < 100000) : divW 12544#32 (BitVec.ofNat 32 n) = BitVec.ofNat 32 (n / 12544) := by
  have ha : ∀ b, IntOp.andi 0#1 b = 0#1 := by decide
  have hb : ∀ b, IntOp.andi b 0#1 = 0#1 := by decide
  unfold divW
  rw [remsi_c n hn, divsi_c n hn]
  by_cases h0 : n = 0
  · subst h0; rfl
  · have hne : ¬ BitVec.ofNat 32 n = 0 := fun h => h0 (by
      have := congrArg BitVec.toNat h
      rw [BitVec.toNat_ofNat, Nat.mod_eq_of_lt (by omega)] at this
      exact this)
    have hm : ¬ (BitVec.ofNat 32 n).msb = true := by
      rw [BitVec.msb_eq_decide, decide_eq_true_eq, BitVec.toNat_ofNat, Nat.mod_eq_of_lt (show n < 2 ^ 32 by omega)]; omega
    rw [if_neg hne, if_neg hm, show (if (12544#32 : BitVec 32) = 0 then 0 else if (12544#32 : BitVec 32).msb = true then -1 else 1 : BitVec 32) = 1 from by decide, show IntOp.cmpi CmpIPredicate.ne (1 : BitVec 32) 1 = 0#1 from rfl, ha]
    rfl

theorem flat_word (f n : ℕ) : IntOp.addi (IntOp.muli (IntOp.addi (IntOp.muli (BitVec.ofNat 32 f) 12544#32) (BitVec.ofNat 32 (n % 12544))) 8#32) (BitVec.ofNat 32 (n / 12544))
    = BitVec.ofNat 32 (flatRow f n) := by
  simp only [IntOp.addi, IntOp.muli, flatRow, BitVec.ofNat_add, BitVec.ofNat_mul]

/-- The word of the flat row, before the padding, at sample `j 0` and field `j 1`. -/
theorem v10_at (V : Valuation τ sig (Elt F)) (j : S16384x26.Idx) (n : ℕ) (hn : n < 100000) (hx : V (Proc.devRef .tc main_arg0) j = BitVec.ofNat 32 n) :
    StableHlo.after (ops0 (F := F)) V (Proc.devRef .tc main_v10) j = BitVec.ofNat 32 (flatRow (j 1).val n) := by
  have key := (congrArg₂ (fun R D => IntOp.addi (IntOp.muli (IntOp.addi (IntOp.muli (BitVec.ofNat 32 (j 1).val) 12544#32) R) 8#32) D) (remW_eq n hn) (divW_eq n hn)).trans (flat_word (j 1).val n)
  rw [← hx] at key
  refine Eq.trans ?_ key
  unfold ops0
  after_reads_at
  rfl

/-- The padded index list: 32 columns a sample, the six last repeating the first field. -/
theorem v14_at (V : Valuation τ sig (Elt F)) (b : Fin 16384) (c : Fin 32) (j : S1x524288.Idx) (hj : (j 1).val = 32 * b.val + c.val)
    (f : Fin 26) (hf : f.val = if c.val < 26 then c.val else 0) :
    StableHlo.after (ops0 (F := F)) V (Proc.devRef .tc main_v14) j = StableHlo.after (ops0 (F := F)) V (Proc.devRef .tc main_v10) (ValueIdx.ix2 b f) := by
  have hs : ops0 (F := F) = (ops0 (F := F)).take 52 ++ (ops0 (F := F)).drop 52 := (List.take_append_drop 52 _).symm
  have hd : ∀ W : Valuation τ sig (Elt F), StableHlo.after ((ops0 (F := F)).drop 52) W (Proc.devRef .tc main_v10) = W (Proc.devRef .tc main_v10) := by
    intro W
    unfold ops0
    simp only [List.drop_succ_cons, List.drop_zero]
    after_reads_simp
  rw [hs, StableHlo.after_append, hd]
  generalize StableHlo.after ((ops0 (F := F)).take 52) V = U
  unfold ops0
  simp only [List.drop_succ_cons, List.drop_zero]
  after_reads_at
  split
  · next h =>
    after_reads_at
    rw [if_pos (show c.val < 26 by omega)] at hf
    exact congrArg _ (congrArg₂ ValueIdx.ix2 (Fin.ext (show (j 1).val / 32 = b.val by omega)) (Fin.ext (show (j 1).val % 32 = f.val by omega)))
  · next h =>
    after_reads_at
    rw [if_neg (show ¬ c.val < 26 by omega)] at hf
    exact congrArg _ (congrArg₂ ValueIdx.ix2 (Fin.ext (show (j 1).val / 32 = b.val by omega)) (Fin.ext (show 0 = f.val by omega)))

end Cert.Proof.GatherIdeal

end
-- ==== Proof.WKeepI.lean ====
/-
  What each step of the program leaves unchanged.
-/
module

public import proofs.«01_k».proof.Proof.ChainI
public import Idealize.ShloMosaic.Lib.Pipeline.RegionArraysS
public import Idealize.ShloMosaic.Lib.StableHlo.ReadAt

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

/-- A pipelined call changes only its output's buffer. -/
theorem stepR_keep {p : Fin 5} {n : ℕ} {U : Dev nD → Valuation τ sig (Elt F)} (kit : Pipeline.PLaunchFacts (nD := nD) (τ := τ) (pcfgs (F := F)) p)
    (h : PlainDat (pdats U n) p n U) (o r : Ref sig .tc) (ho : ∀ w, ((Pipeline.pin (pcfgs (F := F)) adm p).win w).isOut = false ∨ Pipeline.arrRef (Pipeline.pin (pcfgs (F := F)) adm p).spec w = o)
    (hr : r ∉ [o]) (d : Dev nD) : stepR p n U d (Proc.devRef .tc r) = U d (Proc.devRef .tc r) :=
  Pipeline.afterRegion_keeps (pdats U n p d) (U d) kit.win.arr_inj (h.entry d) r fun w e =>
    (ho w).resolve_right fun e' => hr (List.mem_singleton.mpr (e.symm.trans e'))

variable (m : (ℓ : Loc nD τ sig) → Buf (Elt F) ℓ) (d : Dev nD) {r : Ref sig .tc}

/-- The references step 0 writes. -/
def wr0 : List (Ref sig .tc) := [main_c, main_v0, main_c_0, main_v1, main_v2, main_c_1, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref, main_v4, main_v5, main_v6, main_c_2, main_v7, main_v8, main_c_3, main_call1.v0.ref, main_call1.v1.ref, main_call1.v2.ref, main_call1.v3.ref, main_call1.v4.ref, main_call1.v5.ref, main_call1.v6.ref, main_call1.v7.ref, main_call1.v8.ref, main_call1.c.ref, main_call1.v9.ref, main_call1.v10.ref, main_call1.v11.ref, main_call1.c_0.ref, main_call1.v12.ref, main_call1.v13.ref, main_call1.call0.v0.ref, main_v10, main_v11, main_v12, main_v13, main_v14, main_v15]

theorem keep0 (hr : r ∉ wr0) : W1 m d (Proc.devRef .tc r) = W0 m d (Proc.devRef .tc r) :=
  StableHlo.after_of_writes_sub (W := wr0) _ _ (StableHlo.forall_writes_sub_of_map rfl) hr

/-- The references step 1 writes. -/
def wr1 : List (Ref sig .tc) := [main_v16]

theorem keep1 (hr : r ∉ wr1) : W2 m d (Proc.devRef .tc r) = W1 m d (Proc.devRef .tc r) :=
  stepR_keep launch0.toP (plain0 _ _) main_v16 r (by intro w; fin_cases w <;> first | exact Or.inl rfl | exact Or.inr rfl) hr d

/-- The references step 2 writes. -/
def wr2 : List (Ref sig .tc) := [main_v17, main_v18, main_v19, main_c_4, main_v20, main_v21, main_c_5, main_v22, main_v23, main_v24, main_v25, main_v26, main_v27, main_v28, main_v29, main_v30]

theorem keep2 (hr : r ∉ wr2) : W3 m d (Proc.devRef .tc r) = W2 m d (Proc.devRef .tc r) :=
  StableHlo.after_of_writes_sub (W := wr2) _ _ (StableHlo.forall_writes_sub_of_map rfl) hr

/-- The references step 3 writes. -/
def wr3 : List (Ref sig .tc) := [main_v31]

theorem keep3 (hr : r ∉ wr3) : W4 m d (Proc.devRef .tc r) = W3 m d (Proc.devRef .tc r) :=
  StableHlo.after_of_writes_sub (W := wr3) _ _ (by unfold gop1 wr3; simp) hr

/-- The references step 4 writes. -/
def wr4 : List (Ref sig .tc) := [main_v32]

theorem keep4 (hr : r ∉ wr4) : W5 m d (Proc.devRef .tc r) = W4 m d (Proc.devRef .tc r) :=
  StableHlo.after_of_writes_sub (W := wr4) _ _ (StableHlo.forall_writes_sub_of_map rfl) hr

/-- The references step 5 writes. -/
def wr5 : List (Ref sig .tc) := [main_v33]

theorem keep5 (hr : r ∉ wr5) : W6 m d (Proc.devRef .tc r) = W5 m d (Proc.devRef .tc r) :=
  stepR_keep launch2.toP (plain2 _ _) main_v33 r (by intro w; fin_cases w <;> first | exact Or.inl rfl | exact Or.inr rfl) hr d

/-- The references step 6 writes. -/
def wr6 : List (Ref sig .tc) := [main_v34]

theorem keep6 (hr : r ∉ wr6) : W7 m d (Proc.devRef .tc r) = W6 m d (Proc.devRef .tc r) :=
  StableHlo.after_of_writes_sub (W := wr6) _ _ (StableHlo.forall_writes_sub_of_map rfl) hr

/-- The references step 7 writes. -/
def wr7 : List (Ref sig .tc) := [main_v35]

theorem keep7 (hr : r ∉ wr7) : W8 m d (Proc.devRef .tc r) = W7 m d (Proc.devRef .tc r) :=
  StableHlo.after_of_writes_sub (W := wr7) _ _ (by unfold gop3 wr7; simp) hr

/-- The references step 8 writes. -/
def wr8 : List (Ref sig .tc) := [main_v36]

theorem keep8 (hr : r ∉ wr8) : W9 m d (Proc.devRef .tc r) = W8 m d (Proc.devRef .tc r) :=
  StableHlo.after_of_writes_sub (W := wr8) _ _ (StableHlo.forall_writes_sub_of_map rfl) hr

/-- The references step 9 writes. -/
def wr9 : List (Ref sig .tc) := [main_v37]

theorem keep9 (hr : r ∉ wr9) : W10 m d (Proc.devRef .tc r) = W9 m d (Proc.devRef .tc r) :=
  stepR_keep launch4.toP (plain4 _ _) main_v37 r (by intro w; fin_cases w <;> first | exact Or.inl rfl | exact Or.inr rfl) hr d

/-- The references step 10 writes. -/
def wr10 : List (Ref sig .tc) := [main_v38]

theorem keep10 (hr : r ∉ wr10) : W11 m d (Proc.devRef .tc r) = W10 m d (Proc.devRef .tc r) :=
  StableHlo.after_of_writes_sub (W := wr10) _ _ (StableHlo.forall_writes_sub_of_map rfl) hr

/-- The references step 11 writes. -/
def wr11 : List (Ref sig .tc) := [main_v39]

theorem keep11 (hr : r ∉ wr11) : W12 m d (Proc.devRef .tc r) = W11 m d (Proc.devRef .tc r) :=
  StableHlo.after_of_writes_sub (W := wr11) _ _ (by unfold gop5 wr11; simp) hr

/-- The references step 12 writes. -/
def wr12 : List (Ref sig .tc) := [main_v40]

theorem keep12 (hr : r ∉ wr12) : W13 m d (Proc.devRef .tc r) = W12 m d (Proc.devRef .tc r) :=
  StableHlo.after_of_writes_sub (W := wr12) _ _ (StableHlo.forall_writes_sub_of_map rfl) hr

/-- The references step 13 writes. -/
def wr13 : List (Ref sig .tc) := [main_v41]

theorem keep13 (hr : r ∉ wr13) : W14 m d (Proc.devRef .tc r) = W13 m d (Proc.devRef .tc r) :=
  stepR_keep launch6.toP (plain6 _ _) main_v41 r (by intro w; fin_cases w <;> first | exact Or.inl rfl | exact Or.inr rfl) hr d

/-- The references step 14 writes. -/
def wr14 : List (Ref sig .tc) := [main_v42]

theorem keep14 (hr : r ∉ wr14) : W15 m d (Proc.devRef .tc r) = W14 m d (Proc.devRef .tc r) :=
  StableHlo.after_of_writes_sub (W := wr14) _ _ (StableHlo.forall_writes_sub_of_map rfl) hr

/-- The references step 15 writes. -/
def wr15 : List (Ref sig .tc) := [main_v43]

theorem keep15 (hr : r ∉ wr15) : W16 m d (Proc.devRef .tc r) = W15 m d (Proc.devRef .tc r) :=
  StableHlo.after_of_writes_sub (W := wr15) _ _ (by unfold gop7 wr15; simp) hr

/-- The references step 16 writes. -/
def wr16 : List (Ref sig .tc) := [main_v44]

theorem keep16 (hr : r ∉ wr16) : W17 m d (Proc.devRef .tc r) = W16 m d (Proc.devRef .tc r) :=
  StableHlo.after_of_writes_sub (W := wr16) _ _ (StableHlo.forall_writes_sub_of_map rfl) hr

/-- The references step 17 writes. -/
def wr17 : List (Ref sig .tc) := [main_v45]

theorem keep17 (hr : r ∉ wr17) : W18 m d (Proc.devRef .tc r) = W17 m d (Proc.devRef .tc r) :=
  stepR_keep launch8.toP (plain8 _ _) main_v45 r (by intro w; fin_cases w <;> first | exact Or.inl rfl | exact Or.inr rfl) hr d

/-- The references step 18 writes. -/
def wr18 : List (Ref sig .tc) := [main_v46, main_v47]

theorem keep18 (hr : r ∉ wr18) : W19 m d (Proc.devRef .tc r) = W18 m d (Proc.devRef .tc r) :=
  StableHlo.after_of_writes_sub (W := wr18) _ _ (StableHlo.forall_writes_sub_of_map rfl) hr

/-- What nothing after the table is re-laid writes to. -/
def wrLate : List (Ref sig .tc) := wr3 ++ wr4 ++ wr5 ++ wr6 ++ wr7 ++ wr8 ++ wr9 ++ wr10 ++ wr11 ++ wr12 ++ wr13 ++ wr14 ++ wr15 ++ wr16 ++ wr17 ++ wr18

theorem late4 (hr : r ∉ wrLate) : W4 m d (Proc.devRef .tc r) = W3 m d (Proc.devRef .tc r) :=
  (keep3 m d fun h => hr (by unfold wrLate; simp only [List.mem_append]; tauto)).trans rfl

theorem late5 (hr : r ∉ wrLate) : W5 m d (Proc.devRef .tc r) = W3 m d (Proc.devRef .tc r) :=
  (keep4 m d fun h => hr (by unfold wrLate; simp only [List.mem_append]; tauto)).trans (late4 m d hr)

theorem late6 (hr : r ∉ wrLate) : W6 m d (Proc.devRef .tc r) = W3 m d (Proc.devRef .tc r) :=
  (keep5 m d fun h => hr (by unfold wrLate; simp only [List.mem_append]; tauto)).trans (late5 m d hr)

theorem late7 (hr : r ∉ wrLate) : W7 m d (Proc.devRef .tc r) = W3 m d (Proc.devRef .tc r) :=
  (keep6 m d fun h => hr (by unfold wrLate; simp only [List.mem_append]; tauto)).trans (late6 m d hr)

theorem late8 (hr : r ∉ wrLate) : W8 m d (Proc.devRef .tc r) = W3 m d (Proc.devRef .tc r) :=
  (keep7 m d fun h => hr (by unfold wrLate; simp only [List.mem_append]; tauto)).trans (late7 m d hr)

theorem late9 (hr : r ∉ wrLate) : W9 m d (Proc.devRef .tc r) = W3 m d (Proc.devRef .tc r) :=
  (keep8 m d fun h => hr (by unfold wrLate; simp only [List.mem_append]; tauto)).trans (late8 m d hr)

theorem late10 (hr : r ∉ wrLate) : W10 m d (Proc.devRef .tc r) = W3 m d (Proc.devRef .tc r) :=
  (keep9 m d fun h => hr (by unfold wrLate; simp only [List.mem_append]; tauto)).trans (late9 m d hr)

theorem late11 (hr : r ∉ wrLate) : W11 m d (Proc.devRef .tc r) = W3 m d (Proc.devRef .tc r) :=
  (keep10 m d fun h => hr (by unfold wrLate; simp only [List.mem_append]; tauto)).trans (late10 m d hr)

theorem late12 (hr : r ∉ wrLate) : W12 m d (Proc.devRef .tc r) = W3 m d (Proc.devRef .tc r) :=
  (keep11 m d fun h => hr (by unfold wrLate; simp only [List.mem_append]; tauto)).trans (late11 m d hr)

theorem late13 (hr : r ∉ wrLate) : W13 m d (Proc.devRef .tc r) = W3 m d (Proc.devRef .tc r) :=
  (keep12 m d fun h => hr (by unfold wrLate; simp only [List.mem_append]; tauto)).trans (late12 m d hr)

theorem late14 (hr : r ∉ wrLate) : W14 m d (Proc.devRef .tc r) = W3 m d (Proc.devRef .tc r) :=
  (keep13 m d fun h => hr (by unfold wrLate; simp only [List.mem_append]; tauto)).trans (late13 m d hr)

theorem late15 (hr : r ∉ wrLate) : W15 m d (Proc.devRef .tc r) = W3 m d (Proc.devRef .tc r) :=
  (keep14 m d fun h => hr (by unfold wrLate; simp only [List.mem_append]; tauto)).trans (late14 m d hr)

theorem late16 (hr : r ∉ wrLate) : W16 m d (Proc.devRef .tc r) = W3 m d (Proc.devRef .tc r) :=
  (keep15 m d fun h => hr (by unfold wrLate; simp only [List.mem_append]; tauto)).trans (late15 m d hr)

theorem late17 (hr : r ∉ wrLate) : W17 m d (Proc.devRef .tc r) = W3 m d (Proc.devRef .tc r) :=
  (keep16 m d fun h => hr (by unfold wrLate; simp only [List.mem_append]; tauto)).trans (late16 m d hr)

theorem late18 (hr : r ∉ wrLate) : W18 m d (Proc.devRef .tc r) = W3 m d (Proc.devRef .tc r) :=
  (keep17 m d fun h => hr (by unfold wrLate; simp only [List.mem_append]; tauto)).trans (late17 m d hr)

theorem late19 (hr : r ∉ wrLate) : W19 m d (Proc.devRef .tc r) = W3 m d (Proc.devRef .tc r) :=
  (keep18 m d fun h => hr (by unfold wrLate; simp only [List.mem_append]; tauto)).trans (late18 m d hr)

/-- An argument is never written. -/
theorem args_kept (h0 : r ∉ wr0) (h1 : r ∉ wr1) (h2 : r ∉ wr2) (hr : r ∉ wrLate) : W19 m d (Proc.devRef .tc r) = W0 m d (Proc.devRef .tc r) :=
  (late19 m d hr).trans ((keep2 m d h2).trans ((keep1 m d h1).trans (keep0 m d h0)))

end Cert.Proof.GatherIdeal

end
-- ==== Proof.WPreI.lean ====
/-
  The index lists the four gathers are given, element by element, and that every index is a row of the re-laid table.
-/
module

public import proofs.«01_k».proof.Proof.WIdxI
public import proofs.«01_k».proof.Proof.WKeepI
public import proofs.«01_k».proof.Proof.ScLaunchI
public import Idealize.ShloMosaic.Lib.Pointwise.IndexBridge

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

variable (m : (ℓ : Loc nD τ sig) → Buf (Elt F) ℓ) (d : Dev nD)

/-- The category of sample `b` in field `f`. -/
def cat (b : Fin 16384) (f : Fin 26) : ℕ := (show BitVec 32 from W0 m d (Proc.devRef .tc main_arg0) (ValueIdx.ix2 b f)).toNat

/-- The field a column of the padded list holds. -/
def colF (c : Fin 32) : Fin 26 := ⟨if c.val < 26 then c.val else 0, by split <;> omega⟩

variable (hin : ∀ b f, cat m d b f < 100000)

theorem word_eq (x : BitVec 32) : x = BitVec.ofNat 32 x.toNat := by simp

include hin in
theorem list_at (b : Fin 16384) (c : Fin 32) (j : S1x524288.Idx) (hj : (j 1).val = 32 * b.val + c.val) :
    W1 m d (Proc.devRef .tc main_v14) j = BitVec.ofNat 32 (flatRow (colF c).val (cat m d b (colF c))) :=
  (v14_at (W0 m d) b c j hj (colF c) rfl).trans (v10_at (W0 m d) (ValueIdx.ix2 b (colF c)) _ (hin b (colF c)) (word_eq _))

include hin in
theorem list_lt (b : Fin 16384) (c : Fin 32) : flatRow (colF c).val (cat m d b (colF c)) < 2609152 := flatRow_lt (colF c).isLt (hin b (colF c))

include hin in
theorem idx1_at (b : Fin 4096) (c : Fin 32) (j : S1x131072.Idx) (hj : (j 1).val = 32 * b.val + c.val) :
    idx1 (W3 m d) j = BitVec.ofNat 32 (flatRow (colF c).val (cat m d ⟨0 + b.val, by omega⟩ (colF c))) := by
  have hs : ∀ U : Valuation τ sig (Elt F), idx1 (StableHlo.after (ops1 (F := F)) U) j = U (Proc.devRef .tc main_v14) (ValueIdx.ix2 0 ⟨0 + (j 1).val, by omega⟩) := by
    intro U
    unfold ops1 idx1
    after_reads_at
    exact congrArg _ (ix2_eq_valueIdx _ _)
  exact (hs (W2 m d)).trans ((congrFun ((keep1 m d (by decide))) _).trans (list_at m d hin _ c _ (show 0 + (j 1).val = 32 * (0 + b.val) + c.val by omega)))

include hin in
theorem idx3_at (b : Fin 4096) (c : Fin 32) (j : S1x131072.Idx) (hj : (j 1).val = 32 * b.val + c.val) :
    idx3 (W7 m d) j = BitVec.ofNat 32 (flatRow (colF c).val (cat m d ⟨4096 + b.val, by omega⟩ (colF c))) := by
  have hs : ∀ U : Valuation τ sig (Elt F), idx3 (StableHlo.after (ops3 (F := F)) U) j = U (Proc.devRef .tc main_v14) (ValueIdx.ix2 0 ⟨131072 + (j 1).val, by omega⟩) := by
    intro U
    unfold ops3 idx3
    after_reads_at
    exact congrArg _ (ix2_eq_valueIdx _ _)
  exact (hs (W6 m d)).trans ((congrFun ((late6 m d (by decide)).trans ((keep2 m d (by decide)).trans (keep1 m d (by decide)))) _).trans (list_at m d hin _ c _ (show 131072 + (j 1).val = 32 * (4096 + b.val) + c.val by omega)))

include hin in
theorem idx5_at (b : Fin 4096) (c : Fin 32) (j : S1x131072.Idx) (hj : (j 1).val = 32 * b.val + c.val) :
    idx5 (W11 m d) j = BitVec.ofNat 32 (flatRow (colF c).val (cat m d ⟨8192 + b.val, by omega⟩ (colF c))) := by
  have hs : ∀ U : Valuation τ sig (Elt F), idx5 (StableHlo.after (ops5 (F := F)) U) j = U (Proc.devRef .tc main_v14) (ValueIdx.ix2 0 ⟨262144 + (j 1).val, by omega⟩) := by
    intro U
    unfold ops5 idx5
    after_reads_at
    exact congrArg _ (ix2_eq_valueIdx _ _)
  exact (hs (W10 m d)).trans ((congrFun ((late10 m d (by decide)).trans ((keep2 m d (by decide)).trans (keep1 m d (by decide)))) _).trans (list_at m d hin _ c _ (show 262144 + (j 1).val = 32 * (8192 + b.val) + c.val by omega)))

include hin in
theorem idx7_at (b : Fin 4096) (c : Fin 32) (j : S1x131072.Idx) (hj : (j 1).val = 32 * b.val + c.val) :
    idx7 (W15 m d) j = BitVec.ofNat 32 (flatRow (colF c).val (cat m d ⟨12288 + b.val, by omega⟩ (colF c))) := by
  have hs : ∀ U : Valuation τ sig (Elt F), idx7 (StableHlo.after (ops7 (F := F)) U) j = U (Proc.devRef .tc main_v14) (ValueIdx.ix2 0 ⟨393216 + (j 1).val, by omega⟩) := by
    intro U
    unfold ops7 idx7
    after_reads_at
    exact congrArg _ (ix2_eq_valueIdx _ _)
  exact (hs (W14 m d)).trans ((congrFun ((late14 m d (by decide)).trans ((keep2 m d (by decide)).trans (keep1 m d (by decide)))) _).trans (list_at m d hin _ c _ (show 393216 + (j 1).val = 32 * (12288 + b.val) + c.val by omega)))

include hin in
/-- A word of an index list is a row of the re-laid table. -/
theorem word_lt {w : BitVec 32} {b : Fin 16384} {c : Fin 32} (h : w = BitVec.ofNat 32 (flatRow (colF c).val (cat m d b (colF c)))) : w.toNat < 2609152 := by
  have := list_lt m d hin b c
  rw [h, BitVec.toNat_ofNat, Nat.mod_eq_of_lt (by omega)]
  exact this

/-- The precondition of the four gathers. -/
theorem preOK (hin : ∀ d b f, cat m d b f < 100000) : PreOK (Vs m) := fun d j => by
  have hj : (j 1).val < 131072 := (j 1).isLt
  have e : (j 1).val = 32 * (⟨(j 1).val / 32, by omega⟩ : Fin 4096).val + (⟨(j 1).val % 32, by omega⟩ : Fin 32).val := by
    show (j 1).val = 32 * ((j 1).val / 32) + (j 1).val % 32
    omega
  exact ⟨word_lt m d (hin d) (idx1_at m d (hin d) _ _ j e), word_lt m d (hin d) (idx3_at m d (hin d) _ _ j e),
    word_lt m d (hin d) (idx5_at m d (hin d) _ _ j e), word_lt m d (hin d) (idx7_at m d (hin d) _ _ j e)⟩

end Cert.Proof.GatherIdeal

end
-- ==== Proof.WFinI.lean ====
/-
  What the whole program leaves: its arguments as they were, and the last step's predictions in the result.
-/
module

public import proofs.«01_k».proof.Proof.WMainI
public import proofs.«01_k».proof.Proof.WPreI
public import proofs.«01_k».proof.Proof.WKeepI

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

variable (m : (ℓ : Loc nD τ sig) → Buf (Elt F) ℓ) (d : Dev nD)

/-- The program's arguments. -/
def argRefs : List (Ref sig .tc) := [main_arg0, main_arg1, main_arg2, main_arg3, main_arg4, main_arg5, main_arg6, main_arg7]

theorem arg_kept (d : Dev nD) (b : Ref sig .tc) (hb : b ∈ argRefs) : W19 m d (Proc.devRef .tc b) = m ((d.tc : Thread nD τ).loc b) := by
  have key : ∀ b ∈ argRefs, b ∉ wr0 ∧ b ∉ wr1 ∧ b ∉ wr2 ∧ b ∉ wrLate := by decide
  obtain ⟨h0, h1, h2, h3⟩ := key b hb
  exact args_kept m d h0 h1 h2 h3

/-- Every fair run ends with the arguments unchanged, the predictions in the result and no counter left standing. -/
theorem run_kept [∀ e, Nonempty (Elt F e)] (ρ : Dev nD → PrngReg) (hin : ∀ d b f, cat m d b f < 100000) :
    θ_run (Cert.KernelIdeal.defs (F := F)) (Cert.KernelIdeal.threads (F := F)) ⟨m, fun _ => 0, ρ⟩ fun r =>
      (∀ c : Dev nD, (∀ b ∈ argRefs, r.2.mem ((c.tc : Thread nD τ).loc b) = m ((c.tc : Thread nD τ).loc b))
        ∧ r.2.mem ((c.tc : Thread nD τ).loc main_v47) = W19 m c (Proc.devRef .tc main_v47)) ∧ r.2.sem = fun _ => 0 := by
  have key : ∀ b ∈ argRefs, b.isScoped = false := by decide
  exact (θ_run _ _ _).mono (fun _ h => ⟨fun c => ⟨fun b hb => (h.1 c _ (Pipeline.devRef_mem_ucRefs (key b hb))).trans (arg_kept m c b hb),
    h.1 c _ (Pipeline.devRef_mem_ucRefs (by decide))⟩, h.2⟩) (run_main m ρ (preOK m hin))

end Cert.Proof.GatherIdeal

end
-- ==== Proof.MTp.lean ====
/-
  The re-laid table, element by element.
-/
module

public import proofs.«01_k».proof.Proof.WPreI
public import Idealize.ShloMosaic.Lib.Pipeline.ValueKit
public import Idealize.ShloMosaic.Lib.Pointwise
public import Idealize.ShloMosaic.Lib.Pointwise.IndexBridge

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

/-- Indices with equal coordinates, spelt either way. -/
theorem ix3c {a b c : ℕ} {i i' : Fin a} {j j' : Fin b} {k k' : Fin c} (hi : i.val = i'.val) (hj : j.val = j'.val) (hk : k.val = k'.val) :
    ix3 i j k = ValueIdx.ix3 i' j' k' := by
  rw [ix3_eq_valueIdx, Fin.ext hi, Fin.ext hj, Fin.ext hk]

theorem ix2c {a b : ℕ} {i i' : Fin a} {j j' : Fin b} (hi : i.val = i'.val) (hj : j.val = j'.val) : ix2 i j = ValueIdx.ix2 i' j' := by
  rw [ix2_eq_valueIdx, Fin.ext hi, Fin.ext hj]

/-- A block of the re-laid table: sixteen columns a slice of the field's rows. -/
theorem tp_at [∀ e, Nonempty (Elt F e)] (x0 : Vec F S1x16x100000 .f32) (j : S1x12544x128.Idx) (i : S1x16x100000.Idx) (h1 : (i 1).val = (j 2).val % 16)
    (h2 : (i 2).val = (j 2).val / 16 * 12544 + (j 1).val) : tpOut x0 j = x0 i := by
  unfold tpOut
  rw [View.canon_unit_zero (funext fun a => by fin_cases a <;> rfl)]
  unfold Gen.k0_pay1
  pointwise
  have hx : ∀ (a : Fin 16) (b : Fin 100000), a.val = (j 2).val % 16 → b.val = (j 2).val / 16 * 12544 + (j 1).val → x0 (ix3 0 a b) = x0 i := fun a b ha hb => by
    rw [ix3_eq_valueIdx]
    refine congrArg x0 (funext fun k => ?_)
    match k with
    | 0 => exact Fin.ext (by have : (i 0).val < 1 := (i 0).isLt; show 0 = (i 0).val; omega)
    | 1 => exact Fin.ext (ha.trans h1.symm)
    | 2 => exact Fin.ext (hb.trans h2.symm)
  have hj : (j 2).val < 128 := (j 2).isLt
  have hi : (i 2).val < 100000 := (i 2).isLt
  have hj1 : (j 1).val < 12544 := (j 1).isLt
  split_ifs
  all_goals first | (refine hx _ _ ?_ ?_ <;> dsimp only <;> omega) | (exfalso; omega)

end Cert.Proof.GatherIdeal

end
-- ==== Proof.MMlp.lean ====
/-
  One dense call's value, element by element.
-/
module

public import proofs.«01_k».proof.Proof.MTp
public import Idealize.ShloMosaic.Lib.MatmulPlain
public import Idealize.ShloMosaic.Lib.Pointwise.IndexBridge

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The field of a column, as the body spells the floor of its quotient by sixteen. -/
def selW (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 16#32 0#32)) (Scalar.extui (Scalar.cmpi .slt 16#32 0#32))))
      (IntOp.cmpi .ne (IntOp.remsi ArithUnit.vector x 16#32) 0#32))
    (IntOp.subi (IntOp.divsi ArithUnit.vector x 16#32) 1#32)
    (IntOp.divsi ArithUnit.vector x 16#32)

theorem selW_eq : ∀ k : Fin 400, selW (BitVec.ofNat 32 k.val) = BitVec.ofNat 32 (k.val / 16) := by decide +kernel

theorem gapSel_at (K n : ℕ) (hK : K ≤ 400) (hn : n ≤ 25) (h0) (h1) (k : Fin K) (c : Fin n) : gapSel (F := Ideal) K n h0 h1 (ValueIdx.ix2 k c) = if k.val / 16 = c.val then (1 : EReal) else 0 := by
  have e : gapSel (F := Ideal) K n h0 h1 (ValueIdx.ix2 k c) = FloatOps.sitofp (F := Ideal) .f32 (BitVec.setWidth 32 (IntOp.cmpi .eq (selW (BitVec.ofNat 32 k.val)) (BitVec.ofNat 32 c.val))) := by
    unfold gapSel
    pointwise
    rfl
  rw [e, selW_eq ⟨k.val, by omega⟩]
  have hw : BitVec.ofNat 32 (k.val / 16) = BitVec.ofNat 32 c.val ↔ k.val / 16 = c.val := by
    constructor
    · intro h
      have := congrArg BitVec.toNat h
      rw [BitVec.toNat_ofNat, BitVec.toNat_ofNat, Nat.mod_eq_of_lt (by omega), Nat.mod_eq_of_lt (by omega)] at this
      exact this
    · intro h; rw [h]
  by_cases h : k.val / 16 = c.val
  · rw [if_pos h, show IntOp.cmpi .eq (BitVec.ofNat 32 (k.val / 16)) (BitVec.ofNat 32 c.val) = 1#1 by simp [IntOp.cmpi, hw.mpr h]]
    show (((BitVec.toInt (BitVec.setWidth 32 (1#1)) : ℤ) : ℝ) : EReal) = 1
    simp
  · rw [if_neg h, show IntOp.cmpi .eq (BitVec.ofNat 32 (k.val / 16)) (BitVec.ofNat 32 c.val) = 0#1 by
      unfold IntOp.cmpi
      rw [show (BitVec.ofNat 32 (k.val / 16) == BitVec.ofNat 32 c.val) = false from beq_eq_false_iff_ne.mpr fun e => h (hw.mp e)]
      rfl]
    show (((BitVec.toInt (BitVec.setWidth 32 (0#1)) : ℤ) : ℝ) : EReal) = 0
    simp

/-- A gap's inner product at sample `r` and field `c`: the sixteen products of the two fields' entries. -/
theorem gapDot_at (K n o : ℕ) (hK : K = n * 16) (hn : n ≤ 25) (ho : 16 * n + o ≤ 416) (x : FVec Ideal S1024x416 .f32) (hs0 hs1 h0 h1) (r : Fin 1024) (c : Fin n) :
    gapDot (F := Ideal) K n o x hs0 hs1 h0 h1 (ValueIdx.ix2 r c)
      = ∑ e : Fin 16, x (ValueIdx.ix2 r ⟨16 * c.val + e.val, by omega⟩) * x (ValueIdx.ix2 r ⟨16 * c.val + e.val + o, by omega⟩) := by
  subst hK
  unfold gapDot
  refine (Ideal.matmul_plain_apply _ _ _ _ _ _).trans ?_
  have h0' : constant (F := Ideal) (Sh 1024 n) .f32 0x00000000#32 (ValueIdx.ix2 r c) = (0 : EReal) := by pointwise
  rw [h0', zero_add, ← Equiv.sum_comp finProdFinEquiv, Fintype.sum_prod_type]
  have hp : ∀ (a : Fin n) (e : Fin 16), (finProdFinEquiv (a, e)).val = 16 * a.val + e.val := fun a e => by
    show e.val + 16 * a.val = _
    omega
  have ht : ∀ (a : Fin n) (e : Fin 16),
      truncf (F := Ideal) .bf16 (mulf (extractStridedSlice (Sh 1024 (n * 16)) ![0, 0] x hs0) (extractStridedSlice (Sh 1024 (n * 16)) ![0, o] x hs1)) bitsLt_bf16_f32 (ValueIdx.ix2 r (finProdFinEquiv (a, e)))
          * gapSel (F := Ideal) (n * 16) n h0 h1 (ValueIdx.ix2 (finProdFinEquiv (a, e)) c)
        = if a = c then x (ValueIdx.ix2 r ⟨16 * c.val + e.val, by omega⟩) * x (ValueIdx.ix2 r ⟨16 * c.val + e.val + o, by omega⟩) else 0 := fun a e => by
    rw [gapSel_at (n * 16) n (by omega) hn, hp a e, show (16 * a.val + e.val) / 16 = a.val by omega]
    by_cases h : a = c
    · subst h
      rw [if_pos rfl, if_pos rfl, mul_one]
      refine congrArg₂ (fun u v : EReal => u * v) (congrArg x ?_) (congrArg x ?_)
      · funext k
        match k with
        | 0 => exact Fin.ext (Nat.zero_add _)
        | 1 => exact Fin.ext (by show 0 + (finProdFinEquiv (a, e)).val = 16 * a.val + e.val; rw [hp]; omega)
      · funext k
        match k with
        | 0 => exact Fin.ext (Nat.zero_add _)
        | 1 => exact Fin.ext (by show o + (finProdFinEquiv (a, e)).val = 16 * a.val + e.val + o; rw [hp]; omega)
    · rw [if_neg h, if_neg (fun h' => h (Fin.ext h')), mul_zero]
  simp only [ht]
  rw [Finset.sum_eq_single c (fun b _ hb => by simp [hb]) (fun h => absurd (Finset.mem_univ c) h)]
  simp

/-- Where a gap's piece begins. -/
theorem gap_pre : ∀ k : Fin 25, ((((List.range 25).map fun n => Sh 1024 (25 - n)).take k.val).map fun s => if h : s.rank = S1024x325.rank then s.size ((1 : Fin S1024x325.rank).cast h.symm) else 0).sum = 25 * k.val - k.val * (k.val - 1) / 2 := by
  decide +kernel

/-- The gaps' pieces, each named by its place. -/
theorem mlpIp_pieces (x : FVec Ideal S1024x416 .f32) : ∃ (xs : List ((s : Shape) × (s.Idx → Ideal .f32))) (h : _), mlpIp x = concatenate S1024x325 1 xs h ∧ xs.length = 25
    ∧ (xs.map (·.1) = (List.range 25).map fun n => Sh 1024 (25 - n))
    ∧ ∀ (k : ℕ) (hk : k < xs.length), ∃ hs0 hs1 h0 h1, xs[k] = ⟨Sh 1024 (25 - k), gapDot ((25 - k) * 16) (25 - k) (16 * (k + 1)) x hs0 hs1 h0 h1⟩ := by
  unfold mlpIp
  refine ⟨_, _, rfl, rfl, rfl, fun k hk => ?_⟩
  match k, hk with
  | 0, _ | 1, _ | 2, _ | 3, _ | 4, _ | 5, _ | 6, _ | 7, _ | 8, _ | 9, _ | 10, _ | 11, _ | 12, _ | 13, _ | 14, _ | 15, _ | 16, _ | 17, _ | 18, _ | 19, _ | 20, _ | 21, _ | 22, _ | 23, _ | 24, _ => exact ⟨_, _, _, _, rfl⟩
  | n + 25, h => exact absurd (show n + 25 < 25 from h) (by omega)

/-- The inner products, pair by pair: column `c` of the gap `k + 1`. -/
theorem mlpIp_at (x : FVec Ideal S1024x416 .f32) (r : Fin 1024) (k c : ℕ) (hk : k < 25) (hc : c < 25 - k) (p : Fin 325) (hp : 25 * k - k * (k - 1) / 2 + c = p.val) :
    mlpIp x (ValueIdx.ix2 r p)
      = ∑ e : Fin 16, x (ValueIdx.ix2 r ⟨16 * c + e.val, by omega⟩) * x (ValueIdx.ix2 r ⟨16 * c + e.val + 16 * (k + 1), by omega⟩) := by
  obtain ⟨xs, h, e, hl, hs, hx⟩ := mlpIp_pieces x
  obtain ⟨hs0, hs1, h0, h1, hxk⟩ := hx k (by omega)
  have hpre := gap_pre ⟨k, hk⟩
  rw [← hs, ← List.map_take] at hpre
  rw [e, concatenate_apply_piece 1 xs h (ValueIdx.ix2 r p) k (by omega) _ _ hxk rfl _ hpre (ValueIdx.ix2 r ⟨c, hc⟩) (fun b hb => by
    match b with
    | 0 => rfl
    | 1 => exact absurd rfl hb) (show 25 * k - k * (k - 1) / 2 + c = p.val from hp)]
  exact gapDot_at _ _ _ rfl (by omega) (by omega) x hs0 hs1 h0 h1 r ⟨c, hc⟩

/-- One sample's prediction from its row of embeddings, in the kernel's order: the inner products gap after gap. -/
def mlpRow (row : Fin 416 → EReal) (ip : Fin 325 → EReal) (w0 : S416x512.Idx → EReal) (w1 : S325x512.Idx → EReal) (w2 : S512x256.Idx → EReal) (w3 : S256x1.Idx → EReal)
    (b0 : S1x512.Idx → EReal) (b1 : S1x256.Idx → EReal) (b2 : S1x1.Idx → EReal) : EReal :=
  Ideal.logistic (∑ u : Fin 256, max (∑ t : Fin 512, max (∑ s : Fin 416, row s * w0 (ValueIdx.ix2 s t) + ∑ s : Fin 325, ip s * w1 (ValueIdx.ix2 s t) + b0 (ValueIdx.ix2 0 t)) 0
      * w2 (ValueIdx.ix2 t u) + b1 (ValueIdx.ix2 0 u)) 0 * w3 (ValueIdx.ix2 u 0) + b2 (ValueIdx.ix2 0 0))

/-- The dense call's block, row by row. -/
theorem mlpVal_at (x : Vec Ideal S1024x512 .f32) (w0 : Vec Ideal S416x512 .f32) (w1 : Vec Ideal S325x512 .f32) (w2 : Vec Ideal S512x256 .f32) (w3 : Vec Ideal S256x1 .f32)
    (b0 : Vec Ideal S1x512 .f32) (b1 : Vec Ideal S1x256 .f32) (b2 : Vec Ideal S1x1 .f32) (r : Fin 1024) :
    mlpVal (F := Ideal) x w0 w1 w2 w3 b0 b1 b2 (ValueIdx.ix2 r 0)
      = mlpRow (fun s => x (ValueIdx.ix2 r ⟨s.val, by omega⟩)) (fun s => mlpIp (F := Ideal) (extractStridedSlice S1024x416 ![0, 0] x slices_S1024x512_o0_0_S1024x416) (ValueIdx.ix2 r s)) w0 w1 w2 w3 b0 b1 b2 := by
  unfold mlpVal mlpRow
  generalize mlpIp (F := Ideal) = ip
  pointwise
  simp only [ix2_eq_valueIdx]

end Cert.Proof.GatherIdeal

end
-- ==== Proof.MRegs.lean ====
/-
  What the dense calls leave: each sample's prediction.
-/
module

public import proofs.«01_k».proof.Proof.MMlp

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The block of samples the sample `i` lies in, and its place there. -/
def rowsOf (g : S4096x512.Idx → EReal) (i : Fin 4096) : S1024x512.Idx → EReal := fun y =>
  g (ValueIdx.ix2 ⟨i.val / 1024 * 1024 + (y 0).val, by have := i.isLt; have : (y 0).val < 1024 := (y 0).isLt; omega⟩ (y 1))
def inBlk (i : Fin 4096) : Fin 1024 := ⟨i.val % 1024, Nat.mod_lt _ (by decide)⟩

variable (d : Dev nD)

theorem ib2_0 : ∀ t : Fin cfg2.grid.N, win2_0.index t = ![t.val, 0] := by decide +kernel
theorem ib2_8 : ∀ t : Fin cfg2.grid.N, win2_8.index t = ![t.val, 0] := by decide +kernel
theorem ib2_1 : ∀ t : Fin cfg2.grid.N, win2_1.index t = ![0, 0] := by decide +kernel
theorem ib2_2 : ∀ t : Fin cfg2.grid.N, win2_2.index t = ![0, 0] := by decide +kernel
theorem ib2_3 : ∀ t : Fin cfg2.grid.N, win2_3.index t = ![0, 0] := by decide +kernel
theorem ib2_4 : ∀ t : Fin cfg2.grid.N, win2_4.index t = ![0, 0] := by decide +kernel
theorem ib2_5 : ∀ t : Fin cfg2.grid.N, win2_5.index t = ![0, 0] := by decide +kernel
theorem ib2_6 : ∀ t : Fin cfg2.grid.N, win2_6.index t = ![0, 0] := by decide +kernel
theorem ib2_7 : ∀ t : Fin cfg2.grid.N, win2_7.index t = ![0, 0] := by decide +kernel

set_option maxHeartbeats 1000000 in
attribute [local irreducible] mlpOut in
theorem v33_eq (U : Dev nD → Valuation τ sig (Elt Ideal)) : stepR 1 1 U d (Proc.devRef .tc main_v33)
    = fun j : S4096x1.Idx => mlpOut (F := Ideal) (rowsOf (U d (Proc.devRef .tc main_v32)) (j 0))
        (U d (Proc.devRef .tc main_v18)) (U d (Proc.devRef .tc main_v26)) (U d (Proc.devRef .tc main_arg4)) (U d (Proc.devRef .tc main_arg6)) (U d (Proc.devRef .tc main_v27)) (U d (Proc.devRef .tc main_v28)) (U d (Proc.devRef .tc main_v29))
        (ValueIdx.ix2 (inBlk (j 0)) 0) := by
  refine (Pipeline.afterRegion_arr (pdats U 1 1 d) (U d) (launch2.toP : Pipeline.PLaunchFacts (nD := nD) (τ := τ) (pcfgs (F := Ideal)) 1).win.arr_inj 8).trans ?_
  refine (mkDat cfg2 d 1 (U d) (after2 (U d))).arrAt_eq_of_covers 8 _ (by decide +kernel) fun t hf y => ?_
  blk_simp
  show mlpOut (blkOf cfg2 (U d) 0 t) (blkOf cfg2 (U d) 1 t) (blkOf cfg2 (U d) 2 t) (blkOf cfg2 (U d) 3 t) (blkOf cfg2 (U d) 4 t) (blkOf cfg2 (U d) 5 t) (blkOf cfg2 (U d) 6 t) (blkOf cfg2 (U d) 7 t) y = _
  have i0 := ib2_0 t
  have i8 := ib2_8 t
  have y1 : (y 1).val < 1 := (y 1).isLt
  have y0 : (y 0).val < 1024 := (y 0).isLt
  have c0 : ((win2_8.blk t).view.emb y 0).val = t.val * 1024 + (y 0).val := by blk_simp [i8]
  generalize (win2_8.blk t).view.emb y = w at c0 ⊢
  have e0 : blkOf cfg2 (U d) 0 t = rowsOf (U d (Proc.devRef .tc main_v32)) (w 0) := funext fun z => by
    have z0 : (z 0).val < 1024 := (z 0).isLt
    unfold blkOf rowsOf
    blk_ext [i0]
  have e1 : blkOf cfg2 (U d) 1 t = (U d (Proc.devRef .tc main_v18) : S416x512.Idx → EReal) := funext fun z => by
    have i1 := ib2_1 t
    unfold blkOf
    blk_ext [i1]
  have e2 : blkOf cfg2 (U d) 2 t = (U d (Proc.devRef .tc main_v26) : S325x512.Idx → EReal) := funext fun z => by
    have i2 := ib2_2 t
    unfold blkOf
    blk_ext [i2]
  have e3 : blkOf cfg2 (U d) 3 t = (U d (Proc.devRef .tc main_arg4) : S512x256.Idx → EReal) := funext fun z => by
    have i3 := ib2_3 t
    unfold blkOf
    blk_ext [i3]
  have e4 : blkOf cfg2 (U d) 4 t = (U d (Proc.devRef .tc main_arg6) : S256x1.Idx → EReal) := funext fun z => by
    have i4 := ib2_4 t
    unfold blkOf
    blk_ext [i4]
  have e5 : blkOf cfg2 (U d) 5 t = (U d (Proc.devRef .tc main_v27) : S1x512.Idx → EReal) := funext fun z => by
    have i5 := ib2_5 t
    unfold blkOf
    blk_ext [i5]
  have e6 : blkOf cfg2 (U d) 6 t = (U d (Proc.devRef .tc main_v28) : S1x256.Idx → EReal) := funext fun z => by
    have i6 := ib2_6 t
    unfold blkOf
    blk_ext [i6]
  have e7 : blkOf cfg2 (U d) 7 t = (U d (Proc.devRef .tc main_v29) : S1x1.Idx → EReal) := funext fun z => by
    have i7 := ib2_7 t
    unfold blkOf
    blk_ext [i7]
  rw [e0, e1, e2, e3, e4, e5, e6, e7]
  refine congrArg _ (funext fun a => ?_)
  match a with
  | 0 => exact Fin.ext (show (y 0).val = (w 0).val % 1024 by omega)
  | 1 => exact Fin.ext (show (y 1).val = 0 by omega)

theorem ib4_0 : ∀ t : Fin cfg4.grid.N, win4_0.index t = ![t.val, 0] := by decide +kernel
theorem ib4_8 : ∀ t : Fin cfg4.grid.N, win4_8.index t = ![t.val, 0] := by decide +kernel
theorem ib4_1 : ∀ t : Fin cfg4.grid.N, win4_1.index t = ![0, 0] := by decide +kernel
theorem ib4_2 : ∀ t : Fin cfg4.grid.N, win4_2.index t = ![0, 0] := by decide +kernel
theorem ib4_3 : ∀ t : Fin cfg4.grid.N, win4_3.index t = ![0, 0] := by decide +kernel
theorem ib4_4 : ∀ t : Fin cfg4.grid.N, win4_4.index t = ![0, 0] := by decide +kernel
theorem ib4_5 : ∀ t : Fin cfg4.grid.N, win4_5.index t = ![0, 0] := by decide +kernel
theorem ib4_6 : ∀ t : Fin cfg4.grid.N, win4_6.index t = ![0, 0] := by decide +kernel
theorem ib4_7 : ∀ t : Fin cfg4.grid.N, win4_7.index t = ![0, 0] := by decide +kernel

set_option maxHeartbeats 1000000 in
attribute [local irreducible] mlpOut in
theorem v37_eq (U : Dev nD → Valuation τ sig (Elt Ideal)) : stepR 2 2 U d (Proc.devRef .tc main_v37)
    = fun j : S4096x1.Idx => mlpOut (F := Ideal) (rowsOf (U d (Proc.devRef .tc main_v36)) (j 0))
        (U d (Proc.devRef .tc main_v18)) (U d (Proc.devRef .tc main_v26)) (U d (Proc.devRef .tc main_arg4)) (U d (Proc.devRef .tc main_arg6)) (U d (Proc.devRef .tc main_v27)) (U d (Proc.devRef .tc main_v28)) (U d (Proc.devRef .tc main_v29))
        (ValueIdx.ix2 (inBlk (j 0)) 0) := by
  refine (Pipeline.afterRegion_arr (pdats U 2 2 d) (U d) (launch4.toP : Pipeline.PLaunchFacts (nD := nD) (τ := τ) (pcfgs (F := Ideal)) 2).win.arr_inj 8).trans ?_
  refine (mkDat cfg4 d 2 (U d) (after4 (U d))).arrAt_eq_of_covers 8 _ (by decide +kernel) fun t hf y => ?_
  blk_simp
  show mlpOut (blkOf cfg4 (U d) 0 t) (blkOf cfg4 (U d) 1 t) (blkOf cfg4 (U d) 2 t) (blkOf cfg4 (U d) 3 t) (blkOf cfg4 (U d) 4 t) (blkOf cfg4 (U d) 5 t) (blkOf cfg4 (U d) 6 t) (blkOf cfg4 (U d) 7 t) y = _
  have i0 := ib4_0 t
  have i8 := ib4_8 t
  have y1 : (y 1).val < 1 := (y 1).isLt
  have y0 : (y 0).val < 1024 := (y 0).isLt
  have c0 : ((win4_8.blk t).view.emb y 0).val = t.val * 1024 + (y 0).val := by blk_simp [i8]
  generalize (win4_8.blk t).view.emb y = w at c0 ⊢
  have e0 : blkOf cfg4 (U d) 0 t = rowsOf (U d (Proc.devRef .tc main_v36)) (w 0) := funext fun z => by
    have z0 : (z 0).val < 1024 := (z 0).isLt
    unfold blkOf rowsOf
    blk_ext [i0]
  have e1 : blkOf cfg4 (U d) 1 t = (U d (Proc.devRef .tc main_v18) : S416x512.Idx → EReal) := funext fun z => by
    have i1 := ib4_1 t
    unfold blkOf
    blk_ext [i1]
  have e2 : blkOf cfg4 (U d) 2 t = (U d (Proc.devRef .tc main_v26) : S325x512.Idx → EReal) := funext fun z => by
    have i2 := ib4_2 t
    unfold blkOf
    blk_ext [i2]
  have e3 : blkOf cfg4 (U d) 3 t = (U d (Proc.devRef .tc main_arg4) : S512x256.Idx → EReal) := funext fun z => by
    have i3 := ib4_3 t
    unfold blkOf
    blk_ext [i3]
  have e4 : blkOf cfg4 (U d) 4 t = (U d (Proc.devRef .tc main_arg6) : S256x1.Idx → EReal) := funext fun z => by
    have i4 := ib4_4 t
    unfold blkOf
    blk_ext [i4]
  have e5 : blkOf cfg4 (U d) 5 t = (U d (Proc.devRef .tc main_v27) : S1x512.Idx → EReal) := funext fun z => by
    have i5 := ib4_5 t
    unfold blkOf
    blk_ext [i5]
  have e6 : blkOf cfg4 (U d) 6 t = (U d (Proc.devRef .tc main_v28) : S1x256.Idx → EReal) := funext fun z => by
    have i6 := ib4_6 t
    unfold blkOf
    blk_ext [i6]
  have e7 : blkOf cfg4 (U d) 7 t = (U d (Proc.devRef .tc main_v29) : S1x1.Idx → EReal) := funext fun z => by
    have i7 := ib4_7 t
    unfold blkOf
    blk_ext [i7]
  rw [e0, e1, e2, e3, e4, e5, e6, e7]
  refine congrArg _ (funext fun a => ?_)
  match a with
  | 0 => exact Fin.ext (show (y 0).val = (w 0).val % 1024 by omega)
  | 1 => exact Fin.ext (show (y 1).val = 0 by omega)

theorem ib6_0 : ∀ t : Fin cfg6.grid.N, win6_0.index t = ![t.val, 0] := by decide +kernel
theorem ib6_8 : ∀ t : Fin cfg6.grid.N, win6_8.index t = ![t.val, 0] := by decide +kernel
theorem ib6_1 : ∀ t : Fin cfg6.grid.N, win6_1.index t = ![0, 0] := by decide +kernel
theorem ib6_2 : ∀ t : Fin cfg6.grid.N, win6_2.index t = ![0, 0] := by decide +kernel
theorem ib6_3 : ∀ t : Fin cfg6.grid.N, win6_3.index t = ![0, 0] := by decide +kernel
theorem ib6_4 : ∀ t : Fin cfg6.grid.N, win6_4.index t = ![0, 0] := by decide +kernel
theorem ib6_5 : ∀ t : Fin cfg6.grid.N, win6_5.index t = ![0, 0] := by decide +kernel
theorem ib6_6 : ∀ t : Fin cfg6.grid.N, win6_6.index t = ![0, 0] := by decide +kernel
theorem ib6_7 : ∀ t : Fin cfg6.grid.N, win6_7.index t = ![0, 0] := by decide +kernel

set_option maxHeartbeats 1000000 in
attribute [local irreducible] mlpOut in
theorem v41_eq (U : Dev nD → Valuation τ sig (Elt Ideal)) : stepR 3 3 U d (Proc.devRef .tc main_v41)
    = fun j : S4096x1.Idx => mlpOut (F := Ideal) (rowsOf (U d (Proc.devRef .tc main_v40)) (j 0))
        (U d (Proc.devRef .tc main_v18)) (U d (Proc.devRef .tc main_v26)) (U d (Proc.devRef .tc main_arg4)) (U d (Proc.devRef .tc main_arg6)) (U d (Proc.devRef .tc main_v27)) (U d (Proc.devRef .tc main_v28)) (U d (Proc.devRef .tc main_v29))
        (ValueIdx.ix2 (inBlk (j 0)) 0) := by
  refine (Pipeline.afterRegion_arr (pdats U 3 3 d) (U d) (launch6.toP : Pipeline.PLaunchFacts (nD := nD) (τ := τ) (pcfgs (F := Ideal)) 3).win.arr_inj 8).trans ?_
  refine (mkDat cfg6 d 3 (U d) (after6 (U d))).arrAt_eq_of_covers 8 _ (by decide +kernel) fun t hf y => ?_
  blk_simp
  show mlpOut (blkOf cfg6 (U d) 0 t) (blkOf cfg6 (U d) 1 t) (blkOf cfg6 (U d) 2 t) (blkOf cfg6 (U d) 3 t) (blkOf cfg6 (U d) 4 t) (blkOf cfg6 (U d) 5 t) (blkOf cfg6 (U d) 6 t) (blkOf cfg6 (U d) 7 t) y = _
  have i0 := ib6_0 t
  have i8 := ib6_8 t
  have y1 : (y 1).val < 1 := (y 1).isLt
  have y0 : (y 0).val < 1024 := (y 0).isLt
  have c0 : ((win6_8.blk t).view.emb y 0).val = t.val * 1024 + (y 0).val := by blk_simp [i8]
  generalize (win6_8.blk t).view.emb y = w at c0 ⊢
  have e0 : blkOf cfg6 (U d) 0 t = rowsOf (U d (Proc.devRef .tc main_v40)) (w 0) := funext fun z => by
    have z0 : (z 0).val < 1024 := (z 0).isLt
    unfold blkOf rowsOf
    blk_ext [i0]
  have e1 : blkOf cfg6 (U d) 1 t = (U d (Proc.devRef .tc main_v18) : S416x512.Idx → EReal) := funext fun z => by
    have i1 := ib6_1 t
    unfold blkOf
    blk_ext [i1]
  have e2 : blkOf cfg6 (U d) 2 t = (U d (Proc.devRef .tc main_v26) : S325x512.Idx → EReal) := funext fun z => by
    have i2 := ib6_2 t
    unfold blkOf
    blk_ext [i2]
  have e3 : blkOf cfg6 (U d) 3 t = (U d (Proc.devRef .tc main_arg4) : S512x256.Idx → EReal) := funext fun z => by
    have i3 := ib6_3 t
    unfold blkOf
    blk_ext [i3]
  have e4 : blkOf cfg6 (U d) 4 t = (U d (Proc.devRef .tc main_arg6) : S256x1.Idx → EReal) := funext fun z => by
    have i4 := ib6_4 t
    unfold blkOf
    blk_ext [i4]
  have e5 : blkOf cfg6 (U d) 5 t = (U d (Proc.devRef .tc main_v27) : S1x512.Idx → EReal) := funext fun z => by
    have i5 := ib6_5 t
    unfold blkOf
    blk_ext [i5]
  have e6 : blkOf cfg6 (U d) 6 t = (U d (Proc.devRef .tc main_v28) : S1x256.Idx → EReal) := funext fun z => by
    have i6 := ib6_6 t
    unfold blkOf
    blk_ext [i6]
  have e7 : blkOf cfg6 (U d) 7 t = (U d (Proc.devRef .tc main_v29) : S1x1.Idx → EReal) := funext fun z => by
    have i7 := ib6_7 t
    unfold blkOf
    blk_ext [i7]
  rw [e0, e1, e2, e3, e4, e5, e6, e7]
  refine congrArg _ (funext fun a => ?_)
  match a with
  | 0 => exact Fin.ext (show (y 0).val = (w 0).val % 1024 by omega)
  | 1 => exact Fin.ext (show (y 1).val = 0 by omega)

theorem ib8_0 : ∀ t : Fin cfg8.grid.N, win8_0.index t = ![t.val, 0] := by decide +kernel
theorem ib8_8 : ∀ t : Fin cfg8.grid.N, win8_8.index t = ![t.val, 0] := by decide +kernel
theorem ib8_1 : ∀ t : Fin cfg8.grid.N, win8_1.index t = ![0, 0] := by decide +kernel
theorem ib8_2 : ∀ t : Fin cfg8.grid.N, win8_2.index t = ![0, 0] := by decide +kernel
theorem ib8_3 : ∀ t : Fin cfg8.grid.N, win8_3.index t = ![0, 0] := by decide +kernel
theorem ib8_4 : ∀ t : Fin cfg8.grid.N, win8_4.index t = ![0, 0] := by decide +kernel
theorem ib8_5 : ∀ t : Fin cfg8.grid.N, win8_5.index t = ![0, 0] := by decide +kernel
theorem ib8_6 : ∀ t : Fin cfg8.grid.N, win8_6.index t = ![0, 0] := by decide +kernel
theorem ib8_7 : ∀ t : Fin cfg8.grid.N, win8_7.index t = ![0, 0] := by decide +kernel

set_option maxHeartbeats 1000000 in
attribute [local irreducible] mlpOut in
theorem v45_eq (U : Dev nD → Valuation τ sig (Elt Ideal)) : stepR 4 4 U d (Proc.devRef .tc main_v45)
    = fun j : S4096x1.Idx => mlpOut (F := Ideal) (rowsOf (U d (Proc.devRef .tc main_v44)) (j 0))
        (U d (Proc.devRef .tc main_v18)) (U d (Proc.devRef .tc main_v26)) (U d (Proc.devRef .tc main_arg4)) (U d (Proc.devRef .tc main_arg6)) (U d (Proc.devRef .tc main_v27)) (U d (Proc.devRef .tc main_v28)) (U d (Proc.devRef .tc main_v29))
        (ValueIdx.ix2 (inBlk (j 0)) 0) := by
  refine (Pipeline.afterRegion_arr (pdats U 4 4 d) (U d) (launch8.toP : Pipeline.PLaunchFacts (nD := nD) (τ := τ) (pcfgs (F := Ideal)) 4).win.arr_inj 8).trans ?_
  refine (mkDat cfg8 d 4 (U d) (after8 (U d))).arrAt_eq_of_covers 8 _ (by decide +kernel) fun t hf y => ?_
  blk_simp
  show mlpOut (blkOf cfg8 (U d) 0 t) (blkOf cfg8 (U d) 1 t) (blkOf cfg8 (U d) 2 t) (blkOf cfg8 (U d) 3 t) (blkOf cfg8 (U d) 4 t) (blkOf cfg8 (U d) 5 t) (blkOf cfg8 (U d) 6 t) (blkOf cfg8 (U d) 7 t) y = _
  have i0 := ib8_0 t
  have i8 := ib8_8 t
  have y1 : (y 1).val < 1 := (y 1).isLt
  have y0 : (y 0).val < 1024 := (y 0).isLt
  have c0 : ((win8_8.blk t).view.emb y 0).val = t.val * 1024 + (y 0).val := by blk_simp [i8]
  generalize (win8_8.blk t).view.emb y = w at c0 ⊢
  have e0 : blkOf cfg8 (U d) 0 t = rowsOf (U d (Proc.devRef .tc main_v44)) (w 0) := funext fun z => by
    have z0 : (z 0).val < 1024 := (z 0).isLt
    unfold blkOf rowsOf
    blk_ext [i0]
  have e1 : blkOf cfg8 (U d) 1 t = (U d (Proc.devRef .tc main_v18) : S416x512.Idx → EReal) := funext fun z => by
    have i1 := ib8_1 t
    unfold blkOf
    blk_ext [i1]
  have e2 : blkOf cfg8 (U d) 2 t = (U d (Proc.devRef .tc main_v26) : S325x512.Idx → EReal) := funext fun z => by
    have i2 := ib8_2 t
    unfold blkOf
    blk_ext [i2]
  have e3 : blkOf cfg8 (U d) 3 t = (U d (Proc.devRef .tc main_arg4) : S512x256.Idx → EReal) := funext fun z => by
    have i3 := ib8_3 t
    unfold blkOf
    blk_ext [i3]
  have e4 : blkOf cfg8 (U d) 4 t = (U d (Proc.devRef .tc main_arg6) : S256x1.Idx → EReal) := funext fun z => by
    have i4 := ib8_4 t
    unfold blkOf
    blk_ext [i4]
  have e5 : blkOf cfg8 (U d) 5 t = (U d (Proc.devRef .tc main_v27) : S1x512.Idx → EReal) := funext fun z => by
    have i5 := ib8_5 t
    unfold blkOf
    blk_ext [i5]
  have e6 : blkOf cfg8 (U d) 6 t = (U d (Proc.devRef .tc main_v28) : S1x256.Idx → EReal) := funext fun z => by
    have i6 := ib8_6 t
    unfold blkOf
    blk_ext [i6]
  have e7 : blkOf cfg8 (U d) 7 t = (U d (Proc.devRef .tc main_v29) : S1x1.Idx → EReal) := funext fun z => by
    have i7 := ib8_7 t
    unfold blkOf
    blk_ext [i7]
  rw [e0, e1, e2, e3, e4, e5, e6, e7]
  refine congrArg _ (funext fun a => ?_)
  match a with
  | 0 => exact Fin.ext (show (y 0).val = (w 0).val % 1024 by omega)
  | 1 => exact Fin.ext (show (y 1).val = 0 by omega)

end Cert.Proof.GatherIdeal

end
-- ==== Proof.MReg0.lean ====
/-
  What the first pipelined call leaves: the re-laid table.
-/
module

public import proofs.«01_k».proof.Proof.MTp

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

variable (m : (ℓ : Loc nD τ sig) → Buf (Elt F) ℓ) (d : Dev nD)

theorem blkAt0 : ∀ t : Fin cfg0.grid.N, win0_0.index t = ![t.val, 0, 0] := by decide +kernel
theorem blkAt1 : ∀ t : Fin cfg0.grid.N, win0_1.index t = ![t.val, 0, 0] := by decide +kernel

attribute [local irreducible] tpOut in
theorem v16_eq [∀ e, Nonempty (Elt F e)] (U : Dev nD → Valuation τ sig (Elt F)) : stepR 0 0 U d (Proc.devRef .tc main_v16)
    = fun j : S26x12544x128.Idx => tpOut (fun y => (U d (Proc.devRef .tc main_v15) : S26x16x100000.Idx → Elt F .f32) (ValueIdx.ix3 (j 0) (y 1) (y 2))) (ValueIdx.ix3 0 (j 1) (j 2)) := by
  refine (Pipeline.afterRegion_arr (pdats U 0 0 d) (U d) (launch0.toP : Pipeline.PLaunchFacts (nD := nD) (τ := τ) (pcfgs (F := F)) 0).win.arr_inj 1).trans ?_
  refine (mkDat cfg0 d 0 (U d) (after0 (U d))).arrAt_eq_of_covers 1 _ (by decide +kernel) fun t hf y => ?_
  blk_simp
  show tpOut (blkOf cfg0 (U d) 0 t) y = _
  have i0 := blkAt0 t
  have i1 := blkAt1 t
  have c0 : ((win0_1.blk t).view.emb y 0).val = t.val := by
    have : (y 0).val < 1 := (y 0).isLt
    blk_simp [i1]
  have c1 : ((win0_1.blk t).view.emb y 1).val = (y 1).val := by blk_simp [i1]
  have c2 : ((win0_1.blk t).view.emb y 2).val = (y 2).val := by blk_simp [i1]
  generalize (win0_1.blk t).view.emb y = w at c0 c1 c2 ⊢
  have e0 : ∀ z : S1x16x100000.Idx, blkOf cfg0 (U d) 0 t z
      = (U d (Proc.devRef .tc main_v15) : S26x16x100000.Idx → Elt F .f32) (ValueIdx.ix3 (w 0) (z 1) (z 2)) := fun z => by
    unfold blkOf
    blk_ext [i0]
    exact c0.symm
  rw [show blkOf cfg0 (U d) 0 t = _ from funext e0]
  refine congrArg _ ?_
  blk_ext [i1]
  · exact c1.symm
  · exact c2.symm

/-- The re-laid table's rows are the field tables' rows. -/
theorem tab_at [∀ e, Nonempty (Elt F e)] (f : Fin 26) (n : ℕ) (hn : n < 100000) (e : Fin 16) (R : S2609152x16.Idx) (h0 : (R 0).val = flatRow f.val n) (h1 : (R 1).val = e.val) :
    W3 m d (Proc.devRef .tc main_v17) R = (W0 m d (Proc.devRef .tc main_arg1) : S26x100000x16.Idx → Elt F .f32) (ValueIdx.ix3 f ⟨n, hn⟩ e) := by
  have hf : f.val < 26 := f.isLt
  have he : e.val < 16 := e.isLt
  unfold flatRow at h0
  have e1 : ∀ U : Valuation τ sig (Elt F), StableHlo.after (ops1 (F := F)) U (Proc.devRef .tc main_v17) R
      = (U (Proc.devRef .tc main_v16) : S26x12544x128.Idx → Elt F .f32) (ValueIdx.ix3 f ⟨n % 12544, by omega⟩ ⟨n / 12544 * 16 + e.val, by omega⟩) := by
    intro U
    unfold ops1
    after_reads_at
    have hq : (R 0).val / 8 = f.val * 12544 + n % 12544 := by omega
    exact congrArg _ (ix3c (by dsimp only; omega) (by dsimp only; rw [hq]; omega) (by dsimp only; omega))
  have e2 : ∀ (U : Valuation τ sig (Elt F)) (a : Fin 26) (b : Fin 16) (c : Fin 100000), (StableHlo.after (ops0 (F := F)) U (Proc.devRef .tc main_v15) : S26x16x100000.Idx → Elt F .f32) (ValueIdx.ix3 a b c)
      = (U (Proc.devRef .tc main_arg1) : S26x100000x16.Idx → Elt F .f32) (ValueIdx.ix3 a c b) := by
    intro U a b c
    unfold ops0
    after_reads_at
    exact congrArg _ (ix3c rfl rfl rfl)
  refine (e1 (W2 m d)).trans ((congrFun (v16_eq d (W1 m)) _).trans ?_)
  refine (tp_at _ _ (ValueIdx.ix3 0 e ⟨n, hn⟩) ?_ ?_).trans (e2 (W0 m d) _ _ _)
  · show e.val = (n / 12544 * 16 + e.val) % 16
    omega
  · show n = (n / 12544 * 16 + e.val) / 16 * 12544 + n % 12544
    omega

end Cert.Proof.GatherIdeal

end
-- ==== Proof.MRows.lean ====
/-
  The rows each dense call is given, as entries of the field tables.
-/
module

public import proofs.«01_k».proof.Proof.MReg0

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx nCalls) (Elt F) ℕ UU ℕ

variable (m : (ℓ : Loc nD τ sig) → Buf (Elt F) ℓ) (d : Dev nD)

/-- Entry `e` of the row of field `f`'s table that sample `b` names. -/
def rowOf (b : Fin 16384) (f : Fin 26) (e : Fin 16) : Elt F .f32 :=
  (W0 m d (Proc.devRef .tc main_arg1) : S26x100000x16.Idx → Elt F .f32) (ValueIdx.ix3 f ⟨cat m d b f % 100000, Nat.mod_lt _ (by decide)⟩ e)

variable (hin : ∀ b f, cat m d b f < 100000)

include hin in
theorem gath_at [∀ e, Nonempty (Elt F e)] {T : S2609152x16.Idx → Elt F .f32} {I : S1x131072.Idx → Elt F .i32} (hT : T = W3 m d (Proc.devRef .tc main_v17)) (b : Fin 16384) (c : Fin 32) (i : S131072x16.Idx)
    (hI : ∀ j : S1x131072.Idx, (j 1).val = (i 0).val → I j = BitVec.ofNat 32 (flatRow (colF c).val (cat m d b (colF c)))) :
    gathered T I i = rowOf m d b (colF c) (i 1) := by
  have hl := list_lt m d hin b c
  unfold gathered
  subst hT
  refine (tab_at m d (colF c) (cat m d b (colF c)) (hin b (colF c)) (i 1) _ ?_ rfl).trans ?_
  · show BitVec.toNat _ % 2609152 = _
    rw [hI _ rfl, BitVec.toNat_ofNat, Nat.mod_eq_of_lt (show flatRow (colF c).val (cat m d b (colF c)) < 2 ^ 32 by omega), Nat.mod_eq_of_lt hl]
  · unfold rowOf
    refine congrArg _ (congrArg (fun z => ValueIdx.ix3 (colF c) z (i 1)) (Fin.ext (Nat.mod_eq_of_lt (hin b (colF c))).symm))

include hin in
theorem x1_at [∀ e, Nonempty (Elt F e)] (b : Fin 4096) (f : Fin 26) (e : Fin 16) :
    (W5 m d (Proc.devRef .tc main_v32) : S4096x512.Idx → Elt F .f32) (ValueIdx.ix2 b ⟨16 * f.val + e.val, by omega⟩) = rowOf m d ⟨0 + b.val, by omega⟩ f e := by
  have e1 : ∀ U : Valuation τ sig (Elt F), (StableHlo.after (ops2 (F := F)) U (Proc.devRef .tc main_v32) : S4096x512.Idx → Elt F .f32) (ValueIdx.ix2 b ⟨16 * f.val + e.val, by omega⟩)
      = (U (Proc.devRef .tc main_v31) : S131072x16.Idx → Elt F .f32) (ValueIdx.ix2 ⟨32 * b.val + f.val, by omega⟩ e) := by
    intro U
    unfold ops2
    after_reads_at
    refine congrArg _ (ix2c ?_ ?_)
    · show b.val * 32 + (16 * f.val + e.val) / 16 = 32 * b.val + f.val
      omega
    · show (16 * f.val + e.val) % 16 = e.val
      omega
  have e2 : W4 m d (Proc.devRef .tc main_v31) = gathered (W3 m d (Proc.devRef .tc main_v17)) (W3 m d (Proc.devRef .tc main_v30)) := by
    show StableHlo.after [gop1] _ _ = _
    rw [StableHlo.after_cons, StableHlo.after_nil]
    exact StableHlo.binary_result _ _ _ _ _ _ _ _
  have hc : colF ⟨f.val, by omega⟩ = f := Fin.ext (if_pos f.isLt)
  refine (e1 (W4 m d)).trans ((congrFun e2 _).trans ((gath_at m d hin rfl ⟨0 + b.val, by omega⟩ ⟨f.val, by omega⟩ _ fun j hj => idx1_at m d hin b _ j hj).trans ?_))
  rw [hc]

include hin in
theorem x3_at [∀ e, Nonempty (Elt F e)] (b : Fin 4096) (f : Fin 26) (e : Fin 16) :
    (W9 m d (Proc.devRef .tc main_v36) : S4096x512.Idx → Elt F .f32) (ValueIdx.ix2 b ⟨16 * f.val + e.val, by omega⟩) = rowOf m d ⟨4096 + b.val, by omega⟩ f e := by
  have e1 : ∀ U : Valuation τ sig (Elt F), (StableHlo.after (ops4 (F := F)) U (Proc.devRef .tc main_v36) : S4096x512.Idx → Elt F .f32) (ValueIdx.ix2 b ⟨16 * f.val + e.val, by omega⟩)
      = (U (Proc.devRef .tc main_v35) : S131072x16.Idx → Elt F .f32) (ValueIdx.ix2 ⟨32 * b.val + f.val, by omega⟩ e) := by
    intro U
    unfold ops4
    after_reads_at
    refine congrArg _ (ix2c ?_ ?_)
    · show b.val * 32 + (16 * f.val + e.val) / 16 = 32 * b.val + f.val
      omega
    · show (16 * f.val + e.val) % 16 = e.val
      omega
  have e2 : W8 m d (Proc.devRef .tc main_v35) = gathered (W7 m d (Proc.devRef .tc main_v17)) (W7 m d (Proc.devRef .tc main_v34)) := by
    show StableHlo.after [gop3] _ _ = _
    rw [StableHlo.after_cons, StableHlo.after_nil]
    exact StableHlo.binary_result _ _ _ _ _ _ _ _
  have hc : colF ⟨f.val, by omega⟩ = f := Fin.ext (if_pos f.isLt)
  refine (e1 (W8 m d)).trans ((congrFun e2 _).trans ((gath_at m d hin (late7 m d (by decide)) ⟨4096 + b.val, by omega⟩ ⟨f.val, by omega⟩ _ fun j hj => idx3_at m d hin b _ j hj).trans ?_))
  rw [hc]

include hin in
theorem x5_at [∀ e, Nonempty (Elt F e)] (b : Fin 4096) (f : Fin 26) (e : Fin 16) :
    (W13 m d (Proc.devRef .tc main_v40) : S4096x512.Idx → Elt F .f32) (ValueIdx.ix2 b ⟨16 * f.val + e.val, by omega⟩) = rowOf m d ⟨8192 + b.val, by omega⟩ f e := by
  have e1 : ∀ U : Valuation τ sig (Elt F), (StableHlo.after (ops6 (F := F)) U (Proc.devRef .tc main_v40) : S4096x512.Idx → Elt F .f32) (ValueIdx.ix2 b ⟨16 * f.val + e.val, by omega⟩)
      = (U (Proc.devRef .tc main_v39) : S131072x16.Idx → Elt F .f32) (ValueIdx.ix2 ⟨32 * b.val + f.val, by omega⟩ e) := by
    intro U
    unfold ops6
    after_reads_at
    refine congrArg _ (ix2c ?_ ?_)
    · show b.val * 32 + (16 * f.val + e.val) / 16 = 32 * b.val + f.val
      omega
    · show (16 * f.val + e.val) % 16 = e.val
      omega
  have e2 : W12 m d (Proc.devRef .tc main_v39) = gathered (W11 m d (Proc.devRef .tc main_v17)) (W11 m d (Proc.devRef .tc main_v38)) := by
    show StableHlo.after [gop5] _ _ = _
    rw [StableHlo.after_cons, StableHlo.after_nil]
    exact StableHlo.binary_result _ _ _ _ _ _ _ _
  have hc : colF ⟨f.val, by omega⟩ = f := Fin.ext (if_pos f.isLt)
  refine (e1 (W12 m d)).trans ((congrFun e2 _).trans ((gath_at m d hin (late11 m d (by decide)) ⟨8192 + b.val, by omega⟩ ⟨f.val, by omega⟩ _ fun j hj => idx5_at m d hin b _ j hj).trans ?_))
  rw [hc]

include hin in
theorem x7_at [∀ e, Nonempty (Elt F e)] (b : Fin 4096) (f : Fin 26) (e : Fin 16) :
    (W17 m d (Proc.devRef .tc main_v44) : S4096x512.Idx → Elt F .f32) (ValueIdx.ix2 b ⟨16 * f.val + e.val, by omega⟩) = rowOf m d ⟨12288 + b.val, by omega⟩ f e := by
  have e1 : ∀ U : Valuation τ sig (Elt F), (StableHlo.after (ops8 (F := F)) U (Proc.devRef .tc main_v44) : S4096x512.Idx → Elt F .f32) (ValueIdx.ix2 b ⟨16 * f.val + e.val, by omega⟩)
      = (U (Proc.devRef .tc main_v43) : S131072x16.Idx → Elt F .f32) (ValueIdx.ix2 ⟨32 * b.val + f.val, by omega⟩ e) := by
    intro U
    unfold ops8
    after_reads_at
    refine congrArg _ (ix2c ?_ ?_)
    · show b.val * 32 + (16 * f.val + e.val) / 16 = 32 * b.val + f.val
      omega
    · show (16 * f.val + e.val) % 16 = e.val
      omega
  have e2 : W16 m d (Proc.devRef .tc main_v43) = gathered (W15 m d (Proc.devRef .tc main_v17)) (W15 m d (Proc.devRef .tc main_v42)) := by
    show StableHlo.after [gop7] _ _ = _
    rw [StableHlo.after_cons, StableHlo.after_nil]
    exact StableHlo.binary_result _ _ _ _ _ _ _ _
  have hc : colF ⟨f.val, by omega⟩ = f := Fin.ext (if_pos f.isLt)
  refine (e1 (W16 m d)).trans ((congrFun e2 _).trans ((gath_at m d hin (late15 m d (by decide)) ⟨12288 + b.val, by omega⟩ ⟨f.val, by omega⟩ _ fun j hj => idx7_at m d hin b _ j hj).trans ?_))
  rw [hc]

end Cert.Proof.GatherIdeal

end
-- ==== Proof.MWts.lean ====
/-
  The weights the dense calls read, from the launch's.
-/
module

public import proofs.«01_k».proof.Proof.MRows
public import Idealize.ShloMosaic.Lib.Routing.Ops

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (m : (ℓ : Loc nD τ sig) → Buf (Elt Ideal) ℓ) (d : Dev nD)

/-- The launch's weights. -/
def aW0 : S741x512.Idx → EReal := W0 m d (Proc.devRef .tc main_arg2)
def aB0 : S512.Idx → EReal := W0 m d (Proc.devRef .tc main_arg3)
def aW1 : S512x256.Idx → EReal := W0 m d (Proc.devRef .tc main_arg4)
def aB1 : S256.Idx → EReal := W0 m d (Proc.devRef .tc main_arg5)
def aW2 : S256x1.Idx → EReal := W0 m d (Proc.devRef .tc main_arg6)
def aB2 : S1.Idx → EReal := W0 m d (Proc.devRef .tc main_arg7)

/-- The pair of fields a column of the inner products stands for, in the reference's order. -/
def perm (p : Fin 325) : Fin 325 := ⟨(lit0 p).toNat % 325, Nat.mod_lt _ (by decide)⟩

theorem perm_word : ∀ p : Fin 325, (if IntOp.cmpi .slt (lit0 p) 0#32 = 1#1 then IntOp.addi (lit0 p) 325#32 else lit0 p) = BitVec.ofNat 32 (perm p).val := by
  decide +kernel

theorem wkeep (r : Ref sig .tc) (h1 : r ∉ wr1) (h0 : r ∉ wr0) : W2 m d (Proc.devRef .tc r) = W0 m d (Proc.devRef .tc r) :=
  (keep1 m d h1).trans (keep0 m d h0)

theorem v18_at (s : Fin 416) (t : Fin 512) : (W3 m d (Proc.devRef .tc main_v18) : S416x512.Idx → EReal) (ValueIdx.ix2 s t) = aW0 m d (ValueIdx.ix2 ⟨s.val, by omega⟩ t) := by
  have e1 : ∀ U : Valuation τ sig (Elt Ideal), (StableHlo.after (ops1 (F := Ideal)) U (Proc.devRef .tc main_v18) : S416x512.Idx → EReal) (ValueIdx.ix2 s t)
      = (U (Proc.devRef .tc main_arg2) : S741x512.Idx → EReal) (ValueIdx.ix2 ⟨s.val, by omega⟩ t) := by
    intro U
    unfold ops1
    after_reads_at
    exact congrArg _ (ix2c rfl rfl)
  exact (e1 _).trans (congrFun (wkeep m d main_arg2 (by decide) (by decide)) _)

theorem v27_at (t : Fin 512) : (W3 m d (Proc.devRef .tc main_v27) : S1x512.Idx → EReal) (ValueIdx.ix2 0 t) = aB0 m d (ValueIdx.ix1 t) := by
  have e1 : ∀ U : Valuation τ sig (Elt Ideal), (StableHlo.after (ops1 (F := Ideal)) U (Proc.devRef .tc main_v27) : S1x512.Idx → EReal) (ValueIdx.ix2 0 t)
      = (U (Proc.devRef .tc main_arg3) : S512.Idx → EReal) (ValueIdx.ix1 t) := by
    intro U
    unfold ops1
    after_reads_at
    exact congrArg _ (ix1_eq_valueIdx t)
  exact (e1 _).trans (congrFun (wkeep m d main_arg3 (by decide) (by decide)) _)

theorem v28_at (t : Fin 256) : (W3 m d (Proc.devRef .tc main_v28) : S1x256.Idx → EReal) (ValueIdx.ix2 0 t) = aB1 m d (ValueIdx.ix1 t) := by
  have e1 : ∀ U : Valuation τ sig (Elt Ideal), (StableHlo.after (ops1 (F := Ideal)) U (Proc.devRef .tc main_v28) : S1x256.Idx → EReal) (ValueIdx.ix2 0 t)
      = (U (Proc.devRef .tc main_arg5) : S256.Idx → EReal) (ValueIdx.ix1 t) := by
    intro U
    unfold ops1
    after_reads_at
    exact congrArg _ (ix1_eq_valueIdx t)
  exact (e1 _).trans (congrFun (wkeep m d main_arg5 (by decide) (by decide)) _)

theorem v29_at : (W3 m d (Proc.devRef .tc main_v29) : S1x1.Idx → EReal) (ValueIdx.ix2 0 0) = aB2 m d (ValueIdx.ix1 0) := by
  have e1 : ∀ U : Valuation τ sig (Elt Ideal), (StableHlo.after (ops1 (F := Ideal)) U (Proc.devRef .tc main_v29) : S1x1.Idx → EReal) (ValueIdx.ix2 0 0)
      = (U (Proc.devRef .tc main_arg7) : S1.Idx → EReal) (ValueIdx.ix1 0) := by
    intro U
    unfold ops1
    after_reads_at
    exact congrArg _ (ix1_eq_valueIdx 0)
  exact (e1 _).trans (congrFun (wkeep m d main_arg7 (by decide) (by decide)) _)

theorem perm_at (p : Fin 325) : (W1 m d (Proc.devRef .tc main_c) : S325.Idx → BitVec 32) (ValueIdx.ix1 p) = lit0 p := by
  have e1 : ∀ U : Valuation τ sig (Elt Ideal), (StableHlo.after (ops0 (F := Ideal)) U (Proc.devRef .tc main_c) : S325.Idx → BitVec 32) (ValueIdx.ix1 p) = lit0 p := by
    intro U
    unfold ops0
    after_reads_at
    exact congrArg lit0 (Fin.ext (Shape.rowMajor_val_one _))
  exact e1 _

theorem v26_at (p : Fin 325) (t : Fin 512) : (W3 m d (Proc.devRef .tc main_v26) : S325x512.Idx → EReal) (ValueIdx.ix2 p t) = aW0 m d (ValueIdx.ix2 ⟨416 + (perm p).val, by omega⟩ t) := by
  have e1 : ∀ U : Valuation τ sig (Elt Ideal), (U (Proc.devRef .tc main_c) : S325.Idx → BitVec 32) (ValueIdx.ix1 p) = lit0 p
      → (StableHlo.after (ops1 (F := Ideal)) U (Proc.devRef .tc main_v26) : S325x512.Idx → EReal) (ValueIdx.ix2 p t)
      = (U (Proc.devRef .tc main_arg2) : S741x512.Idx → EReal) (ValueIdx.ix2 ⟨416 + (perm p).val, by omega⟩ t) := by
    intro U hU
    unfold ops1
    after_reads_at
    refine (Routing.gather_row _ rfl rfl rfl rfl rfl _ _ p t (perm p) ?_ (by decide)).trans ?_
    · rw [← perm_word p, ← hU]
      pointwise
      rfl
    · pointwise
      exact congrArg _ (ix2c rfl rfl)
  exact (e1 _ ((congrFun (keep1 m d (r := main_c) (by decide)) _).trans (perm_at m d p))).trans (congrFun (wkeep m d main_arg2 (by decide) (by decide)) _)

end Cert.Proof.GatherIdeal

end
-- ==== Proof.MOut.lean ====
/-
  The predictions the program returns, from the launch's arrays.
-/
module

public import proofs.«01_k».proof.Proof.MRegs
public import proofs.«01_k».proof.Proof.MWts

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The gap of a column of the inner products, less one, and its field. -/
def gapOf (p : Fin 325) : ℕ := ((List.range 24).filter fun k => decide (25 * (k + 1) - (k + 1) * k / 2 ≤ p.val)).length
def fieldOf (p : Fin 325) : ℕ := p.val - (25 * gapOf p - gapOf p * (gapOf p - 1) / 2)

theorem gapOf_spec : ∀ p : Fin 325, gapOf p < 25 ∧ fieldOf p < 25 - gapOf p ∧ 25 * gapOf p - gapOf p * (gapOf p - 1) / 2 + fieldOf p = p.val := by
  decide +kernel

/-- The dense layers after the first, from the first's result. -/
def tailOf (z : Fin 512 → EReal) (w1 : S512x256.Idx → EReal) (b1 : S256.Idx → EReal) (w2 : S256x1.Idx → EReal) (b2 : S1.Idx → EReal) : EReal :=
  Ideal.logistic (∑ u : Fin 256, max (∑ t : Fin 512, max (z t) 0 * w1 (ValueIdx.ix2 t u) + b1 (ValueIdx.ix1 u)) 0 * w2 (ValueIdx.ix2 u 0) + b2 (ValueIdx.ix1 0))

/-- The first layer of a row of embeddings, its inner products in the kernel's order. -/
def firstOf (row : Fin 26 → Fin 16 → EReal) (w0 : S741x512.Idx → EReal) (b0 : S512.Idx → EReal) (t : Fin 512) : EReal :=
  ∑ s : Fin 416, row ⟨s.val / 16, by omega⟩ ⟨s.val % 16, by omega⟩ * w0 (ValueIdx.ix2 ⟨s.val, by omega⟩ t)
    + ∑ p : Fin 325, (∑ e : Fin 16, row ⟨fieldOf p, by have := gapOf_spec p; omega⟩ e * row ⟨fieldOf p + gapOf p + 1, by have := gapOf_spec p; omega⟩ e) * w0 (ValueIdx.ix2 ⟨416 + (perm p).val, by omega⟩ t)
    + b0 (ValueIdx.ix1 t)

/-- The dense call's value at a sample, its block read through the row of embeddings it holds and its weights through the launch's. -/
theorem mlpOut_at (row : Fin 26 → Fin 16 → EReal) (A0 : S741x512.Idx → EReal) (B0 : S512.Idx → EReal) (A1 : S512x256.Idx → EReal) (B1 : S256.Idx → EReal) (A2 : S256x1.Idx → EReal) (B2 : S1.Idx → EReal)
    (x0 : Vec Ideal S1024x512 .f32) (x1 : Vec Ideal S416x512 .f32) (x2 : Vec Ideal S325x512 .f32) (x3 : Vec Ideal S512x256 .f32) (x4 : Vec Ideal S256x1 .f32) (x5 : Vec Ideal S1x512 .f32) (x6 : Vec Ideal S1x256 .f32) (x7 : Vec Ideal S1x1 .f32) (r : Fin 1024)
    (h0 : ∀ (f : Fin 26) (e : Fin 16), x0 (ValueIdx.ix2 r ⟨16 * f.val + e.val, by omega⟩) = row f e)
    (h1 : ∀ s t, x1 (ValueIdx.ix2 s t) = A0 (ValueIdx.ix2 ⟨s.val, by omega⟩ t)) (h2 : ∀ p t, x2 (ValueIdx.ix2 p t) = A0 (ValueIdx.ix2 ⟨416 + (perm p).val, by omega⟩ t))
    (h3 : x3 = A1) (h4 : x4 = A2) (h5 : ∀ t, x5 (ValueIdx.ix2 0 t) = B0 (ValueIdx.ix1 t)) (h6 : ∀ t, x6 (ValueIdx.ix2 0 t) = B1 (ValueIdx.ix1 t)) (h7 : x7 (ValueIdx.ix2 0 0) = B2 (ValueIdx.ix1 0)) :
    mlpOut (F := Ideal) x0 x1 x2 x3 x4 x5 x6 x7 (ValueIdx.ix2 r 0) = tailOf (firstOf row A0 B0) A1 B1 A2 B2 := by
  have h0' : ∀ s : Fin 416, x0 (ValueIdx.ix2 r ⟨s.val, by omega⟩) = row ⟨s.val / 16, by omega⟩ ⟨s.val % 16, by omega⟩ := fun s => by
    rw [← h0]
    exact congrArg (fun c => x0 (ValueIdx.ix2 r c)) (Fin.ext (by show s.val = 16 * (s.val / 16) + s.val % 16; omega))
  have hip : ∀ p : Fin 325, mlpIp (F := Ideal) (extractStridedSlice S1024x416 ![0, 0] x0 slices_S1024x512_o0_0_S1024x416) (ValueIdx.ix2 r p)
      = ∑ e : Fin 16, row ⟨fieldOf p, by have := gapOf_spec p; omega⟩ e * row ⟨fieldOf p + gapOf p + 1, by have := gapOf_spec p; omega⟩ e := fun p => by
    obtain ⟨g0, g1, g2⟩ := gapOf_spec p
    refine (mlpIp_at _ r (gapOf p) (fieldOf p) g0 g1 p g2).trans (Finset.sum_congr rfl fun e _ => ?_)
    rw [← h0, ← h0]
    refine congrArg₂ (fun u v : EReal => u * v) (congrArg x0 (funext fun k => ?_)) (congrArg x0 (funext fun k => ?_))
    · match k with
      | 0 => exact Fin.ext (Nat.zero_add _)
      | 1 => exact Fin.ext (Nat.zero_add _)
    · match k with
      | 0 => exact Fin.ext (Nat.zero_add _)
      | 1 => exact Fin.ext (by show 0 + (16 * fieldOf p + e.val + 16 * (gapOf p + 1)) = 16 * (fieldOf p + gapOf p + 1) + e.val; omega)
  have hz : (![0, 0] : Fin 2 → ℕ) = fun _ => 0 := funext fun a => by fin_cases a <;> rfl
  unfold mlpOut
  rw [View.canon_unit_zero (funext fun a => by fin_cases a <;> rfl)]
  have l0 : View.ld x0 mr0 = x0 := View.ld_unit_zero hz _ x0
  have l1 : View.ld x1 mr1 = x1 := View.ld_unit_zero hz _ x1
  have l2 : View.ld x2 mr2 = x2 := View.ld_unit_zero hz _ x2
  have l3 : View.ld x3 mr4 = x3 := View.ld_unit_zero hz _ x3
  have l4 : View.ld x4 mr6 = x4 := View.ld_unit_zero hz _ x4
  have l5 : View.ld x5 mr3 = x5 := View.ld_unit_zero hz _ x5
  have l6 : View.ld x6 mr5 = x6 := View.ld_unit_zero hz _ x6
  have l7 : View.ld x7 mr7 = x7 := View.ld_unit_zero hz _ x7
  rw [l0, l1, l2, l3, l4, l5, l6, l7]
  refine (mlpVal_at x0 x1 x2 x3 x4 x5 x6 x7 r).trans ?_
  unfold mlpRow tailOf firstOf
  simp only [h0', hip, h1, h2, h3, h4, h5, h6, h7]

variable (m : (ℓ : Loc nD τ sig) → Buf (Elt Ideal) ℓ) (d : Dev nD) (hin : ∀ b f, cat m d b f < 100000)

/-- The prediction of the sample `b`. -/
def predOf (b : Fin 16384) : EReal :=
  tailOf (firstOf (rowOf m d b) (aW0 m d) (aB0 m d)) (aW1 m d) (aB1 m d) (aW2 m d) (aB2 m d)

include hin in
theorem quarter0 (b : Fin 4096) : (W6 m d (Proc.devRef .tc main_v33) : S4096x1.Idx → EReal) (ValueIdx.ix2 b 0) = predOf m d ⟨0 + b.val, by omega⟩ := by
  refine (congrFun (v33_eq d (W5 m)) _).trans (mlpOut_at (rowOf m d ⟨0 + b.val, by omega⟩) (aW0 m d) (aB0 m d) (aW1 m d) (aB1 m d) (aW2 m d) (aB2 m d) _ _ _ _ _ _ _ _ _ (fun f e => ?_) ?_ ?_ ?_ ?_ ?_ ?_ ?_)
  · refine Eq.trans ?_ (x1_at m d hin b f e)
    refine congrArg (W5 m d (Proc.devRef .tc main_v32) : S4096x512.Idx → EReal) (funext fun k => ?_)
    match k with
    | 0 => exact Fin.ext (show b.val / 1024 * 1024 + b.val % 1024 = b.val by omega)
    | 1 => rfl
  · rw [late5 m d (r := main_v18) (by decide)]; exact v18_at m d
  · rw [late5 m d (r := main_v26) (by decide)]; exact v26_at m d
  · exact ((late5 m d (r := main_arg4) (by decide)).trans ((keep2 m d (r := main_arg4) (by decide)).trans (wkeep m d main_arg4 (by decide) (by decide))))
  · exact ((late5 m d (r := main_arg6) (by decide)).trans ((keep2 m d (r := main_arg6) (by decide)).trans (wkeep m d main_arg6 (by decide) (by decide))))
  · rw [late5 m d (r := main_v27) (by decide)]; exact v27_at m d
  · rw [late5 m d (r := main_v28) (by decide)]; exact v28_at m d
  · rw [late5 m d (r := main_v29) (by decide)]; exact v29_at m d

include hin in
theorem quarter1 (b : Fin 4096) : (W10 m d (Proc.devRef .tc main_v37) : S4096x1.Idx → EReal) (ValueIdx.ix2 b 0) = predOf m d ⟨4096 + b.val, by omega⟩ := by
  refine (congrFun (v37_eq d (W9 m)) _).trans (mlpOut_at (rowOf m d ⟨4096 + b.val, by omega⟩) (aW0 m d) (aB0 m d) (aW1 m d) (aB1 m d) (aW2 m d) (aB2 m d) _ _ _ _ _ _ _ _ _ (fun f e => ?_) ?_ ?_ ?_ ?_ ?_ ?_ ?_)
  · refine Eq.trans ?_ (x3_at m d hin b f e)
    refine congrArg (W9 m d (Proc.devRef .tc main_v36) : S4096x512.Idx → EReal) (funext fun k => ?_)
    match k with
    | 0 => exact Fin.ext (show b.val / 1024 * 1024 + b.val % 1024 = b.val by omega)
    | 1 => rfl
  · rw [late9 m d (r := main_v18) (by decide)]; exact v18_at m d
  · rw [late9 m d (r := main_v26) (by decide)]; exact v26_at m d
  · exact ((late9 m d (r := main_arg4) (by decide)).trans ((keep2 m d (r := main_arg4) (by decide)).trans (wkeep m d main_arg4 (by decide) (by decide))))
  · exact ((late9 m d (r := main_arg6) (by decide)).trans ((keep2 m d (r := main_arg6) (by decide)).trans (wkeep m d main_arg6 (by decide) (by decide))))
  · rw [late9 m d (r := main_v27) (by decide)]; exact v27_at m d
  · rw [late9 m d (r := main_v28) (by decide)]; exact v28_at m d
  · rw [late9 m d (r := main_v29) (by decide)]; exact v29_at m d

include hin in
theorem quarter2 (b : Fin 4096) : (W14 m d (Proc.devRef .tc main_v41) : S4096x1.Idx → EReal) (ValueIdx.ix2 b 0) = predOf m d ⟨8192 + b.val, by omega⟩ := by
  refine (congrFun (v41_eq d (W13 m)) _).trans (mlpOut_at (rowOf m d ⟨8192 + b.val, by omega⟩) (aW0 m d) (aB0 m d) (aW1 m d) (aB1 m d) (aW2 m d) (aB2 m d) _ _ _ _ _ _ _ _ _ (fun f e => ?_) ?_ ?_ ?_ ?_ ?_ ?_ ?_)
  · refine Eq.trans ?_ (x5_at m d hin b f e)
    refine congrArg (W13 m d (Proc.devRef .tc main_v40) : S4096x512.Idx → EReal) (funext fun k => ?_)
    match k with
    | 0 => exact Fin.ext (show b.val / 1024 * 1024 + b.val % 1024 = b.val by omega)
    | 1 => rfl
  · rw [late13 m d (r := main_v18) (by decide)]; exact v18_at m d
  · rw [late13 m d (r := main_v26) (by decide)]; exact v26_at m d
  · exact ((late13 m d (r := main_arg4) (by decide)).trans ((keep2 m d (r := main_arg4) (by decide)).trans (wkeep m d main_arg4 (by decide) (by decide))))
  · exact ((late13 m d (r := main_arg6) (by decide)).trans ((keep2 m d (r := main_arg6) (by decide)).trans (wkeep m d main_arg6 (by decide) (by decide))))
  · rw [late13 m d (r := main_v27) (by decide)]; exact v27_at m d
  · rw [late13 m d (r := main_v28) (by decide)]; exact v28_at m d
  · rw [late13 m d (r := main_v29) (by decide)]; exact v29_at m d

include hin in
theorem quarter3 (b : Fin 4096) : (W18 m d (Proc.devRef .tc main_v45) : S4096x1.Idx → EReal) (ValueIdx.ix2 b 0) = predOf m d ⟨12288 + b.val, by omega⟩ := by
  refine (congrFun (v45_eq d (W17 m)) _).trans (mlpOut_at (rowOf m d ⟨12288 + b.val, by omega⟩) (aW0 m d) (aB0 m d) (aW1 m d) (aB1 m d) (aW2 m d) (aB2 m d) _ _ _ _ _ _ _ _ _ (fun f e => ?_) ?_ ?_ ?_ ?_ ?_ ?_ ?_)
  · refine Eq.trans ?_ (x7_at m d hin b f e)
    refine congrArg (W17 m d (Proc.devRef .tc main_v44) : S4096x512.Idx → EReal) (funext fun k => ?_)
    match k with
    | 0 => exact Fin.ext (show b.val / 1024 * 1024 + b.val % 1024 = b.val by omega)
    | 1 => rfl
  · rw [late17 m d (r := main_v18) (by decide)]; exact v18_at m d
  · rw [late17 m d (r := main_v26) (by decide)]; exact v26_at m d
  · exact ((late17 m d (r := main_arg4) (by decide)).trans ((keep2 m d (r := main_arg4) (by decide)).trans (wkeep m d main_arg4 (by decide) (by decide))))
  · exact ((late17 m d (r := main_arg6) (by decide)).trans ((keep2 m d (r := main_arg6) (by decide)).trans (wkeep m d main_arg6 (by decide) (by decide))))
  · rw [late17 m d (r := main_v27) (by decide)]; exact v27_at m d
  · rw [late17 m d (r := main_v28) (by decide)]; exact v28_at m d
  · rw [late17 m d (r := main_v29) (by decide)]; exact v29_at m d

end Cert.Proof.GatherIdeal

end
-- ==== Proof.MRes.lean ====
/-
  The result's array, sample by sample.
-/
module

public import proofs.«01_k».proof.Proof.MOut

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (m : (ℓ : Loc nD τ sig) → Buf (Elt Ideal) ℓ) (d : Dev nD) (hin : ∀ b f, cat m d b f < 100000)

set_option maxHeartbeats 2000000 in
theorem v47_at (U : Valuation τ sig (Elt Ideal)) (b : Fin 16384) : (StableHlo.after (ops9 (F := Ideal)) U (Proc.devRef .tc main_v47) : S16384.Idx → EReal) (ValueIdx.ix1 b)
    = if b.val < 4096 then (U (Proc.devRef .tc main_v33) : S4096x1.Idx → EReal) (ValueIdx.ix2 ⟨b.val % 4096, by omega⟩ 0)
      else if b.val < 8192 then (U (Proc.devRef .tc main_v37) : S4096x1.Idx → EReal) (ValueIdx.ix2 ⟨b.val % 4096, by omega⟩ 0)
      else if b.val < 12288 then (U (Proc.devRef .tc main_v41) : S4096x1.Idx → EReal) (ValueIdx.ix2 ⟨b.val % 4096, by omega⟩ 0)
      else (U (Proc.devRef .tc main_v45) : S4096x1.Idx → EReal) (ValueIdx.ix2 ⟨b.val % 4096, by omega⟩ 0) := by
  unfold ops9
  after_reads_at
  have hb := b.isLt
  have e : (ValueIdx.ix1 b 0).val = b.val := rfl
  by_cases h0 : b.val < 4096
  · rw [if_pos h0]
    split
    · after_reads_at; exact congrArg _ (ix2c (by dsimp only; omega) rfl)
    · omega
  rw [if_neg h0]
  by_cases h1 : b.val < 8192
  · rw [if_pos h1]
    split
    · omega
    split
    · after_reads_at; exact congrArg _ (ix2c (by dsimp only; omega) rfl)
    · omega
  rw [if_neg h1]
  by_cases h2 : b.val < 12288
  · rw [if_pos h2]
    split
    · omega
    split
    · omega
    split
    · after_reads_at; exact congrArg _ (ix2c (by dsimp only; omega) rfl)
    · omega
  rw [if_neg h2]
  split
  · omega
  split
  · omega
  split
  · omega
  after_reads_at; exact congrArg _ (ix2c (by dsimp only; omega) rfl)

theorem late33 : W18 m d (Proc.devRef .tc main_v33) = W6 m d (Proc.devRef .tc main_v33) :=
  (keep17 m d (by decide)).trans <| (keep16 m d (by decide)).trans <| (keep15 m d (by decide)).trans <| (keep14 m d (by decide)).trans <| (keep13 m d (by decide)).trans <| (keep12 m d (by decide)).trans <|
    (keep11 m d (by decide)).trans <| (keep10 m d (by decide)).trans <| (keep9 m d (by decide)).trans <| (keep8 m d (by decide)).trans <| (keep7 m d (by decide)).trans <| keep6 m d (by decide)

theorem late37 : W18 m d (Proc.devRef .tc main_v37) = W10 m d (Proc.devRef .tc main_v37) :=
  (keep17 m d (by decide)).trans <| (keep16 m d (by decide)).trans <| (keep15 m d (by decide)).trans <| (keep14 m d (by decide)).trans <| (keep13 m d (by decide)).trans <| (keep12 m d (by decide)).trans <|
    (keep11 m d (by decide)).trans <| keep10 m d (by decide)

theorem late41 : W18 m d (Proc.devRef .tc main_v41) = W14 m d (Proc.devRef .tc main_v41) :=
  (keep17 m d (by decide)).trans <| (keep16 m d (by decide)).trans <| (keep15 m d (by decide)).trans <| keep14 m d (by decide)

include hin in
/-- The program's result at a sample is its prediction. -/
theorem out_at (b : Fin 16384) : (W19 m d (Proc.devRef .tc main_v47) : S16384.Idx → EReal) (ValueIdx.ix1 b) = predOf m d b := by
  refine (v47_at (W18 m d) b).trans ?_
  have hb := b.isLt
  rw [late33, late37, late41]
  by_cases h0 : b.val < 4096
  · rw [if_pos h0, quarter0 m d hin]
    exact congrArg (predOf m d) (Fin.ext (show 0 + b.val % 4096 = b.val by omega))
  by_cases h1 : b.val < 8192
  · rw [if_neg h0, if_pos h1, quarter1 m d hin]
    exact congrArg (predOf m d) (Fin.ext (show 4096 + b.val % 4096 = b.val by omega))
  by_cases h2 : b.val < 12288
  · rw [if_neg h0, if_neg h1, if_pos h2, quarter2 m d hin]
    exact congrArg (predOf m d) (Fin.ext (show 8192 + b.val % 4096 = b.val by omega))
  · rw [if_neg h0, if_neg h1, if_neg h2, quarter3 m d hin]
    exact congrArg (predOf m d) (Fin.ext (show 12288 + b.val % 4096 = b.val by omega))

end Cert.Proof.GatherIdeal

end
-- ==== Proof.Ref.lean ====
/-
  The reference's run: its operations, one after another.
-/
module

public import proofs.«01_k».proof.Defs
public import Idealize.ShloMosaic.Lib.StableHlo.Run
public import Idealize.ShloMosaic.Lib.StableHlo.RunHlo
public import Idealize.ShloMosaic.Lib.Routing.Ops
public import proofs.«01_k».proof.Proof.Gen.ReferenceIdeal

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The embeddings and their inner products. -/
def opsA : List (HloOp τ sig (Elt F)) :=
  [ nullary main_c (fun i => lit0 (S325.rowMajor i)),
    nullary main_c_0 (fun i => lit1 (S325.rowMajor i)),
    unary main_arg0 main_call0_v0 ((transpose S26x16384 [1, 0] · transposes_S16384x26_S26x16384_1_0) : (⟨S16384x26, .i32⟩ : BufTy).Contents (Elt F) → (⟨S26x16384, .i32⟩ : BufTy).Contents (Elt F)),
    unary main_call0_v0 main_call0_v1 (broadcastInDim S26x16384x1 ![0, 1] bcast_S26x16384_S26x16384x1_0_1 : (⟨S26x16384, .i32⟩ : BufTy).Contents (Elt F) → (⟨S26x16384x1, .i32⟩ : BufTy).Contents (Elt F)),
    binary main_arg1 main_call0_v1 main_v0 ((fun x i => Host.gather gather_S26x100000x16_S26x16384x1_S26x16384x16_2_1_0_0_1_2_1116 x i) : (⟨S26x100000x16, .f32⟩ : BufTy).Contents (Elt F) → (⟨S26x16384x1, .i32⟩ : BufTy).Contents (Elt F) → (⟨S26x16384x16, .f32⟩ : BufTy).Contents (Elt F)),
    unary main_v0 main_v1 ((transpose S16384x26x16 [1, 0, 2] · transposes_S26x16384x16_S16384x26x16_1_0_2) : (⟨S26x16384x16, .f32⟩ : BufTy).Contents (Elt F) → (⟨S16384x26x16, .f32⟩ : BufTy).Contents (Elt F)),
    reshape main_v1 main_v2 (rfl : (.f32 : EltTy) = .f32) shapeCasts_S16384x26x16_S16384x416,
    unary main_c main_call1_v0 (broadcastInDim S325x1 ![0] bcast_S325_S325x1_0 : (⟨S325, .i32⟩ : BufTy).Contents (Elt F) → (⟨S325x1, .i32⟩ : BufTy).Contents (Elt F)),
    binary main_v1 main_call1_v0 main_v3 ((fun x i => Host.gather gather_S16384x26x16_S325x1_S16384x325x16_02_1_n_n_1_1_16384116 x i) : (⟨S16384x26x16, .f32⟩ : BufTy).Contents (Elt F) → (⟨S325x1, .i32⟩ : BufTy).Contents (Elt F) → (⟨S16384x325x16, .f32⟩ : BufTy).Contents (Elt F)),
    unary main_c_0 main_call2_v0 (broadcastInDim S325x1 ![0] bcast_S325_S325x1_0 : (⟨S325, .i32⟩ : BufTy).Contents (Elt F) → (⟨S325x1, .i32⟩ : BufTy).Contents (Elt F)),
    binary main_v1 main_call2_v0 main_v4 ((fun x i => Host.gather gather_S16384x26x16_S325x1_S16384x325x16_02_1_n_n_1_1_16384116 x i) : (⟨S16384x26x16, .f32⟩ : BufTy).Contents (Elt F) → (⟨S325x1, .i32⟩ : BufTy).Contents (Elt F) → (⟨S16384x325x16, .f32⟩ : BufTy).Contents (Elt F)),
    binary main_v3 main_v4 main_v5 (mulf : (⟨S16384x325x16, .f32⟩ : BufTy).Contents (Elt F) → (⟨S16384x325x16, .f32⟩ : BufTy).Contents (Elt F) → (⟨S16384x325x16, .f32⟩ : BufTy).Contents (Elt F)),
    nullary main_cst (constant S_ .f32 0x00000000#32),
    binary main_v5 main_cst main_v6 ((fun x v => Host.reduceAdd x v reducesTo_S16384x325x16_S16384x325_d2 h_S_) : (⟨S16384x325x16, .f32⟩ : BufTy).Contents (Elt F) → (⟨S_, .f32⟩ : BufTy).Contents (Elt F) → (⟨S16384x325, .f32⟩ : BufTy).Contents (Elt F)),
    binary main_v2 main_v6 main_v7 ((fun a b => concatenate S16384x741 1 [⟨S16384x416, a⟩, ⟨S16384x325, b⟩] concatenates_S16384x416_S16384x325_S16384x741_d1) : (⟨S16384x416, .f32⟩ : BufTy).Contents (Elt F) → (⟨S16384x325, .f32⟩ : BufTy).Contents (Elt F) → (⟨S16384x741, .f32⟩ : BufTy).Contents (Elt F)) ]

/-- The dense layers. -/
def opsB : List (HloOp τ sig (Elt F)) :=
  [ binary main_v7 main_arg2 main_v8 ((fun l r => Host.dotGeneral dot_S16384x741_S741x512_S16384x512_1_0_0_1_n_n none l r) : (⟨S16384x741, .f32⟩ : BufTy).Contents (Elt F) → (⟨S741x512, .f32⟩ : BufTy).Contents (Elt F) → (⟨S16384x512, .f32⟩ : BufTy).Contents (Elt F)),
    unary main_arg3 main_v9 (broadcastInDim S1x512 ![1] bcast_S512_S1x512_1 : (⟨S512, .f32⟩ : BufTy).Contents (Elt F) → (⟨S1x512, .f32⟩ : BufTy).Contents (Elt F)),
    unary main_v9 main_v10 (broadcastInDim S16384x512 ![0, 1] bcast_S1x512_S16384x512_0_1 : (⟨S1x512, .f32⟩ : BufTy).Contents (Elt F) → (⟨S16384x512, .f32⟩ : BufTy).Contents (Elt F)),
    binary main_v8 main_v10 main_v11 (addf : (⟨S16384x512, .f32⟩ : BufTy).Contents (Elt F) → (⟨S16384x512, .f32⟩ : BufTy).Contents (Elt F) → (⟨S16384x512, .f32⟩ : BufTy).Contents (Elt F)),
    nullary main_call3_cst (constant S_ .f32 0x00000000#32),
    unary main_call3_cst main_call3_v0 (broadcastInDim S16384x512 ![] bcast_S_S16384x512 : (⟨S_, .f32⟩ : BufTy).Contents (Elt F) → (⟨S16384x512, .f32⟩ : BufTy).Contents (Elt F)),
    binary main_v11 main_call3_v0 main_v12 (maximumf : (⟨S16384x512, .f32⟩ : BufTy).Contents (Elt F) → (⟨S16384x512, .f32⟩ : BufTy).Contents (Elt F) → (⟨S16384x512, .f32⟩ : BufTy).Contents (Elt F)),
    binary main_v12 main_arg4 main_v13 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg5 main_v14 (broadcastInDim S1x256 ![1] bcast_S256_S1x256_1 : (⟨S256, .f32⟩ : BufTy).Contents (Elt F) → (⟨S1x256, .f32⟩ : BufTy).Contents (Elt F)),
    unary main_v14 main_v15 (broadcastInDim S16384x256 ![0, 1] bcast_S1x256_S16384x256_0_1 : (⟨S1x256, .f32⟩ : BufTy).Contents (Elt F) → (⟨S16384x256, .f32⟩ : BufTy).Contents (Elt F)),
    binary main_v13 main_v15 main_v16 (addf : (⟨S16384x256, .f32⟩ : BufTy).Contents (Elt F) → (⟨S16384x256, .f32⟩ : BufTy).Contents (Elt F) → (⟨S16384x256, .f32⟩ : BufTy).Contents (Elt F)),
    nullary main_call4_cst (constant S_ .f32 0x00000000#32),
    unary main_call4_cst main_call4_v0 (broadcastInDim S16384x256 ![] bcast_S_S16384x256 : (⟨S_, .f32⟩ : BufTy).Contents (Elt F) → (⟨S16384x256, .f32⟩ : BufTy).Contents (Elt F)),
    binary main_v16 main_call4_v0 main_v17 (maximumf : (⟨S16384x256, .f32⟩ : BufTy).Contents (Elt F) → (⟨S16384x256, .f32⟩ : BufTy).Contents (Elt F) → (⟨S16384x256, .f32⟩ : BufTy).Contents (Elt F)),
    binary main_v17 main_arg6 main_v18 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg7 main_v19 (broadcastInDim S1x1 ![1] bcast_S1_S1x1_1 : (⟨S1, .f32⟩ : BufTy).Contents (Elt F) → (⟨S1x1, .f32⟩ : BufTy).Contents (Elt F)),
    unary main_v19 main_v20 (broadcastInDim S16384x1 ![0, 1] bcast_S1x1_S16384x1_0_1 : (⟨S1x1, .f32⟩ : BufTy).Contents (Elt F) → (⟨S16384x1, .f32⟩ : BufTy).Contents (Elt F)),
    binary main_v18 main_v20 main_v21 (addf : (⟨S16384x1, .f32⟩ : BufTy).Contents (Elt F) → (⟨S16384x1, .f32⟩ : BufTy).Contents (Elt F) → (⟨S16384x1, .f32⟩ : BufTy).Contents (Elt F)),
    reshape main_v21 main_v22 (rfl : (.f32 : EltTy) = .f32) shapeCasts_S16384x1_S16384,
    unary main_v22 main_v23 (Host.negf : (⟨S16384, .f32⟩ : BufTy).Contents (Elt F) → (⟨S16384, .f32⟩ : BufTy).Contents (Elt F)),
    unary main_v23 main_v24 (Host.exp : (⟨S16384, .f32⟩ : BufTy).Contents (Elt F) → (⟨S16384, .f32⟩ : BufTy).Contents (Elt F)),
    nullary main_cst_1 (constant S_ .f32 0x3F800000#32),
    unary main_cst_1 main_v25 (broadcastInDim S16384 ![] bcast_S_S16384 : (⟨S_, .f32⟩ : BufTy).Contents (Elt F) → (⟨S16384, .f32⟩ : BufTy).Contents (Elt F)),
    binary main_v25 main_v24 main_v26 (addf : (⟨S16384, .f32⟩ : BufTy).Contents (Elt F) → (⟨S16384, .f32⟩ : BufTy).Contents (Elt F) → (⟨S16384, .f32⟩ : BufTy).Contents (Elt F)),
    nullary main_cst_2 (constant S_ .f32 0x3F800000#32),
    unary main_cst_2 main_v27 (broadcastInDim S16384 ![] bcast_S_S16384 : (⟨S_, .f32⟩ : BufTy).Contents (Elt F) → (⟨S16384, .f32⟩ : BufTy).Contents (Elt F)),
    binary main_v27 main_v26 main_v28 (Host.divf : (⟨S16384, .f32⟩ : BufTy).Contents (Elt F) → (⟨S16384, .f32⟩ : BufTy).Contents (Elt F) → (⟨S16384, .f32⟩ : BufTy).Contents (Elt F)) ]

def ops : List (HloOp τ sig (Elt F)) := opsA ++ opsB

set_option maxHeartbeats 4000000 in
theorem main_eq (c : Dev nD) : IsSeq (main (F := F) c) ops := by
  unfold main fn_take.body fn_take_0.body fn_relu.body fn_relu_1.body ops opsA opsB
  simp only [Prog.bind_assoc, pure_bind, List.cons_append, List.nil_append]
  hlo_seq

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by simp [ops, opsA, opsB]

theorem no_sem : SemLoc sig → False
  | .reg s => Fin.elim0 s
  | .dma s => Fin.elim0 s

theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (b : DevRef τ sig)) ∧ r.2.sem = fun _ => 0 :=
  (θ_run defs _ _).mono (fun _ h => ⟨h, funext fun g => (no_sem g.2).elim⟩)
    (run_hlo defs main main_eq scopedRefs_eq scopedSems_eq ops_sub
      (by unfold ops opsA opsB; simp only [List.cons_append, List.nil_append]; intro _ h; (repeat (cases h with | head => rfl | tail _ h => ?_)); exact nomatch h) m ρ)

end Cert.Proof.Ref

end
-- ==== Proof.RefVal.lean ====
/-
  The reference's value, sample by sample.
-/
module

public import proofs.«01_k».proof.Proof.Ref
public import proofs.«01_k».proof.Proof.MTp
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen

variable (V : Valuation τ sig (Elt Ideal))

/-- A gather of each field's rows, at an index. -/
theorem gatherA_at (x : FVec Ideal S26x100000x16 .f32) (i : IVec S26x16384x1 32) (f : Fin 26) (b : Fin 16384) (e : Fin 16) (n : Fin 100000) (hn : i (ValueIdx.ix3 f b 0) = BitVec.ofNat 32 n.val) :
    Host.gather gather_S26x100000x16_S26x16384x1_S26x16384x16_2_1_0_0_1_2_1116 x i (ValueIdx.ix3 f b e) = x (ValueIdx.ix3 f n e) := by
  unfold Host.gather
  refine congrArg x (funext fun a => Fin.ext ?_)
  match a with
  | 0 => show 0 + f.val + 0 = f.val; omega
  | 1 =>
    have hs : gather_S26x100000x16_S26x16384x1_S26x16384x16_2_1_0_0_1_2_1116.siIdx (ValueIdx.ix3 f b e) ⟨0, by decide⟩ = ValueIdx.ix3 f b 0 := by
      funext c
      match c with
      | 0 => rfl
      | 1 => rfl
      | 2 => rfl
    have : n.val < 100000 := n.isLt
    show min (i (gather_S26x100000x16_S26x16384x1_S26x16384x16_2_1_0_0_1_2_1116.siIdx (ValueIdx.ix3 f b e) ⟨0, by decide⟩)).toInt.toNat (100000 - 1) + 0 + 0 = n.val
    rw [hs, hn, StableHlo.Predicate.toInt_ofNat_small _ (by omega)]
    omega
  | 2 => show 0 + 0 + e.val = e.val; omega

/-- A gather of fields, at an index. -/
theorem gatherB_at (x : FVec Ideal S16384x26x16 .f32) (i : IVec S325x1 32) (b : Fin 16384) (p : Fin 325) (e : Fin 16) (n : Fin 26) (hn : i (ValueIdx.ix2 p 0) = BitVec.ofNat 32 n.val) :
    Host.gather gather_S16384x26x16_S325x1_S16384x325x16_02_1_n_n_1_1_16384116 x i (ValueIdx.ix3 b p e) = x (ValueIdx.ix3 b n e) := by
  unfold Host.gather
  refine congrArg x (funext fun a => Fin.ext ?_)
  match a with
  | 0 => show 0 + 0 + b.val = b.val; omega
  | 1 =>
    have hs : gather_S16384x26x16_S325x1_S16384x325x16_02_1_n_n_1_1_16384116.siIdx (ValueIdx.ix3 b p e) ⟨0, by decide⟩ = ValueIdx.ix2 p 0 := by
      funext c
      match c with
      | 0 => rfl
      | 1 => rfl
    have : n.val < 26 := n.isLt
    show min (i (gather_S16384x26x16_S325x1_S16384x325x16_02_1_n_n_1_1_16384116.siIdx (ValueIdx.ix3 b p e) ⟨0, by decide⟩)).toInt.toNat (26 - 1) + 0 + 0 = n.val
    rw [hs, hn, StableHlo.Predicate.toInt_ofNat_small _ (by omega)]
    omega
  | 2 => show 0 + 0 + e.val = e.val; omega

/-- The operands, at the types the program gives them. -/
def aX : S16384x26.Idx → BitVec 32 := V (Proc.devRef .tc main_arg0)
def aT : S26x100000x16.Idx → EReal := V (Proc.devRef .tc main_arg1)
def aW0 : S741x512.Idx → EReal := V (Proc.devRef .tc main_arg2)
def aB0 : S512.Idx → EReal := V (Proc.devRef .tc main_arg3)
def aW1 : S512x256.Idx → EReal := V (Proc.devRef .tc main_arg4)
def aB1 : S256.Idx → EReal := V (Proc.devRef .tc main_arg5)
def aW2 : S256x1.Idx → EReal := V (Proc.devRef .tc main_arg6)
def aB2 : S1.Idx → EReal := V (Proc.devRef .tc main_arg7)

/-- The embedding of a sample's field. -/
def row (b : Fin 16384) (f : Fin 26) (e : Fin 16) : EReal := aT V (ValueIdx.ix3 f ⟨(aX V (ValueIdx.ix2 b f)).toNat % 100000, Nat.mod_lt _ (by decide)⟩ e)

/-- A pair's two fields. -/
def fieldL (p : Fin 325) : Fin 26 := ⟨(lit0 p).toNat % 26, Nat.mod_lt _ (by decide)⟩
def fieldR (p : Fin 325) : Fin 26 := ⟨(lit1 p).toNat % 26, Nat.mod_lt _ (by decide)⟩
theorem fieldL_word : ∀ p : Fin 325, lit0 p = BitVec.ofNat 32 (fieldL p).val := by decide +kernel
theorem fieldR_word : ∀ p : Fin 325, lit1 p = BitVec.ofNat 32 (fieldR p).val := by decide +kernel

variable (hin : ∀ b f, (aX V (ValueIdx.ix2 b f)).toNat < 100000)

include hin in
theorem emb_at (b : Fin 16384) (f : Fin 26) (e : Fin 16) :
    Host.gather gather_S26x100000x16_S26x16384x1_S26x16384x16_2_1_0_0_1_2_1116 (aT V)
      (broadcastInDim S26x16384x1 ![0, 1] bcast_S26x16384_S26x16384x1_0_1 (transpose S26x16384 [1, 0] (aX V) transposes_S16384x26_S26x16384_1_0)) (ValueIdx.ix3 f b e) = row V b f e := by
  refine gatherA_at _ _ f b e _ ?_
  have e0 : broadcastInDim S26x16384x1 ![0, 1] bcast_S26x16384_S26x16384x1_0_1 (transpose S26x16384 [1, 0] (aX V) transposes_S16384x26_S26x16384_1_0) (ValueIdx.ix3 f b 0) = aX V (ValueIdx.ix2 b f) := by
    pointwise
    exact congrArg _ (GatherIdeal.ix2c rfl rfl)
  rw [e0]
  show _ = BitVec.ofNat 32 ((aX V (ValueIdx.ix2 b f)).toNat % 100000)
  rw [Nat.mod_eq_of_lt (hin b f), BitVec.ofNat_toNat, BitVec.setWidth_eq]

theorem embT_at (g : FVec Ideal S26x16384x16 .f32) (b : Fin 16384) (f : Fin 26) (e : Fin 16) :
    transpose S16384x26x16 [1, 0, 2] g transposes_S26x16384x16_S16384x26x16_1_0_2 (ValueIdx.ix3 b f e) = g (ValueIdx.ix3 f b e) := by
  pointwise
  exact congrArg _ (GatherIdeal.ix3c rfl rfl rfl)

theorem word_at (w : Fin 325 → BitVec 32) (p : Fin 325) :
    broadcastInDim S325x1 ![0] bcast_S325_S325x1_0 (fun i => w (S325.rowMajor i)) (ValueIdx.ix2 p 0) = w p := by
  pointwise
  exact congrArg w (Fin.ext (Shape.rowMajor_val_one _))

set_option maxHeartbeats 2000000 in
theorem v28_at (b : Fin 16384) : (after (opsB (F := Ideal)) V (Proc.devRef .tc main_v28) : S16384.Idx → EReal) (ValueIdx.ix1 b)
    = Ideal.logistic (∑ u : Fin 256, max (∑ t : Fin 512, max (∑ s : Fin 741, (show S16384x741.Idx → EReal from V (Proc.devRef .tc main_v7)) (ValueIdx.ix2 b s) * aW0 V (ValueIdx.ix2 s t)
        + aB0 V (ValueIdx.ix1 t)) 0 * aW1 V (ValueIdx.ix2 t u) + aB1 V (ValueIdx.ix1 u)) 0
        * aW2 V (ValueIdx.ix2 u 0) + aB2 V (ValueIdx.ix1 0)) := by
  unfold opsB
  after_reads_at
  simp only [ix2_eq_valueIdx, ix1_eq_valueIdx]
  rfl

include hin in
set_option maxHeartbeats 1000000 in
theorem v7_low (b : Fin 16384) (s : Fin 416) : (after (opsA (F := Ideal)) V (Proc.devRef .tc main_v7) : S16384x741.Idx → EReal) (ValueIdx.ix2 b ⟨s.val, by omega⟩)
    = row V b ⟨s.val / 16, by omega⟩ ⟨s.val % 16, by omega⟩ := by
  unfold opsA
  after_reads_at
  have hs := s.isLt
  refine Eq.trans ?_ (emb_at V hin b ⟨s.val / 16, by omega⟩ ⟨s.val % 16, by omega⟩)
  exact congrArg _ (GatherIdeal.ix3c rfl rfl rfl)

include hin in
set_option maxHeartbeats 1000000 in
theorem v7_high (b : Fin 16384) (p : Fin 325) : (after (opsA (F := Ideal)) V (Proc.devRef .tc main_v7) : S16384x741.Idx → EReal) (ValueIdx.ix2 b ⟨416 + p.val, by omega⟩)
    = ∑ e : Fin 16, row V b (fieldL p) e * row V b (fieldR p) e := by
  unfold opsA
  after_reads_at
  refine Finset.sum_congr rfl fun e _ => ?_
  have hp : ix3 b p e = ValueIdx.ix3 b p e := GatherIdeal.ix3c rfl rfl rfl
  refine congrArg₂ (fun u v : EReal => u * v) ?_ ?_
  · refine (congrArg _ hp).trans ((gatherB_at _ _ b p e (fieldL p) ?_).trans ((embT_at _ b (fieldL p) e).trans (emb_at V hin b (fieldL p) e)))
    exact (word_at lit0 p).trans (fieldL_word p)
  · refine (congrArg _ hp).trans ((gatherB_at _ _ b p e (fieldR p) ?_).trans ((embT_at _ b (fieldR p) e).trans (emb_at V hin b (fieldR p) e)))
    exact (word_at lit1 p).trans (fieldR_word p)

theorem sum741 (g : Fin 741 → EReal) : ∑ s, g s = ∑ s : Fin 416, g ⟨s.val, by omega⟩ + ∑ p : Fin 325, g ⟨416 + p.val, by omega⟩ :=
  Fin.sum_univ_add (a := 416) (b := 325) g

theorem keepA (r : Ref sig .tc) (hr : r ∈ [main_arg0, main_arg1, main_arg2, main_arg3, main_arg4, main_arg5, main_arg6, main_arg7]) :
    after (opsA (F := Ideal)) V (Proc.devRef .tc r) = V (Proc.devRef .tc r) := by
  refine StableHlo.after_of_writes_sub (W := [main_c, main_c_0, main_call0_v0, main_call0_v1, main_v0, main_v1, main_v2, main_call1_v0, main_v3, main_call2_v0, main_v4, main_v5, main_cst, main_v6, main_v7]) _ _ (StableHlo.forall_writes_sub_of_map rfl) ?_
  revert r hr
  decide

include hin in
/-- The reference's result at a sample. -/
theorem ref_at (b : Fin 16384) : (after (ops (F := Ideal)) V (Proc.devRef .tc main_v28) : S16384.Idx → EReal) (ValueIdx.ix1 b)
    = Ideal.logistic (∑ u : Fin 256, max (∑ t : Fin 512, max (∑ s : Fin 416, row V b ⟨s.val / 16, by omega⟩ ⟨s.val % 16, by omega⟩ * aW0 V (ValueIdx.ix2 ⟨s.val, by omega⟩ t)
        + ∑ p : Fin 325, (∑ e : Fin 16, row V b (fieldL p) e * row V b (fieldR p) e) * aW0 V (ValueIdx.ix2 ⟨416 + p.val, by omega⟩ t)
        + aB0 V (ValueIdx.ix1 t)) 0 * aW1 V (ValueIdx.ix2 t u) + aB1 V (ValueIdx.ix1 u)) 0
        * aW2 V (ValueIdx.ix2 u 0) + aB2 V (ValueIdx.ix1 0)) := by
  unfold ops
  rw [StableHlo.after_append]
  refine (v28_at _ b).trans ?_
  have k0 : aW0 (after (opsA (F := Ideal)) V) = aW0 V := keepA V _ (by simp)
  have k1 : aB0 (after (opsA (F := Ideal)) V) = aB0 V := keepA V _ (by simp)
  have k2 : aW1 (after (opsA (F := Ideal)) V) = aW1 V := keepA V _ (by simp)
  have k3 : aB1 (after (opsA (F := Ideal)) V) = aB1 V := keepA V _ (by simp)
  have k4 : aW2 (after (opsA (F := Ideal)) V) = aW2 V := keepA V _ (by simp)
  have k5 : aB2 (after (opsA (F := Ideal)) V) = aB2 V := keepA V _ (by simp)
  rw [k0, k1, k2, k3, k4, k5]
  simp only [sum741]
  refine congrArg Ideal.logistic (congrArg₂ (fun u v : EReal => u + v) (Finset.sum_congr rfl fun u _ => ?_) rfl)
  refine congrArg (fun z : EReal => max (z + aB1 V (ValueIdx.ix1 u)) 0 * aW2 V (ValueIdx.ix2 u 0)) (Finset.sum_congr rfl fun t _ => ?_)
  refine congrArg (fun z : EReal => max (z + aB0 V (ValueIdx.ix1 t)) 0 * aW1 V (ValueIdx.ix2 t u)) (congrArg₂ (fun u v : EReal => u + v) (Finset.sum_congr rfl fun s _ => ?_) (Finset.sum_congr rfl fun p _ => ?_))
  · exact congrArg (fun z : EReal => z * aW0 V (ValueIdx.ix2 ⟨s.val, by omega⟩ t)) (v7_low V hin b s)
  · exact congrArg (fun z : EReal => z * aW0 V (ValueIdx.ix2 ⟨416 + p.val, by omega⟩ t)) (v7_high V hin b p)

end Cert.Proof.Ref

end
-- ==== Proof.MEq.lean ====
/-
  The kernel's and the reference's predictions are one number.
-/
module

public import proofs.«01_k».proof.Proof.MRes
public import proofs.«01_k».proof.Proof.RefVal

@[expose] public section

set_option maxRecDepth 16384

noncomputable section

namespace Cert.Proof.GatherIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem perm_left : ∀ p : Fin 325, (Ref.fieldL (perm p)).val = fieldOf p := by decide +kernel
theorem perm_right : ∀ p : Fin 325, (Ref.fieldR (perm p)).val = fieldOf p + gapOf p + 1 := by decide +kernel

/-- The kernel's order of the pairs is a rearrangement of the reference's. -/
theorem perm_bij : Function.Bijective perm := Finite.injective_iff_bijective.mp fun p q h => by
  have hl : fieldOf p = fieldOf q := by rw [← perm_left, ← perm_left, h]
  have hr : fieldOf p + gapOf p + 1 = fieldOf q + gapOf q + 1 := by rw [← perm_right, ← perm_right, h]
  have hg : gapOf p = gapOf q := by omega
  obtain ⟨-, -, hp⟩ := gapOf_spec p
  obtain ⟨-, -, hq⟩ := gapOf_spec q
  rw [hl, hg] at hp
  exact Fin.ext (hp.symm.trans hq)

theorem pairs_sum (row : Fin 26 → Fin 16 → EReal) (w : Fin 325 → EReal) :
    ∑ p : Fin 325, (∑ e : Fin 16, row ⟨fieldOf p, by have := gapOf_spec p; omega⟩ e * row ⟨fieldOf p + gapOf p + 1, by have := gapOf_spec p; omega⟩ e) * w (perm p)
      = ∑ p : Fin 325, (∑ e : Fin 16, row (Ref.fieldL p) e * row (Ref.fieldR p) e) * w p := by
  rw [← Function.Bijective.sum_comp perm_bij fun p => (∑ e : Fin 16, row (Ref.fieldL p) e * row (Ref.fieldR p) e) * w p]
  refine Finset.sum_congr rfl fun p _ => congrArg (fun z : EReal => z * w (perm p)) (Finset.sum_congr rfl fun e _ => ?_)
  exact congrArg₂ (fun a b : Fin 26 => row a e * row b e) (Fin.ext (perm_left p).symm) (Fin.ext (perm_right p).symm)

/-- From the same operands the two programs return the same predictions. -/
theorem out_eq_ref (m : (ℓ : Loc nD τ sig) → Buf (Elt Ideal) ℓ) (d : Dev nD) (hin : ∀ b f, cat m d b f < 100000) (V : Valuation Cert.ReferenceIdeal.τ Cert.ReferenceIdeal.sig (Elt Ideal))
    (h0 : Ref.aX V = W0 m d (Proc.devRef .tc main_arg0)) (h1 : Ref.aT V = W0 m d (Proc.devRef .tc main_arg1)) (h2 : Ref.aW0 V = aW0 m d) (h3 : Ref.aB0 V = aB0 m d) (h4 : Ref.aW1 V = aW1 m d)
    (h5 : Ref.aB1 V = aB1 m d) (h6 : Ref.aW2 V = aW2 m d) (h7 : Ref.aB2 V = aB2 m d) :
    (W19 m d (Proc.devRef .tc main_v47) : S16384.Idx → EReal) = StableHlo.after (Ref.ops (F := Ideal)) V (Proc.devRef .tc Cert.ReferenceIdeal.main_v28) := by
  suffices H : ∀ b : Fin 16384, (W19 m d (Proc.devRef .tc main_v47) : S16384.Idx → EReal) (ValueIdx.ix1 b)
      = (StableHlo.after (Ref.ops (F := Ideal)) V (Proc.devRef .tc Cert.ReferenceIdeal.main_v28) : S16384.Idx → EReal) (ValueIdx.ix1 b) by
    funext i
    have hi : i = ValueIdx.ix1 (i 0) := funext fun a => by match a with | 0 => rfl
    rw [hi]
    exact H (i 0)
  intro b
  have hinR : ∀ b f, (Ref.aX V (ValueIdx.ix2 b f)).toNat < 100000 := fun b f => by rw [h0]; exact hin b f
  have hrow : Ref.row V b = rowOf m d b := funext fun f => funext fun e => by
    unfold Ref.row rowOf
    have hv : (Ref.aX V (ValueIdx.ix2 b f)).toNat % 100000 = cat m d b f % 100000 := by rw [h0]; rfl
    rw [h1]
    exact congrArg (fun z : Fin 100000 => (W0 m d (Proc.devRef .tc main_arg1) : S26x100000x16.Idx → EReal) (ValueIdx.ix3 f z e)) (Fin.ext hv)
  refine (out_at m d hin b).trans (Eq.trans ?_ (Ref.ref_at V hinR b).symm)
  unfold predOf tailOf firstOf
  rw [h2, h3, h4, h5, h6, h7, hrow]
  refine congrArg Ideal.logistic (congrArg₂ (fun u v : EReal => u + v) (Finset.sum_congr rfl fun u _ => ?_) rfl)
  refine congrArg (fun z : EReal => max (z + aB1 m d (ValueIdx.ix1 u)) 0 * aW2 m d (ValueIdx.ix2 u 0)) (Finset.sum_congr rfl fun t _ => ?_)
  refine congrArg (fun z : EReal => max (z + aB0 m d (ValueIdx.ix1 t)) 0 * aW1 m d (ValueIdx.ix2 t u)) (congrArg₂ (fun u v : EReal => u + v) rfl ?_)
  exact pairs_sum (rowOf m d b) fun p => aW0 m d (ValueIdx.ix2 ⟨416 + p.val, by omega⟩ t)

end Cert.Proof.GatherIdeal

end
-- ==== Proof.RefKeep.lean ====
/-
  The reference leaves its arguments as they were.
-/
module

public import proofs.«01_k».proof.Proof.RefVal

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen

/-- The reference's arguments. -/
def argRefs : List (Ref sig .tc) := [main_arg0, main_arg1, main_arg2, main_arg3, main_arg4, main_arg5, main_arg6, main_arg7]

theorem keepB (V : Valuation τ sig (Elt Ideal)) (r : Ref sig .tc) (hr : r ∈ argRefs) :
    after (opsB (F := Ideal)) V (Proc.devRef .tc r) = V (Proc.devRef .tc r) := by
  refine StableHlo.after_of_writes_sub (W := [main_v8, main_v9, main_v10, main_v11, main_call3_cst, main_call3_v0, main_v12, main_v13, main_v14, main_v15, main_v16, main_call4_cst, main_call4_v0, main_v17, main_v18, main_v19, main_v20, main_v21, main_v22, main_v23, main_v24, main_cst_1, main_v25, main_v26, main_cst_2, main_v27, main_v28]) _ _ (StableHlo.forall_writes_sub_of_map rfl) ?_
  revert r hr
  decide

/-- Every fair run of the reference ends with the arguments unchanged, its predictions in the result and no counter left standing. -/
theorem run_kept (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, (∀ b ∈ argRefs, r.2.mem ((c.tc : Thread nD τ).loc b) = m ((c.tc : Thread nD τ).loc b))
        ∧ r.2.mem ((c.tc : Thread nD τ).loc main_v28) = after (ops (F := Ideal)) (launchContents m c) (Proc.devRef .tc main_v28)) ∧ r.2.sem = fun _ => 0 :=
  (θ_run defs _ _).mono (fun _ h => ⟨fun c => ⟨fun b hb => (h.1 c b).trans ((congrFun (after_append opsA opsB _) _).trans ((keepB _ b hb).trans (keepA _ b hb))),
    h.1 c main_v28⟩, h.2⟩) (run_main m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import Idealize.ShloMosaic.Adequacy
public import Idealize.ShloMosaic.Init
public import proofs.«01_k».proof.Proof.WFin
public import proofs.«01_k».proof.Proof.WFinI
public import proofs.«01_k».proof.Proof.MEq
public import proofs.«01_k».proof.Proof.RefKeep
public import proofs.«01_k».proof.Proof.All

@[expose] public section

noncomputable section

namespace Cert.Proof

open Idealize.ShloMosaic Idealize.SL.Sem Cert.Kernel

/-- A table entry's index is a row of its table, where the precondition holds. -/
theorem index_lt {F : FTy → Type} [FloatOps F] (x : IVec Cert.Kernel.S16384x26 32) (a1 : FVec F Cert.Kernel.S26x100000x16 .f32) (a2 : FVec F Cert.Kernel.S741x512 .f32) (a3 : FVec F Cert.Kernel.S512 .f32)
    (a4 : FVec F Cert.Kernel.S512x256 .f32) (a5 : FVec F Cert.Kernel.S256 .f32) (a6 : FVec F Cert.Kernel.S256x1 .f32) (a7 : FVec F Cert.Kernel.S1 .f32)
    (h : (haveI := Cert.Pre_in_range.Gen.facts; Cert.Pre_in_range.fn (F := F) x a1 a2 a3 a4 a5 a6 a7) = fun _ => 1#1) (j : Cert.Kernel.S16384x26.Idx) : (x j).toNat < 100000 := by
  have e := congrFun h default
  unfold Cert.Pre_in_range.fn at e
  exact lt_of_bounds (by decide) (x j) (all_one _ _ _ _ _ e j)

/-- What holds of every argument holds of the eight, one after another. -/
theorem eight {α : Type} {P : α → Prop} {a0 a1 a2 a3 a4 a5 a6 a7 : α} (h : ∀ b ∈ [a0, a1, a2, a3, a4, a5, a6, a7], P b) :
    P a0 ∧ P a1 ∧ P a2 ∧ P a3 ∧ P a4 ∧ P a5 ∧ P a6 ∧ P a7 := by
  simpa only [List.forall_mem_cons, List.not_mem_nil, false_implies, implies_true, and_true] using h

theorem claim : Cert.Claim := ⟨Cert.Kernel.Gen.facts, Cert.KernelIdeal.Gen.facts, Cert.ReferenceIdeal.Gen.facts, Cert.Pre_in_range.Gen.facts, by
  refine ⟨fun m g h => ?_, fun m g h => ?_, fun m g _ => ?_, fun m g _ => ?_, trivial, fun m g m' g' h e => ?_⟩
  · exact (θ_run _ _ _).mono (fun _ h => ⟨fun c => eight (h.1 c).1, h.2⟩) (Gather.run_kept m g fun c b f => index_lt _ _ _ _ _ _ _ _ (h c) _)
  · exact (θ_run _ _ _).mono (fun _ h => ⟨fun c => eight (h.1 c).1, h.2⟩) (GatherIdeal.run_kept m g fun c b f => index_lt _ _ _ _ _ _ _ _ (h c) _)
  · exact (θ_run _ _ _).mono (fun _ h => ⟨fun c => eight (h.1 c).1, h.2⟩) (Ref.run_kept m g)
  · exact (θ_run _ _ _).mono (fun _ h => ⟨fun c => eight (h.1 c).1, h.2⟩) (Ref.run_kept m g)
  · have hin : ∀ d b f, GatherIdeal.cat m d b f < 100000 := fun c b f => index_lt _ _ _ _ _ _ _ _ (h c) _
    refine ⟨fun c => GatherIdeal.W19 m c (Proc.devRef .tc Cert.KernelIdeal.main_v47), ?_, ?_⟩
    · exact (θ_run _ _ _).mono (fun _ h c => ⟨(h.1 c).2, eight (h.1 c).1⟩) (GatherIdeal.run_kept m g hin)
    · refine (θ_run _ _ _).mono (fun _ hr c => ⟨(hr.1 c).2.trans (GatherIdeal.out_eq_ref m c (hin c) _ ?_ ?_ ?_ ?_ ?_ ?_ ?_ ?_).symm, eight (hr.1 c).1⟩) (Ref.run_kept m' g')
      · exact (e c).1
      · exact (e c).2.1
      · exact (e c).2.2.1
      · exact (e c).2.2.2.1
      · exact (e c).2.2.2.2.1
      · exact (e c).2.2.2.2.2.1
      · exact (e c).2.2.2.2.2.2.1
      · exact (e c).2.2.2.2.2.2.2⟩

end Cert.Proof

end
